-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5)) (m ((c.tc : Thread Cert.Reference1Ideal.nD Cert.Reference1Ideal.τ).loc Cert.Reference1Ideal.main_arg6))) = (fun _ => 1#1)

def Pre_KernelAtZero (m : (ℓ : Loc Cert.KernelAtZero.nD Cert.KernelAtZero.τ Cert.KernelAtZero.sig) → Buf (Elt Bits) ℓ) : Prop :=
  True

def Pre_KernelAtZeroIdeal (m : (ℓ : Loc Cert.KernelAtZeroIdeal.nD Cert.KernelAtZeroIdeal.τ Cert.KernelAtZeroIdeal.sig) → Buf (Elt Ideal) ℓ) : Prop :=
  True

def Pre_ReferenceAtZeroIdeal (m : (ℓ : Loc Cert.ReferenceAtZeroIdeal.nD Cert.ReferenceAtZeroIdeal.τ Cert.ReferenceAtZeroIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6))
      ∧ r.2.sem = fun _ => 0)

def quiescent_KernelAtZero [hKernelAtZero : Cert.KernelAtZero.Facts] : Prop :=
  ∀ (m : (ℓ : Loc Cert.KernelAtZero.nD Cert.KernelAtZero.τ Cert.KernelAtZero.sig) → Buf (Elt Bits) ℓ) (g : Dev Cert.KernelAtZero.nD → PrngReg), Pre_KernelAtZero m →
    θ_run (Cert.KernelAtZero.defs (F := Bits)) (onTc (τ := Cert.KernelAtZero.τ) (Cert.KernelAtZero.main (F := Bits))) ⟨m, fun _ => 0, g⟩ (fun r => (∀ c : Dev Cert.KernelAtZero.nD,
      r.2.mem ((c.tc : Thread Cert.KernelAtZero.nD Cert.KernelAtZero.τ).loc Cert.KernelAtZero.main_arg0) = m ((c.tc : Thread Cert.KernelAtZero.nD Cert.KernelAtZero.τ).loc Cert.KernelAtZero.main_arg0))
      ∧ r.2.sem = fun _ => 0)

def quiescent_KernelAtZeroIdeal [hKernelAtZeroIdeal : Cert.KernelAtZeroIdeal.Facts] : Prop :=
  ∀ (m : (ℓ : Loc Cert.KernelAtZeroIdeal.nD Cert.KernelAtZeroIdeal.τ Cert.KernelAtZeroIdeal.sig) → Buf (Elt Ideal) ℓ) (g : Dev Cert.KernelAtZeroIdeal.nD → PrngReg), Pre_KernelAtZeroIdeal m →
    θ_run (Cert.KernelAtZeroIdeal.defs (F := Ideal)) (onTc (τ := Cert.KernelAtZeroIdeal.τ) (Cert.KernelAtZeroIdeal.main (F := Ideal))) ⟨m, fun _ => 0, g⟩ (fun r => (∀ c : Dev Cert.KernelAtZeroIdeal.nD,
      r.2.mem ((c.tc : Thread Cert.KernelAtZeroIdeal.nD Cert.KernelAtZeroIdeal.τ).loc Cert.KernelAtZeroIdeal.main_arg0) = m ((c.tc : Thread Cert.KernelAtZeroIdeal.nD Cert.KernelAtZeroIdeal.τ).loc Cert.KernelAtZeroIdeal.main_arg0))
      ∧ r.2.sem = fun _ => 0)

def quiescent_ReferenceAtZeroIdeal [hReferenceAtZeroIdeal : Cert.ReferenceAtZeroIdeal.Facts] : Prop :=
  ∀ (m : (ℓ : Loc Cert.ReferenceAtZeroIdeal.nD Cert.ReferenceAtZeroIdeal.τ Cert.ReferenceAtZeroIdeal.sig) → Buf (Elt Ideal) ℓ) (g : Dev Cert.ReferenceAtZeroIdeal.nD → PrngReg), Pre_ReferenceAtZeroIdeal m →
    θ_run (Cert.ReferenceAtZeroIdeal.defs (F := Ideal)) (onTc (τ := Cert.ReferenceAtZeroIdeal.τ) (Cert.ReferenceAtZeroIdeal.main (F := Ideal))) ⟨m, fun _ => 0, g⟩ (fun r => (∀ c : Dev Cert.ReferenceAtZeroIdeal.nD,
      r.2.mem ((c.tc : Thread Cert.ReferenceAtZeroIdeal.nD Cert.ReferenceAtZeroIdeal.τ).loc Cert.ReferenceAtZeroIdeal.main_arg0) = m ((c.tc : Thread Cert.ReferenceAtZeroIdeal.nD Cert.ReferenceAtZeroIdeal.τ).loc Cert.ReferenceAtZeroIdeal.main_arg0))
      ∧ r.2.sem = fun _ => 0)

def preserves_Kernel_KernelIdeal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel1_Kernel1Ideal : Prop :=
  True

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)) →
    ∃ (v0 : (c : Dev Cert.Kernel1Ideal.nD) → Buf (Elt Ideal) ((c.tc : Thread Cert.Kernel1Ideal.nD Cert.Kernel1Ideal.τ).loc Cert.Kernel1Ideal.main_v15)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v15) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v80) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6))

def preserves_KernelAtZero_KernelAtZeroIdeal : Prop :=
  True

def disproves_algebraic_KernelAtZeroIdeal_ReferenceAtZeroIdeal [hKernelAtZeroIdeal : Cert.KernelAtZeroIdeal.Facts] [hReferenceAtZeroIdeal : Cert.ReferenceAtZeroIdeal.Facts] : Prop :=
  ∀ (m : (ℓ : Loc Cert.KernelAtZeroIdeal.nD Cert.KernelAtZeroIdeal.τ Cert.KernelAtZeroIdeal.sig) → Buf (Elt Ideal) ℓ) (g : Dev Cert.KernelAtZeroIdeal.nD → PrngReg)
    (m' : (ℓ : Loc Cert.ReferenceAtZeroIdeal.nD Cert.ReferenceAtZeroIdeal.τ Cert.ReferenceAtZeroIdeal.sig) → Buf (Elt Ideal) ℓ) (g' : Dev Cert.ReferenceAtZeroIdeal.nD → PrngReg),
    (∀ c : Dev Cert.KernelAtZeroIdeal.nD,
      m ((c.tc : Thread Cert.KernelAtZeroIdeal.nD Cert.KernelAtZeroIdeal.τ).loc Cert.KernelAtZeroIdeal.main_arg0) = Cert.Cx_KernelAtZeroIdeal.arg0 (F := Ideal)) →
    (∀ c : Dev Cert.KernelAtZeroIdeal.nD,
      m' ((c.tc : Thread Cert.ReferenceAtZeroIdeal.nD Cert.ReferenceAtZeroIdeal.τ).loc Cert.ReferenceAtZeroIdeal.main_arg0) = m ((c.tc : Thread Cert.KernelAtZeroIdeal.nD Cert.KernelAtZeroIdeal.τ).loc Cert.KernelAtZeroIdeal.main_arg0)) →
    Pre_KernelAtZeroIdeal m
    ∧ ∃ (v0 : (c : Dev Cert.KernelAtZeroIdeal.nD) → Buf (Elt Ideal) ((c.tc : Thread Cert.KernelAtZeroIdeal.nD Cert.KernelAtZeroIdeal.τ).loc Cert.KernelAtZeroIdeal.main_v50)),
      θ_run (Cert.KernelAtZeroIdeal.defs (F := Ideal)) (onTc (τ := Cert.KernelAtZeroIdeal.τ) (Cert.KernelAtZeroIdeal.main (F := Ideal))) ⟨m, fun _ => 0, g⟩ (fun r => ¬ (∀ c : Dev Cert.KernelAtZeroIdeal.nD,
          r.2.mem ((c.tc : Thread Cert.KernelAtZeroIdeal.nD Cert.KernelAtZeroIdeal.τ).loc Cert.KernelAtZeroIdeal.main_v50) = v0 c))
      ∧ θ_run (Cert.ReferenceAtZeroIdeal.defs (F := Ideal)) (onTc (τ := Cert.ReferenceAtZeroIdeal.τ) (Cert.ReferenceAtZeroIdeal.main (F := Ideal))) ⟨m', fun _ => 0, g'⟩ (fun r => ∀ c : Dev Cert.ReferenceAtZeroIdeal.nD,
          r.2.mem ((c.tc : Thread Cert.ReferenceAtZeroIdeal.nD Cert.ReferenceAtZeroIdeal.τ).loc Cert.ReferenceAtZeroIdeal.main_v191) = v0 c)

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernelAtZero : Cert.KernelAtZero.Facts) (hKernelAtZeroIdeal : Cert.KernelAtZeroIdeal.Facts) (hReferenceAtZeroIdeal : Cert.ReferenceAtZeroIdeal.Facts) (hPre_finite2 : Cert.Pre_finite2.Facts) (hPre_finite1 : Cert.Pre_finite1.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_KernelAtZero (hKernelAtZero := hKernelAtZero)
    ∧ quiescent_KernelAtZeroIdeal (hKernelAtZeroIdeal := hKernelAtZeroIdeal)
    ∧ quiescent_ReferenceAtZeroIdeal (hReferenceAtZeroIdeal := hReferenceAtZeroIdeal)
    ∧ preserves_Kernel_KernelIdeal
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_KernelAtZero_KernelAtZeroIdeal
    ∧ disproves_algebraic_KernelAtZeroIdeal_ReferenceAtZeroIdeal (hKernelAtZeroIdeal := hKernelAtZeroIdeal) (hReferenceAtZeroIdeal := hReferenceAtZeroIdeal)
-- ==== Cx_KernelAtZeroIdeal.lean ====
noncomputable def arg0_words : Fin 10 → BitVec 32 :=
  ![0xBF800000#32, 0xBF800000#32, 0xBF800000#32, 0xBF800000#32, 0xBF800000#32, 0xBF800000#32, 0xBF800000#32, 0xBF800000#32,
    0xBF800000#32, 0xBF800000#32]
noncomputable def arg0 {F : FTy → Type} [FloatOps F] : FVec F (⟨1, ![10]⟩ : Shape) .f32 := fun i => FloatOps.ofBits .f32 (arg0_words (i 0))
-- ==== Pre_finite1.lean ====
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S_ : Shape := ⟨0, ![]⟩

class Facts : Prop where
  bcast_S_S32x3x32x32 : S_.BroadcastsInDim S32x3x32x32 (![] : Fin 0 → Fin S32x3x32x32.rank)

variable [Facts]

def fn {F : FTy → Type} [FloatOps F] (main_arg0 : FVec F S32x3x32x32 .f32) (main_arg1 : FVec F S16x12x3x3 .f32) (main_arg2 : FVec F S16 .f32) (main_arg3 : FVec F S108x16 .f32) (main_arg4 : FVec F S16 .f32) (main_arg5 : FVec F S64x32x1x1 .f32) (main_arg6 : FVec F S64 .f32) : IVec S32x3x32x32 1 :=
  let main_v0 : FVec F S32x3x32x32 .f32 := Host.absf main_arg0
  let main_cst : FVec F S_ .f32 := constant S_ .f32 0x7F800000#32
  let main_v1 : FVec F S32x3x32x32 .f32 := broadcastInDim S32x3x32x32 ![] bcast_S_S32x3x32x32 main_cst
  let main_v2 : IVec S32x3x32x32 1 := cmpf .olt main_v0 main_v1
  main_v2
-- ==== Pre_finite2.lean ====
abbrev S64x8192 : Shape := ⟨2, ![64, 8192]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S_ : Shape := ⟨0, ![]⟩

class Facts : Prop where
  bcast_S_S64x8192 : S_.BroadcastsInDim S64x8192 (![] : Fin 0 → Fin S64x8192.rank)

variable [Facts]

def fn {F : FTy → Type} [FloatOps F] (main_arg0 : FVec F S64x8192 .f32) (main_arg1 : FVec F S32x64x3x3 .f32) (main_arg2 : FVec F S32 .f32) (main_arg3 : FVec F S576x32 .f32) (main_arg4 : FVec F S32 .f32) (main_arg5 : FVec F S128x64x1x1 .f32) (main_arg6 : FVec F S128 .f32) : IVec S64x8192 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  main_v2
-- ==== Kernel.lean ====
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S1024x32768 : Shape := ⟨2, ![1024, 32768]⟩
abbrev S1024 : Shape := ⟨1, ![1024]⟩
abbrev S10x1024 : Shape := ⟨2, ![10, 1024]⟩
abbrev S10 : Shape := ⟨1, ![10]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S32x12x256 : Shape := ⟨3, ![32, 12, 256]⟩
abbrev S12x32x256 : Shape := ⟨3, ![12, 32, 256]⟩
abbrev S12x8192 : Shape := ⟨2, ![12, 8192]⟩
abbrev S16x3x3x12 : Shape := ⟨4, ![16, 3, 3, 12]⟩
abbrev S16x108 : Shape := ⟨2, ![16, 108]⟩
abbrev S64x32 : Shape := ⟨2, ![64, 32]⟩
abbrev S12x1024 : Shape := ⟨2, ![12, 1024]⟩
abbrev S1024x12 : Shape := ⟨2, ![1024, 12]⟩
abbrev S16x1 : Shape := ⟨2, ![16, 1]⟩
abbrev S64x1 : Shape := ⟨2, ![64, 1]⟩
abbrev S64x8192 : Shape := ⟨2, ![64, 8192]⟩
abbrev S12x2048 : Shape := ⟨2, ![12, 2048]⟩
abbrev S256x12 : Shape := ⟨2, ![256, 12]⟩
abbrev S12x256 : Shape := ⟨2, ![12, 256]⟩
abbrev S64x2048 : Shape := ⟨2, ![64, 2048]⟩
abbrev S1x2048 : Shape := ⟨2, ![1, 2048]⟩
abbrev S16x2048 : Shape := ⟨2, ![16, 2048]⟩
abbrev S16x12 : Shape := ⟨2, ![16, 12]⟩
abbrev S2048 : Shape := ⟨1, ![2048]⟩
abbrev S32x12 : Shape := ⟨2, ![32, 12]⟩
abbrev S32x1 : Shape := ⟨2, ![32, 1]⟩
abbrev S32x256 : Shape := ⟨2, ![32, 256]⟩
abbrev S1x256 : Shape := ⟨2, ![1, 256]⟩
abbrev S32x2048 : Shape := ⟨2, ![32, 2048]⟩
abbrev S16x256 : Shape := ⟨2, ![16, 256]⟩
abbrev S16x32 : Shape := ⟨2, ![16, 32]⟩
abbrev S16x288 : Shape := ⟨2, ![16, 288]⟩
abbrev S288x256 : Shape := ⟨2, ![288, 256]⟩
abbrev S32x3x3x64 : Shape := ⟨4, ![32, 3, 3, 64]⟩
abbrev S32x576 : Shape := ⟨2, ![32, 576]⟩
abbrev S128x64 : Shape := ⟨2, ![128, 64]⟩
abbrev S64x1024 : Shape := ⟨2, ![64, 1024]⟩
abbrev S1024x64 : Shape := ⟨2, ![1024, 64]⟩
abbrev S128x1 : Shape := ⟨2, ![128, 1]⟩
abbrev S128x8192 : Shape := ⟨2, ![128, 8192]⟩
abbrev S256x64 : Shape := ⟨2, ![256, 64]⟩
abbrev S64x256 : Shape := ⟨2, ![64, 256]⟩
abbrev S128x2048 : Shape := ⟨2, ![128, 2048]⟩
abbrev S32x64 : Shape := ⟨2, ![32, 64]⟩
abbrev S32x32 : Shape := ⟨2, ![32, 32]⟩
abbrev S32x288 : Shape := ⟨2, ![32, 288]⟩
abbrev S128x32x256 : Shape := ⟨3, ![128, 32, 256]⟩
abbrev S32x128x256 : Shape := ⟨3, ![32, 128, 256]⟩
abbrev S32x128x16x16 : Shape := ⟨4, ![32, 128, 16, 16]⟩
abbrev S32x32x2x2x16x16 : Shape := ⟨6, ![32, 32, 2, 2, 16, 16]⟩
abbrev S32x32x16x2x16x2 : Shape := ⟨6, ![32, 32, 16, 2, 16, 2]⟩
abbrev S32x32x32x32 : Shape := ⟨4, ![32, 32, 32, 32]⟩
abbrev S32x32768 : Shape := ⟨2, ![32, 32768]⟩
abbrev S10x32 : Shape := ⟨2, ![10, 32]⟩
abbrev S32x10 : Shape := ⟨2, ![32, 10]⟩

abbrev nBuf : Space → Nat
  | .hbm => 52
  | .vmem => 28
  | .smem => 0
  | _ => 0

abbrev bufTy : (tb : Table) → Fin (tcTables nBuf tb) → BufTy
  | .hbm, ⟨0, _⟩ => ⟨S32x3x32x32, .f32⟩
  | .hbm, ⟨1, _⟩ => ⟨S16x12x3x3, .f32⟩
  | .hbm, ⟨2, _⟩ => ⟨S16, .f32⟩
  | .hbm, ⟨3, _⟩ => ⟨S108x16, .f32⟩
  | .hbm, ⟨4, _⟩ => ⟨S16, .f32⟩
  | .hbm, ⟨5, _⟩ => ⟨S64x32x1x1, .f32⟩
  | .hbm, ⟨6, _⟩ => ⟨S64, .f32⟩
  | .hbm, ⟨7, _⟩ => ⟨S32x64x3x3, .f32⟩
  | .hbm, ⟨8, _⟩ => ⟨S32, .f32⟩
  | .hbm, ⟨9, _⟩ => ⟨S576x32, .f32⟩
  | .hbm, ⟨10, _⟩ => ⟨S32, .f32⟩
  | .hbm, ⟨11, _⟩ => ⟨S128x64x1x1, .f32⟩
  | .hbm, ⟨12, _⟩ => ⟨S128, .f32⟩
  | .hbm, ⟨13, _⟩ => ⟨S1024x32768, .f32⟩
  | .hbm, ⟨14, _⟩ => ⟨S1024, .f32⟩
  | .hbm, ⟨15, _⟩ => ⟨S10x1024, .f32⟩
  | .hbm, ⟨16, _⟩ => ⟨S10, .f32⟩
  | .hbm, ⟨17, _⟩ => ⟨S32x3x16x2x16x2, .f32⟩
  | .hbm, ⟨18, _⟩ => ⟨S32x3x2x2x16x16, .f32⟩
  | .hbm, ⟨19, _⟩ => ⟨S32x12x16x16, .f32⟩
  | .hbm, ⟨20, _⟩ => ⟨S32x12x256, .f32⟩
  | .hbm, ⟨21, _⟩ => ⟨S12x32x256, .f32⟩
  | .hbm, ⟨22, _⟩ => ⟨S12x8192, .f32⟩
  | .hbm, ⟨23, _⟩ => ⟨S16x3x3x12, .f32⟩
  | .hbm, ⟨24, _⟩ => ⟨S16x108, .f32⟩
  | .hbm, ⟨25, _⟩ => ⟨S16x108, .f32⟩
  | .hbm, ⟨26, _⟩ => ⟨S64x32, .f32⟩
  | .hbm, ⟨27, _⟩ => ⟨S12x1024, .f32⟩
  | .hbm, ⟨28, _⟩ => ⟨S1024x12, .f32⟩
  | .hbm, ⟨29, _⟩ => ⟨S16x1, .f32⟩
  | .hbm, ⟨30, _⟩ => ⟨S16x1, .f32⟩
  | .hbm, ⟨31, _⟩ => ⟨S64x1, .f32⟩
  | .hbm, ⟨32, _⟩ => ⟨S64x8192, .f32⟩
  | .hbm, ⟨33, _⟩ => ⟨S32x3x3x64, .f32⟩
  | .hbm, ⟨34, _⟩ => ⟨S32x576, .f32⟩
  | .hbm, ⟨35, _⟩ => ⟨S32x576, .f32⟩
  | .hbm, ⟨36, _⟩ => ⟨S128x64, .f32⟩
  | .hbm, ⟨37, _⟩ => ⟨S64x1024, .f32⟩
  | .hbm, ⟨38, _⟩ => ⟨S1024x64, .f32⟩
  | .hbm, ⟨39, _⟩ => ⟨S32x1, .f32⟩
  | .hbm, ⟨40, _⟩ => ⟨S32x1, .f32⟩
  | .hbm, ⟨41, _⟩ => ⟨S128x1, .f32⟩
  | .hbm, ⟨42, _⟩ => ⟨S128x8192, .f32⟩
  | .hbm, ⟨43, _⟩ => ⟨S128x32x256, .f32⟩
  | .hbm, ⟨44, _⟩ => ⟨S32x128x256, .f32⟩
  | .hbm, ⟨45, _⟩ => ⟨S32x128x16x16, .f32⟩
  | .hbm, ⟨46, _⟩ => ⟨S32x32x2x2x16x16, .f32⟩
  | .hbm, ⟨47, _⟩ => ⟨S32x32x16x2x16x2, .f32⟩
  | .hbm, ⟨48, _⟩ => ⟨S32x32x32x32, .f32⟩
  | .hbm, ⟨49, _⟩ => ⟨S32x32768, .f32⟩
  | .hbm, ⟨50, _⟩ => ⟨S10x32, .f32⟩
  | .hbm, ⟨51, _⟩ => ⟨S32x10, .f32⟩
  | .local _ .vmem, ⟨0, _⟩ => ⟨S12x2048, .f32⟩
  | .local _ .vmem, ⟨1, _⟩ => ⟨S12x2048, .f32⟩
  | .local _ .vmem, ⟨2, _⟩ => ⟨S256x12, .f32⟩
  | .local _ .vmem, ⟨3, _⟩ => ⟨S256x12, .f32⟩
  | .local _ .vmem, ⟨4, _⟩ => ⟨S12x256, .f32⟩
  | .local _ .vmem, ⟨5, _⟩ => ⟨S12x256, .f32⟩
  | .local _ .vmem, ⟨6, _⟩ => ⟨S16x108, .f32⟩
  | .local _ .vmem, ⟨7, _⟩ => ⟨S16x1, .f32⟩
  | .local _ .vmem, ⟨8, _⟩ => ⟨S16x108, .f32⟩
  | .local _ .vmem, ⟨9, _⟩ => ⟨S16x1, .f32⟩
  | .local _ .vmem, ⟨10, _⟩ => ⟨S64x32, .f32⟩
  | .local _ .vmem, ⟨11, _⟩ => ⟨S64x1, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S256x64, .f32⟩
  | .local _ .vmem, ⟨17, _⟩ => ⟨S256x64, .f32⟩
  | .local _ .vmem, ⟨18, _⟩ => ⟨S64x256, .f32⟩
  | .local _ .vmem, ⟨19, _⟩ => ⟨S64x256, .f32⟩
  | .local _ .vmem, ⟨20, _⟩ => ⟨S32x576, .f32⟩
  | .local _ .vmem, ⟨21, _⟩ => ⟨S32x1, .f32⟩
  | .local _ .vmem, ⟨22, _⟩ => ⟨S32x576, .f32⟩
  | .local _ .vmem, ⟨23, _⟩ => ⟨S32x1, .f32⟩
  | .local _ .vmem, ⟨24, _⟩ => ⟨S128x64, .f32⟩
  | .local _ .vmem, ⟨25, _⟩ => ⟨S128x1, .f32⟩
  | .local _ .vmem, ⟨26, _⟩ => ⟨S128x2048, .f32⟩
  | .local _ .vmem, ⟨27, _⟩ => ⟨S128x2048, .f32⟩
  | _, _ => ⟨S32x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x108 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S1024x32768 : Shape := ⟨2, ![1024, 32768]⟩
abbrev S1024 : Shape := ⟨1, ![1024]⟩
abbrev S10x1024 : Shape := ⟨2, ![10, 1024]⟩
abbrev S10 : Shape := ⟨1, ![10]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S_ : Shape := ⟨0, ![]⟩
abbrev S32x12x18x18 : Shape := ⟨4, ![32, 12, 18, 18]⟩
abbrev S32x18x18x16x3x3 : Shape := ⟨6, ![32, 18, 18, 16, 3, 3]⟩
abbrev S32x16x16x16x1x1 : Shape := ⟨6, ![32, 16, 16, 16, 1, 1]⟩
abbrev S32x16x16x16 : Shape := ⟨4, ![32, 16, 16, 16]⟩
abbrev S1x16x1x1 : Shape := ⟨4, ![1, 16, 1, 1]⟩
abbrev S32x12x256 : Shape := ⟨3, ![32, 12, 256]⟩
abbrev S32x256x12 : Shape := ⟨3, ![32, 256, 12]⟩
abbrev S32x32x12 : Shape := ⟨3, ![32, 32, 12]⟩
abbrev S32x256 : Shape := ⟨2, ![32, 256]⟩
abbrev S32x256x1 : Shape := ⟨3, ![32, 256, 1]⟩
abbrev S32x32 : Shape := ⟨2, ![32, 32]⟩
abbrev S32x1x32 : Shape := ⟨3, ![32, 1, 32]⟩
abbrev S32x256x32 : Shape := ⟨3, ![32, 256, 32]⟩
abbrev S32x256x9 : Shape := ⟨3, ![32, 256, 9]⟩
abbrev S32x256x9x1 : Shape := ⟨4, ![32, 256, 9, 1]⟩
abbrev S32x256x9x12 : Shape := ⟨4, ![32, 256, 9, 12]⟩
abbrev S32x256x108 : Shape := ⟨3, ![32, 256, 108]⟩
abbrev S32x256x16 : Shape := ⟨3, ![32, 256, 16]⟩
abbrev S1x1x16 : Shape := ⟨3, ![1, 1, 16]⟩
abbrev S32x16x256 : Shape := ⟨3, ![32, 16, 256]⟩
abbrev S32x32x16x16 : Shape := ⟨4, ![32, 32, 16, 16]⟩
abbrev S64x32 : Shape := ⟨2, ![64, 32]⟩
abbrev S32x16x16x64 : Shape := ⟨4, ![32, 16, 16, 64]⟩
abbrev S32x64x16x16 : Shape := ⟨4, ![32, 64, 16, 16]⟩
abbrev S1x64x1x1 : Shape := ⟨4, ![1, 64, 1, 1]⟩
abbrev S32x16x2x2x16x16 : Shape := ⟨6, ![32, 16, 2, 2, 16, 16]⟩
abbrev S32x16x16x2x16x2 : Shape := ⟨6, ![32, 16, 16, 2, 16, 2]⟩
abbrev S32x16x32x32 : Shape := ⟨4, ![32, 16, 32, 32]⟩
abbrev S32x64x18x18 : Shape := ⟨4, ![32, 64, 18, 18]⟩
abbrev S32x18x18x32x3x3 : Shape := ⟨6, ![32, 18, 18, 32, 3, 3]⟩
abbrev S32x16x16x32x1x1 : Shape := ⟨6, ![32, 16, 16, 32, 1, 1]⟩
abbrev S32x16x16x32 : Shape := ⟨4, ![32, 16, 16, 32]⟩
abbrev S1x32x1x1 : Shape := ⟨4, ![1, 32, 1, 1]⟩
abbrev S32x64x256 : Shape := ⟨3, ![32, 64, 256]⟩
abbrev S32x256x64 : Shape := ⟨3, ![32, 256, 64]⟩
abbrev S32x32x64 : Shape := ⟨3, ![32, 32, 64]⟩
abbrev S32x256x9x64 : Shape := ⟨4, ![32, 256, 9, 64]⟩
abbrev S32x256x576 : Shape := ⟨3, ![32, 256, 576]⟩
abbrev S1x1x32 : Shape := ⟨3, ![1, 1, 32]⟩
abbrev S32x32x256 : Shape := ⟨3, ![32, 32, 256]⟩
abbrev S128x64 : Shape := ⟨2, ![128, 64]⟩
abbrev S32x16x16x128 : Shape := ⟨4, ![32, 16, 16, 128]⟩
abbrev S32x128x16x16 : Shape := ⟨4, ![32, 128, 16, 16]⟩
abbrev S1x128x1x1 : Shape := ⟨4, ![1, 128, 1, 1]⟩
abbrev S32x32x2x2x16x16 : Shape := ⟨6, ![32, 32, 2, 2, 16, 16]⟩
abbrev S32x32x16x2x16x2 : Shape := ⟨6, ![32, 32, 16, 2, 16, 2]⟩
abbrev S32x32x32x32 : Shape := ⟨4, ![32, 32, 32, 32]⟩
abbrev S32x32768 : Shape := ⟨2, ![32, 32768]⟩
abbrev S32768x1024 : Shape := ⟨2, ![32768, 1024]⟩
abbrev S32x1024 : Shape := ⟨2, ![32, 1024]⟩
abbrev S1x1024 : Shape := ⟨2, ![1, 1024]⟩
abbrev S1024x10 : Shape := ⟨2, ![1024, 10]⟩
abbrev S32x10 : Shape := ⟨2, ![32, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S32x3x32x32, .f32⟩
  | 1 => ⟨S16x12x3x3, .f32⟩
  | 2 => ⟨S16, .f32⟩
  | 3 => ⟨S108x16, .f32⟩
  | 4 => ⟨S16, .f32⟩
  | 5 => ⟨S64x32x1x1, .f32⟩
  | 6 => ⟨S64, .f32⟩
  | 7 => ⟨S32x64x3x3, .f32⟩
  | 8 => ⟨S32, .f32⟩
  | 9 => ⟨S576x32, .f32⟩
  | 10 => ⟨S32, .f32⟩
  | 11 => ⟨S128x64x1x1, .f32⟩
  | 12 => ⟨S128, .f32⟩
  | 13 => ⟨S1024x32768, .f32⟩
  | 14 => ⟨S1024, .f32⟩
  | 15 => ⟨S10x1024, .f32⟩
  | 16 => ⟨S10, .f32⟩
  | 17 => ⟨S32x3x16x2x16x2, .f32⟩
  | 18 => ⟨S32x3x2x2x16x16, .f32⟩
  | 19 => ⟨S32x12x16x16, .f32⟩
  | 20 => ⟨S_, .f32⟩
  | 21 => ⟨S32x12x18x18, .f32⟩
  | 22 => ⟨S32x18x18x16x3x3, .f32⟩
  | 23 => ⟨S32x16x16x16x1x1, .f32⟩
  | 24 => ⟨S32x16x16x16, .f32⟩
  | 25 => ⟨S32x16x16x16x1x1, .f32⟩
  | 26 => ⟨S32x16x16x16, .f32⟩
  | 27 => ⟨S32x16x16x16x1x1, .f32⟩
  | 28 => ⟨S32x16x16x16, .f32⟩
  | 29 => ⟨S32x16x16x16x1x1, .f32⟩
  | 30 => ⟨S32x16x16x16, .f32⟩
  | 31 => ⟨S32x16x16x16x1x1, .f32⟩
  | 32 => ⟨S32x16x16x16, .f32⟩
  | 33 => ⟨S32x16x16x16x1x1, .f32⟩
  | 34 => ⟨S32x16x16x16, .f32⟩
  | 35 => ⟨S32x16x16x16x1x1, .f32⟩
  | 36 => ⟨S32x16x16x16, .f32⟩
  | 37 => ⟨S32x16x16x16x1x1, .f32⟩
  | 38 => ⟨S32x16x16x16, .f32⟩
  | 39 => ⟨S32x16x16x16x1x1, .f32⟩
  | 40 => ⟨S32x16x16x16, .f32⟩
  | 41 => ⟨S32x16x16x16, .f32⟩
  | 42 => ⟨S32x16x16x16, .f32⟩
  | 43 => ⟨S32x16x16x16, .f32⟩
  | 44 => ⟨S32x16x16x16, .f32⟩
  | 45 => ⟨S32x16x16x16, .f32⟩
  | 46 => ⟨S32x16x16x16, .f32⟩
  | 47 => ⟨S32x16x16x16, .f32⟩
  | 48 => ⟨S32x16x16x16, .f32⟩
  | 49 => ⟨S32x16x16x16, .f32⟩
  | 50 => ⟨S1x16x1x1, .f32⟩
  | 51 => ⟨S32x16x16x16, .f32⟩
  | 52 => ⟨S32x16x16x16, .f32⟩
  | 53 => ⟨S_, .f32⟩
  | 54 => ⟨S32x16x16x16, .f32⟩
  | 55 => ⟨S32x16x16x16, .f32⟩
  | 56 => ⟨S32x12x256, .f32⟩
  | 57 => ⟨S32x256x12, .f32⟩
  | 58 => ⟨S32x32x12, .f32⟩
  | 59 => ⟨S32x256x12, .f32⟩
  | 60 => ⟨S_, .f32⟩
  | 61 => ⟨S32x256, .f32⟩
  | 62 => ⟨S32x256x1, .f32⟩
  | 63 => ⟨S32x32x12, .f32⟩
  | 64 => ⟨S_, .f32⟩
  | 65 => ⟨S32x32, .f32⟩
  | 66 => ⟨S32x1x32, .f32⟩
  | 67 => ⟨S32x256x32, .f32⟩
  | 68 => ⟨S_, .f32⟩
  | 69 => ⟨S32x256x32, .f32⟩
  | 70 => ⟨S32x256x32, .f32⟩
  | 71 => ⟨S32x256x32, .f32⟩
  | 72 => ⟨S32x256x32, .f32⟩
  | 73 => ⟨S32x256x32, .f32⟩
  | 74 => ⟨S32x256x32, .f32⟩
  | 75 => ⟨S32x256x32, .f32⟩
  | 76 => ⟨S32x256x9, .f32⟩
  | 77 => ⟨S32x256x9, .i32⟩
  | 78 => ⟨S_, .i32⟩
  | 79 => ⟨S32x256x9, .i32⟩
  | 80 => ⟨S32x256x9, .i1⟩
  | 81 => ⟨S_, .i32⟩
  | 82 => ⟨S32x256x9, .i32⟩
  | 83 => ⟨S32x256x9, .i32⟩
  | 84 => ⟨S32x256x9, .i32⟩
  | 85 => ⟨S32x256x9x1, .i32⟩
  | 86 => ⟨S32x256x9x12, .f32⟩
  | 87 => ⟨S32x256x108, .f32⟩
  | 88 => ⟨S32x256x16, .f32⟩
  | 89 => ⟨S1x1x16, .f32⟩
  | 90 => ⟨S32x256x16, .f32⟩
  | 91 => ⟨S32x256x16, .f32⟩
  | 92 => ⟨S32x16x256, .f32⟩
  | 93 => ⟨S32x16x16x16, .f32⟩
  | 94 => ⟨S_, .f32⟩
  | 95 => ⟨S32x16x16x16, .f32⟩
  | 96 => ⟨S32x16x16x16, .f32⟩
  | 97 => ⟨S32x32x16x16, .f32⟩
  | 98 => ⟨S64x32, .f32⟩
  | 99 => ⟨S32x16x16x64, .f32⟩
  | 100 => ⟨S32x64x16x16, .f32⟩
  | 101 => ⟨S1x64x1x1, .f32⟩
  | 102 => ⟨S32x64x16x16, .f32⟩
  | 103 => ⟨S32x64x16x16, .f32⟩
  | 104 => ⟨S_, .f32⟩
  | 105 => ⟨S32x64x16x16, .f32⟩
  | 106 => ⟨S32x64x16x16, .f32⟩
  | 107 => ⟨S32x16x2x2x16x16, .f32⟩
  | 108 => ⟨S32x16x16x2x16x2, .f32⟩
  | 109 => ⟨S32x16x32x32, .f32⟩
  | 110 => ⟨S32x16x16x2x16x2, .f32⟩
  | 111 => ⟨S32x16x2x2x16x16, .f32⟩
  | 112 => ⟨S32x64x16x16, .f32⟩
  | 113 => ⟨S_, .f32⟩
  | 114 => ⟨S32x64x18x18, .f32⟩
  | 115 => ⟨S32x18x18x32x3x3, .f32⟩
  | 116 => ⟨S32x16x16x32x1x1, .f32⟩
  | 117 => ⟨S32x16x16x32, .f32⟩
  | 118 => ⟨S32x16x16x32x1x1, .f32⟩
  | 119 => ⟨S32x16x16x32, .f32⟩
  | 120 => ⟨S32x16x16x32x1x1, .f32⟩
  | 121 => ⟨S32x16x16x32, .f32⟩
  | 122 => ⟨S32x16x16x32x1x1, .f32⟩
  | 123 => ⟨S32x16x16x32, .f32⟩
  | 124 => ⟨S32x16x16x32x1x1, .f32⟩
  | 125 => ⟨S32x16x16x32, .f32⟩
  | 126 => ⟨S32x16x16x32x1x1, .f32⟩
  | 127 => ⟨S32x16x16x32, .f32⟩
  | _ => ⟨S32x3x32x32, .f32⟩

abbrev hbmTy0_1 (i : Nat) : BufTy := match i % 128 with
  | 0 => ⟨S32x16x16x32x1x1, .f32⟩
  | 1 => ⟨S32x16x16x32, .f32⟩
  | 2 => ⟨S32x16x16x32x1x1, .f32⟩
  | 3 => ⟨S32x16x16x32, .f32⟩
  | 4 => ⟨S32x16x16x32x1x1, .f32⟩
  | 5 => ⟨S32x16x16x32, .f32⟩
  | 6 => ⟨S32x16x16x32, .f32⟩
  | 7 => ⟨S32x16x16x32, .f32⟩
  | 8 => ⟨S32x16x16x32, .f32⟩
  | 9 => ⟨S32x16x16x32, .f32⟩
  | 10 => ⟨S32x16x16x32, .f32⟩
  | 11 => ⟨S32x16x16x32, .f32⟩
  | 12 => ⟨S32x16x16x32, .f32⟩
  | 13 => ⟨S32x16x16x32, .f32⟩
  | 14 => ⟨S32x32x16x16, .f32⟩
  | 15 => ⟨S1x32x1x1, .f32⟩
  | 16 => ⟨S32x32x16x16, .f32⟩
  | 17 => ⟨S32x32x16x16, .f32⟩
  | 18 => ⟨S_, .f32⟩
  | 19 => ⟨S32x32x16x16, .f32⟩
  | 20 => ⟨S32x32x16x16, .f32⟩
  | 21 => ⟨S32x64x256, .f32⟩
  | 22 => ⟨S32x256x64, .f32⟩
  | 23 => ⟨S32x32x64, .f32⟩
  | 24 => ⟨S32x256x64, .f32⟩
  | 25 => ⟨S_, .f32⟩
  | 26 => ⟨S32x256, .f32⟩
  | 27 => ⟨S32x256x1, .f32⟩
  | 28 => ⟨S32x32x64, .f32⟩
  | 29 => ⟨S_, .f32⟩
  | 30 => ⟨S32x32, .f32⟩
  | 31 => ⟨S32x1x32, .f32⟩
  | 32 => ⟨S32x256x32, .f32⟩
  | 33 => ⟨S_, .f32⟩
  | 34 => ⟨S32x256x32, .f32⟩
  | 35 => ⟨S32x256x32, .f32⟩
  | 36 => ⟨S32x256x32, .f32⟩
  | 37 => ⟨S32x256x32, .f32⟩
  | 38 => ⟨S32x256x32, .f32⟩
  | 39 => ⟨S32x256x32, .f32⟩
  | 40 => ⟨S32x256x32, .f32⟩
  | 41 => ⟨S32x256x9, .f32⟩
  | 42 => ⟨S32x256x9, .i32⟩
  | 43 => ⟨S_, .i32⟩
  | 44 => ⟨S32x256x9, .i32⟩
  | 45 => ⟨S32x256x9, .i1⟩
  | 46 => ⟨S_, .i32⟩
  | 47 => ⟨S32x256x9, .i32⟩
  | 48 => ⟨S32x256x9, .i32⟩
  | 49 => ⟨S32x256x9, .i32⟩
  | 50 => ⟨S32x256x9x1, .i32⟩
  | 51 => ⟨S32x256x9x64, .f32⟩
  | 52 => ⟨S32x256x576, .f32⟩
  | 53 => ⟨S32x256x32, .f32⟩
  | 54 => ⟨S1x1x32, .f32⟩
  | 55 => ⟨S32x256x32, .f32⟩
  | 56 => ⟨S32x256x32, .f32⟩
  | 57 => ⟨S32x32x256, .f32⟩
  | 58 => ⟨S32x32x16x16, .f32⟩
  | 59 => ⟨S_, .f32⟩
  | 60 => ⟨S32x32x16x16, .f32⟩
  | 61 => ⟨S32x32x16x16, .f32⟩
  | 62 => ⟨S32x64x16x16, .f32⟩
  | 63 => ⟨S128x64, .f32⟩
  | 64 => ⟨S32x16x16x128, .f32⟩
  | 65 => ⟨S32x128x16x16, .f32⟩
  | 66 => ⟨S1x128x1x1, .f32⟩
  | 67 => ⟨S32x128x16x16, .f32⟩
  | 68 => ⟨S32x128x16x16, .f32⟩
  | 69 => ⟨S_, .f32⟩
  | 70 => ⟨S32x128x16x16, .f32⟩
  | 71 => ⟨S32x128x16x16, .f32⟩
  | 72 => ⟨S32x32x2x2x16x16, .f32⟩
  | 73 => ⟨S32x32x16x2x16x2, .f32⟩
  | 74 => ⟨S32x32x32x32, .f32⟩
  | 75 => ⟨S32x32768, .f32⟩
  | 76 => ⟨S32768x1024, .f32⟩
  | 77 => ⟨S32x1024, .f32⟩
  | 78 => ⟨S1x1024, .f32⟩
  | 79 => ⟨S32x1024, .f32⟩
  | 80 => ⟨S32x1024, .f32⟩
  | 81 => ⟨S_, .f32⟩
  | 82 => ⟨S32x1024, .f32⟩
  | 83 => ⟨S32x1024, .f32⟩
  | 84 => ⟨S1024x10, .f32⟩
  | 85 => ⟨S32x10, .f32⟩
  | 86 => ⟨S1x10, .f32⟩
  | 87 => ⟨S32x10, .f32⟩
  | 88 => ⟨S32x10, .f32⟩
  | _ => ⟨S32x3x32x32, .f32⟩

abbrev hbmTy (i : Nat) : BufTy := match i / 128 with
  | 0 => hbmTy0_0 i
  | 1 => hbmTy0_1 i
  | _ => ⟨S32x3x32x32, .f32⟩

abbrev bufTy : (tb : Table) → Fin (tcTables nBuf tb) → BufTy
  | .hbm, ⟨i, _⟩ => hbmTy i
  | _, _ => ⟨S32x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_values : Ref sig .tc := ⟨.hbm, 76, rfl⟩
abbrev main_indices : Ref sig .tc := ⟨.hbm, 77, rfl⟩
abbrev main_c : Ref sig .tc := ⟨.hbm, 78, rfl⟩
abbrev main_v54 : Ref sig .tc := ⟨.hbm, 79, rfl⟩
abbrev main_v55 : Ref sig .tc := ⟨.hbm, 80, rfl⟩
abbrev main_c_4 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_6 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_7 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_8 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_9 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_10 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_11 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_values_12 : Ref sig .tc := ⟨.hbm, 169, rfl⟩
abbrev main_indices_13 : Ref sig .tc := ⟨.hbm, 170, rfl⟩
abbrev main_c_14 : Ref sig .tc := ⟨.hbm, 171, rfl⟩
abbrev main_v136 : Ref sig .tc := ⟨.hbm, 172, rfl⟩
abbrev main_v137 : Ref sig .tc := ⟨.hbm, 173, rfl⟩
abbrev main_c_15 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_16 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_17 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_call0_cst : Ref sig .tc := ⟨.hbm, 209, rfl⟩
abbrev main_call0_v0 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩

abbrev nD : Nat := 1
abbrev τ : Topo := Topo.v7x

variable {F : FTy → Type} [FloatOps F]
-- ==== Kernel3.lean ====
abbrev S1024x32768 : Shape := ⟨2, ![1024, 32768]⟩
abbrev S32768x32 : Shape := ⟨2, ![32768, 32]⟩
abbrev S1024 : Shape := ⟨1, ![1024]⟩
abbrev S10x1024 : Shape := ⟨2, ![10, 1024]⟩
abbrev S10 : Shape := ⟨1, ![10]⟩
abbrev S1024x1 : Shape := ⟨2, ![1024, 1]⟩
abbrev S10x1 : Shape := ⟨2, ![10, 1]⟩
abbrev S10x32 : Shape := ⟨2, ![10, 32]⟩
abbrev S1024x4096 : Shape := ⟨2, ![1024, 4096]⟩
abbrev S4096x32 : Shape := ⟨2, ![4096, 32]⟩
abbrev S1024x32 : Shape := ⟨2, ![1024, 32]⟩

abbrev nBuf : Space → Nat
  | .hbm => 8
  | .vmem => 9
  | .smem => 0
  | _ => 0

abbrev bufTy : (tb : Table) → Fin (tcTables nBuf tb) → BufTy
  | .hbm, ⟨0, _⟩ => ⟨S1024x32768, .f32⟩
  | .hbm, ⟨1, _⟩ => ⟨S32768x32, .f32⟩
  | .hbm, ⟨2, _⟩ => ⟨S1024, .f32⟩
  | .hbm, ⟨3, _⟩ => ⟨S10x1024, .f32⟩
  | .hbm, ⟨4, _⟩ => ⟨S10, .f32⟩
  | .hbm, ⟨5, _⟩ => ⟨S1024x1, .f32⟩
  | .hbm, ⟨6, _⟩ => ⟨S10x1, .f32⟩
  | .hbm, ⟨7, _⟩ => ⟨S10x32, .f32⟩
  | .local _ .vmem, ⟨0, _⟩ => ⟨S1024x4096, .f32⟩
  | .local _ .vmem, ⟨1, _⟩ => ⟨S1024x4096, .f32⟩
  | .local _ .vmem, ⟨2, _⟩ => ⟨S4096x32, .f32⟩
  | .local _ .vmem, ⟨3, _⟩ => ⟨S4096x32, .f32⟩
  | .local _ .vmem, ⟨4, _⟩ => ⟨S1024x1, .f32⟩
  | .local _ .vmem, ⟨5, _⟩ => ⟨S10x1024, .f32⟩
  | .local _ .vmem, ⟨6, _⟩ => ⟨S10x1, .f32⟩
  | .local _ .vmem, ⟨7, _⟩ => ⟨S10x32, .f32⟩
  | .local _ .vmem, ⟨8, _⟩ => ⟨S1024x32, .f32⟩
  | _, _ => ⟨S1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S1024x32768 : Shape := ⟨2, ![1024, 32768]⟩
abbrev S32768x32 : Shape := ⟨2, ![32768, 32]⟩
abbrev S1024 : Shape := ⟨1, ![1024]⟩
abbrev S10x1024 : Shape := ⟨2, ![10, 1024]⟩
abbrev S10 : Shape := ⟨1, ![10]⟩
abbrev S32x32768 : Shape := ⟨2, ![32, 32768]⟩
abbrev S32768x1024 : Shape := ⟨2, ![32768, 1024]⟩
abbrev S32x1024 : Shape := ⟨2, ![32, 1024]⟩
abbrev S1x1024 : Shape := ⟨2, ![1, 1024]⟩
abbrev S_ : Shape := ⟨0, ![]⟩
abbrev S1024x10 : Shape := ⟨2, ![1024, 10]⟩
abbrev S32x10 : Shape := ⟨2, ![32, 10]⟩
abbrev S1x10 : Shape := ⟨2, ![1, 10]⟩
abbrev S10x32 : Shape := ⟨2, ![10, 32]⟩

abbrev nBuf : Space → Nat
  | .hbm => 20
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S32768x32, .f32⟩
  | .hbm, ⟨2, _⟩ => ⟨S1024, .f32⟩
  | .hbm, ⟨3, _⟩ => ⟨S10x1024, .f32⟩
  | .hbm, ⟨4, _⟩ => ⟨S10, .f32⟩
  | .hbm, ⟨5, _⟩ => ⟨S32x32768, .f32⟩
  | .hbm, ⟨6, _⟩ => ⟨S32768x1024, .f32⟩
  | .hbm, ⟨7, _⟩ => ⟨S32x1024, .f32⟩
  | .hbm, ⟨8, _⟩ => ⟨S1x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S1024x10, .f32⟩
  | .hbm, ⟨15, _⟩ => ⟨S32x10, .f32⟩
  | .hbm, ⟨16, _⟩ => ⟨S1x10, .f32⟩
  | .hbm, ⟨17, _⟩ => ⟨S32x10, .f32⟩
  | .hbm, ⟨18, _⟩ => ⟨S32x10, .f32⟩
  | .hbm, ⟨19, _⟩ => ⟨S10x32, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel2.lean ====
abbrev S64x8192 : Shape := ⟨2, ![64, 8192]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S32x3x3x64 : Shape := ⟨4, ![32, 3, 3, 64]⟩
abbrev S32x576 : Shape := ⟨2, ![32, 576]⟩
abbrev S128x64 : Shape := ⟨2, ![128, 64]⟩
abbrev S64x1024 : Shape := ⟨2, ![64, 1024]⟩
abbrev S1024x64 : Shape := ⟨2, ![1024, 64]⟩
abbrev S32x1 : Shape := ⟨2, ![32, 1]⟩
abbrev S128x1 : Shape := ⟨2, ![128, 1]⟩
abbrev S128x8192 : Shape := ⟨2, ![128, 8192]⟩
abbrev S64x2048 : Shape := ⟨2, ![64, 2048]⟩
abbrev S256x64 : Shape := ⟨2, ![256, 64]⟩
abbrev S64x256 : Shape := ⟨2, ![64, 256]⟩
abbrev S128x2048 : Shape := ⟨2, ![128, 2048]⟩
abbrev S1x2048 : Shape := ⟨2, ![1, 2048]⟩
abbrev S32x2048 : Shape := ⟨2, ![32, 2048]⟩
abbrev S32x64 : Shape := ⟨2, ![32, 64]⟩
abbrev S2048 : Shape := ⟨1, ![2048]⟩
abbrev S32x256 : Shape := ⟨2, ![32, 256]⟩
abbrev S1x256 : Shape := ⟨2, ![1, 256]⟩
abbrev S32x32 : Shape := ⟨2, ![32, 32]⟩
abbrev S32x288 : Shape := ⟨2, ![32, 288]⟩
abbrev S288x256 : Shape := ⟨2, ![288, 256]⟩

abbrev nBuf : Space → Nat
  | .hbm => 17
  | .vmem => 14
  | .smem => 0
  | _ => 0

abbrev bufTy : (tb : Table) → Fin (tcTables nBuf tb) → BufTy
  | .hbm, ⟨0, _⟩ => ⟨S64x8192, .f32⟩
  | .hbm, ⟨1, _⟩ => ⟨S32x64x3x3, .f32⟩
  | .hbm, ⟨2, _⟩ => ⟨S32, .f32⟩
  | .hbm, ⟨3, _⟩ => ⟨S576x32, .f32⟩
  | .hbm, ⟨4, _⟩ => ⟨S32, .f32⟩
  | .hbm, ⟨5, _⟩ => ⟨S128x64x1x1, .f32⟩
  | .hbm, ⟨6, _⟩ => ⟨S128, .f32⟩
  | .hbm, ⟨7, _⟩ => ⟨S32x3x3x64, .f32⟩
  | .hbm, ⟨8, _⟩ => ⟨S32x576, .f32⟩
  | .hbm, ⟨9, _⟩ => ⟨S32x576, .f32⟩
  | .hbm, ⟨10, _⟩ => ⟨S128x64, .f32⟩
  | .hbm, ⟨11, _⟩ => ⟨S64x1024, .f32⟩
  | .hbm, ⟨12, _⟩ => ⟨S1024x64, .f32⟩
  | .hbm, ⟨13, _⟩ => ⟨S32x1, .f32⟩
  | .hbm, ⟨14, _⟩ => ⟨S32x1, .f32⟩
  | .hbm, ⟨15, _⟩ => ⟨S128x1, .f32⟩
  | .hbm, ⟨16, _⟩ => ⟨S128x8192, .f32⟩
  | .local _ .vmem, ⟨0, _⟩ => ⟨S64x2048, .f32⟩
  | .local _ .vmem, ⟨1, _⟩ => ⟨S64x2048, .f32⟩
  | .local _ .vmem, ⟨2, _⟩ => ⟨S256x64, .f32⟩
  | .local _ .vmem, ⟨3, _⟩ => ⟨S256x64, .f32⟩
  | .local _ .vmem, ⟨4, _⟩ => ⟨S64x256, .f32⟩
  | .local _ .vmem, ⟨5, _⟩ => ⟨S64x256, .f32⟩
  | .local _ .vmem, ⟨6, _⟩ => ⟨S32x576, .f32⟩
  | .local _ .vmem, ⟨7, _⟩ => ⟨S32x1, .f32⟩
  | .local _ .vmem, ⟨8, _⟩ => ⟨S32x576, .f32⟩
  | .local _ .vmem, ⟨9, _⟩ => ⟨S32x1, .f32⟩
  | .local _ .vmem, ⟨10, _⟩ => ⟨S128x64, .f32⟩
  | .local _ .vmem, ⟨11, _⟩ => ⟨S128x1, .f32⟩
  | .local _ .vmem, ⟨12, _⟩ => ⟨S128x2048, .f32⟩
  | .local _ .vmem, ⟨13, _⟩ => ⟨S128x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S64x8192 : Shape := ⟨2, ![64, 8192]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S64x32x16x16 : Shape := ⟨4, ![64, 32, 16, 16]⟩
abbrev S32x64x16x16 : Shape := ⟨4, ![32, 64, 16, 16]⟩
abbrev S_ : Shape := ⟨0, ![]⟩
abbrev S32x64x18x18 : Shape := ⟨4, ![32, 64, 18, 18]⟩
abbrev S32x18x18x32x3x3 : Shape := ⟨6, ![32, 18, 18, 32, 3, 3]⟩
abbrev S32x16x16x32x1x1 : Shape := ⟨6, ![32, 16, 16, 32, 1, 1]⟩
abbrev S32x16x16x32 : Shape := ⟨4, ![32, 16, 16, 32]⟩
abbrev S32x32x16x16 : Shape := ⟨4, ![32, 32, 16, 16]⟩
abbrev S1x32x1x1 : Shape := ⟨4, ![1, 32, 1, 1]⟩
abbrev S32x64x256 : Shape := ⟨3, ![32, 64, 256]⟩
abbrev S32x256x64 : Shape := ⟨3, ![32, 256, 64]⟩
abbrev S32x32x64 : Shape := ⟨3, ![32, 32, 64]⟩
abbrev S32x256 : Shape := ⟨2, ![32, 256]⟩
abbrev S32x256x1 : Shape := ⟨3, ![32, 256, 1]⟩
abbrev S32x32 : Shape := ⟨2, ![32, 32]⟩
abbrev S32x1x32 : Shape := ⟨3, ![32, 1, 32]⟩
abbrev S32x256x32 : Shape := ⟨3, ![32, 256, 32]⟩
abbrev S32x256x9 : Shape := ⟨3, ![32, 256, 9]⟩
abbrev S32x256x9x1 : Shape := ⟨4, ![32, 256, 9, 1]⟩
abbrev S32x256x9x64 : Shape := ⟨4, ![32, 256, 9, 64]⟩
abbrev S32x256x576 : Shape := ⟨3, ![32, 256, 576]⟩
abbrev S1x1x32 : Shape := ⟨3, ![1, 1, 32]⟩
abbrev S32x32x256 : Shape := ⟨3, ![32, 32, 256]⟩
abbrev S128x64 : Shape := ⟨2, ![128, 64]⟩
abbrev S32x16x16x128 : Shape := ⟨4, ![32, 16, 16, 128]⟩
abbrev S32x128x16x16 : Shape := ⟨4, ![32, 128, 16, 16]⟩
abbrev S1x128x1x1 : Shape := ⟨4, ![1, 128, 1, 1]⟩
abbrev S128x32x16x16 : Shape := ⟨4, ![128, 32, 16, 16]⟩
abbrev S128x8192 : Shape := ⟨2, ![128, 8192]⟩

abbrev nBuf : Space → Nat
  | .hbm => 98
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S32x64x3x3, .f32⟩
  | .hbm, ⟨2, _⟩ => ⟨S32, .f32⟩
  | .hbm, ⟨3, _⟩ => ⟨S576x32, .f32⟩
  | .hbm, ⟨4, _⟩ => ⟨S32, .f32⟩
  | .hbm, ⟨5, _⟩ => ⟨S128x64x1x1, .f32⟩
  | .hbm, ⟨6, _⟩ => ⟨S128, .f32⟩
  | .hbm, ⟨7, _⟩ => ⟨S64x32x16x16, .f32⟩
  | .hbm, ⟨8, _⟩ => ⟨S32x64x16x16, .f32⟩
  | .hbm, ⟨9, _⟩ => ⟨S_, .f32⟩
  | .hbm, ⟨10, _⟩ => ⟨S32x64x18x18, .f32⟩
  | .hbm, ⟨11, _⟩ => ⟨S32x18x18x32x3x3, .f32⟩
  | .hbm, ⟨12, _⟩ => ⟨S32x16x16x32x1x1, .f32⟩
  | .hbm, ⟨13, _⟩ => ⟨S32x16x16x32, .f32⟩
  | .hbm, ⟨14, _⟩ => ⟨S32x16x16x32x1x1, .f32⟩
  | .hbm, ⟨15, _⟩ => ⟨S32x16x16x32, .f32⟩
  | .hbm, ⟨16, _⟩ => ⟨S32x16x16x32x1x1, .f32⟩
  | .hbm, ⟨17, _⟩ => ⟨S32x16x16x32, .f32⟩
  | .hbm, ⟨18, _⟩ => ⟨S32x16x16x32x1x1, .f32⟩
  | .hbm, ⟨19, _⟩ => ⟨S32x16x16x32, .f32⟩
  | .hbm, ⟨20, _⟩ => ⟨S32x16x16x32x1x1, .f32⟩
  | .hbm, ⟨21, _⟩ => ⟨S32x16x16x32, .f32⟩
  | .hbm, ⟨22, _⟩ => ⟨S32x16x16x32x1x1, .f32⟩
  | .hbm, ⟨23, _⟩ => ⟨S32x16x16x32, .f32⟩
  | .hbm, ⟨24, _⟩ => ⟨S32x16x16x32x1x1, .f32⟩
  | .hbm, ⟨25, _⟩ => ⟨S32x16x16x32, .f32⟩
  | .hbm, ⟨26, _⟩ => ⟨S32x16x16x32x1x1, .f32⟩
  | .hbm, ⟨27, _⟩ => ⟨S32x16x16x32, .f32⟩
  | .hbm, ⟨28, _⟩ => ⟨S32x16x16x32x1x1, .f32⟩
  | .hbm, ⟨29, _⟩ => ⟨S32x16x16x32, .f32⟩
  | .hbm, ⟨30, _⟩ => ⟨S32x16x16x32, .f32⟩
  | .hbm, ⟨31, _⟩ => ⟨S32x16x16x32, .f32⟩
  | .hbm, ⟨32, _⟩ => ⟨S32x16x16x32, .f32⟩
  | .hbm, ⟨33, _⟩ => ⟨S32x16x16x32, .f32⟩
  | .hbm, ⟨34, _⟩ => ⟨S32x16x16x32, .f32⟩
  | .hbm, ⟨35, _⟩ => ⟨S32x16x16x32, .f32⟩
  | .hbm, ⟨36, _⟩ => ⟨S32x16x16x32, .f32⟩
  | .hbm, ⟨37, _⟩ => ⟨S32x16x16x32, .f32⟩
  | .hbm, ⟨38, _⟩ => ⟨S32x32x16x16, .f32⟩
  | .hbm, ⟨39, _⟩ => ⟨S1x32x1x1, .f32⟩
  | .hbm, ⟨40, _⟩ => ⟨S32x32x16x16, .f32⟩
  | .hbm, ⟨41, _⟩ => ⟨S32x32x16x16, .f32⟩
  | .hbm, ⟨42, _⟩ => ⟨S_, .f32⟩
  | .hbm, ⟨43, _⟩ => ⟨S32x32x16x16, .f32⟩
  | .hbm, ⟨44, _⟩ => ⟨S32x32x16x16, .f32⟩
  | .hbm, ⟨45, _⟩ => ⟨S32x64x256, .f32⟩
  | .hbm, ⟨46, _⟩ => ⟨S32x256x64, .f32⟩
  | .hbm, ⟨47, _⟩ => ⟨S32x32x64, .f32⟩
  | .hbm, ⟨48, _⟩ => ⟨S32x256x64, .f32⟩
  | .hbm, ⟨49, _⟩ => ⟨S_, .f32⟩
  | .hbm, ⟨50, _⟩ => ⟨S32x256, .f32⟩
  | .hbm, ⟨51, _⟩ => ⟨S32x256x1, .f32⟩
  | .hbm, ⟨52, _⟩ => ⟨S32x32x64, .f32⟩
  | .hbm, ⟨53, _⟩ => ⟨S_, .f32⟩
  | .hbm, ⟨54, _⟩ => ⟨S32x32, .f32⟩
  | .hbm, ⟨55, _⟩ => ⟨S32x1x32, .f32⟩
  | .hbm, ⟨56, _⟩ => ⟨S32x256x32, .f32⟩
  | .hbm, ⟨57, _⟩ => ⟨S_, .f32⟩
  | .hbm, ⟨58, _⟩ => ⟨S32x256x32, .f32⟩
  | .hbm, ⟨59, _⟩ => ⟨S32x256x32, .f32⟩
  | .hbm, ⟨60, _⟩ => ⟨S32x256x32, .f32⟩
  | .hbm, ⟨61, _⟩ => ⟨S32x256x32, .f32⟩
  | .hbm, ⟨62, _⟩ => ⟨S32x256x32, .f32⟩
  | .hbm, ⟨63, _⟩ => ⟨S32x256x32, .f32⟩
  | .hbm, ⟨64, _⟩ => ⟨S32x256x32, .f32⟩
  | .hbm, ⟨65, _⟩ => ⟨S32x256x9, .f32⟩
  | .hbm, ⟨66, _⟩ => ⟨S32x256x9, .i32⟩
  | .hbm, ⟨67, _⟩ => ⟨S_, .i32⟩
  | .hbm, ⟨68, _⟩ => ⟨S32x256x9, .i32⟩
  | .hbm, ⟨69, _⟩ => ⟨S32x256x9, .i1⟩
  | .hbm, ⟨70, _⟩ => ⟨S_, .i32⟩
  | .hbm, ⟨71, _⟩ => ⟨S32x256x9, .i32⟩
  | .hbm, ⟨72, _⟩ => ⟨S32x256x9, .i32⟩
  | .hbm, ⟨73, _⟩ => ⟨S32x256x9, .i32⟩
  | .hbm, ⟨74, _⟩ => ⟨S32x256x9x1, .i32⟩
  | .hbm, ⟨75, _⟩ => ⟨S32x256x9x64, .f32⟩
  | .hbm, ⟨76, _⟩ => ⟨S32x256x576, .f32⟩
  | .hbm, ⟨77, _⟩ => ⟨S32x256x32, .f32⟩
  | .hbm, ⟨78, _⟩ => ⟨S1x1x32, .f32⟩
  | .hbm, ⟨79, _⟩ => ⟨S32x256x32, .f32⟩
  | .hbm, ⟨80, _⟩ => ⟨S32x256x32, .f32⟩
  | .hbm, ⟨81, _⟩ => ⟨S32x32x256, .f32⟩
  | .hbm, ⟨82, _⟩ => ⟨S32x32x16x16, .f32⟩
  | .hbm, ⟨83, _⟩ => ⟨S_, .f32⟩
  | .hbm, ⟨84, _⟩ => ⟨S32x32x16x16, .f32⟩
  | .hbm, ⟨85, _⟩ => ⟨S32x32x16x16, .f32⟩
  | .hbm, ⟨86, _⟩ => ⟨S32x64x16x16, .f32⟩
  | .hbm, ⟨87, _⟩ => ⟨S128x64, .f32⟩
  | .hbm, ⟨88, _⟩ => ⟨S32x16x16x128, .f32⟩
  | .hbm, ⟨89, _⟩ => ⟨S32x128x16x16, .f32⟩
  | .hbm, ⟨90, _⟩ => ⟨S1x128x1x1, .f32⟩
  | .hbm, ⟨91, _⟩ => ⟨S32x128x16x16, .f32⟩
  | .hbm, ⟨92, _⟩ => ⟨S32x128x16x16, .f32⟩
  | .hbm, ⟨93, _⟩ => ⟨S_, .f32⟩
  | .hbm, ⟨94, _⟩ => ⟨S32x128x16x16, .f32⟩
  | .hbm, ⟨95, _⟩ => ⟨S32x128x16x16, .f32⟩
  | .hbm, ⟨96, _⟩ => ⟨S128x32x16x16, .f32⟩
  | .hbm, ⟨97, _⟩ => ⟨S128x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_values : Ref sig .tc := ⟨.hbm, 65, rfl⟩
abbrev main_indices : Ref sig .tc := ⟨.hbm, 66, rfl⟩
abbrev main_c : Ref sig .tc := ⟨.hbm, 67, rfl⟩
abbrev main_v53 : Ref sig .tc := ⟨.hbm, 68, rfl⟩
abbrev main_v54 : Ref sig .tc := ⟨.hbm, 69, rfl⟩
abbrev main_c_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_6 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Kernel1.lean ====
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S32x12x256 : Shape := ⟨3, ![32, 12, 256]⟩
abbrev S12x32x256 : Shape := ⟨3, ![12, 32, 256]⟩
abbrev S12x8192 : Shape := ⟨2, ![12, 8192]⟩
abbrev S16x3x3x12 : Shape := ⟨4, ![16, 3, 3, 12]⟩
abbrev S16x108 : Shape := ⟨2, ![16, 108]⟩
abbrev S64x32 : Shape := ⟨2, ![64, 32]⟩
abbrev S12x1024 : Shape := ⟨2, ![12, 1024]⟩
abbrev S1024x12 : Shape := ⟨2, ![1024, 12]⟩
abbrev S16x1 : Shape := ⟨2, ![16, 1]⟩
abbrev S64x1 : Shape := ⟨2, ![64, 1]⟩
abbrev S64x8192 : Shape := ⟨2, ![64, 8192]⟩
abbrev S12x2048 : Shape := ⟨2, ![12, 2048]⟩
abbrev S256x12 : Shape := ⟨2, ![256, 12]⟩
abbrev S12x256 : Shape := ⟨2, ![12, 256]⟩
abbrev S64x2048 : Shape := ⟨2, ![64, 2048]⟩
abbrev S1x2048 : Shape := ⟨2, ![1, 2048]⟩
abbrev S16x2048 : Shape := ⟨2, ![16, 2048]⟩
abbrev S16x12 : Shape := ⟨2, ![16, 12]⟩
abbrev S2048 : Shape := ⟨1, ![2048]⟩
abbrev S32x12 : Shape := ⟨2, ![32, 12]⟩
abbrev S32 : Shape := ⟨1, ![32]⟩
abbrev S32x1 : Shape := ⟨2, ![32, 1]⟩
abbrev S32x256 : Shape := ⟨2, ![32, 256]⟩
abbrev S1x256 : Shape := ⟨2, ![1, 256]⟩
abbrev S32x2048 : Shape := ⟨2, ![32, 2048]⟩
abbrev S16x256 : Shape := ⟨2, ![16, 256]⟩
abbrev S16x32 : Shape := ⟨2, ![16, 32]⟩
abbrev S16x288 : Shape := ⟨2, ![16, 288]⟩
abbrev S288x256 : Shape := ⟨2, ![288, 256]⟩

abbrev nBuf : Space → Nat
  | .hbm => 23
  | .vmem => 14
  | .smem => 0
  | _ => 0

abbrev bufTy : (tb : Table) → Fin (tcTables nBuf tb) → BufTy
  | .hbm, ⟨0, _⟩ => ⟨S32x3x32x32, .f32⟩
  | .hbm, ⟨1, _⟩ => ⟨S16x12x3x3, .f32⟩
  | .hbm, ⟨2, _⟩ => ⟨S16, .f32⟩
  | .hbm, ⟨3, _⟩ => ⟨S108x16, .f32⟩
  | .hbm, ⟨4, _⟩ => ⟨S16, .f32⟩
  | .hbm, ⟨5, _⟩ => ⟨S64x32x1x1, .f32⟩
  | .hbm, ⟨6, _⟩ => ⟨S64, .f32⟩
  | .hbm, ⟨7, _⟩ => ⟨S32x3x16x2x16x2, .f32⟩
  | .hbm, ⟨8, _⟩ => ⟨S32x3x2x2x16x16, .f32⟩
  | .hbm, ⟨9, _⟩ => ⟨S32x12x16x16, .f32⟩
  | .hbm, ⟨10, _⟩ => ⟨S32x12x256, .f32⟩
  | .hbm, ⟨11, _⟩ => ⟨S12x32x256, .f32⟩
  | .hbm, ⟨12, _⟩ => ⟨S12x8192, .f32⟩
  | .hbm, ⟨13, _⟩ => ⟨S16x3x3x12, .f32⟩
  | .hbm, ⟨14, _⟩ => ⟨S16x108, .f32⟩
  | .hbm, ⟨15, _⟩ => ⟨S16x108, .f32⟩
  | .hbm, ⟨16, _⟩ => ⟨S64x32, .f32⟩
  | .hbm, ⟨17, _⟩ => ⟨S12x1024, .f32⟩
  | .hbm, ⟨18, _⟩ => ⟨S1024x12, .f32⟩
  | .hbm, ⟨19, _⟩ => ⟨S16x1, .f32⟩
  | .hbm, ⟨20, _⟩ => ⟨S16x1, .f32⟩
  | .hbm, ⟨21, _⟩ => ⟨S64x1, .f32⟩
  | .hbm, ⟨22, _⟩ => ⟨S64x8192, .f32⟩
  | .local _ .vmem, ⟨0, _⟩ => ⟨S12x2048, .f32⟩
  | .local _ .vmem, ⟨1, _⟩ => ⟨S12x2048, .f32⟩
  | .local _ .vmem, ⟨2, _⟩ => ⟨S256x12, .f32⟩
  | .local _ .vmem, ⟨3, _⟩ => ⟨S256x12, .f32⟩
  | .local _ .vmem, ⟨4, _⟩ => ⟨S12x256, .f32⟩
  | .local _ .vmem, ⟨5, _⟩ => ⟨S12x256, .f32⟩
  | .local _ .vmem, ⟨6, _⟩ => ⟨S16x108, .f32⟩
  | .local _ .vmem, ⟨7, _⟩ => ⟨S16x1, .f32⟩
  | .local _ .vmem, ⟨8, _⟩ => ⟨S16x108, .f32⟩
  | .local _ .vmem, ⟨9, _⟩ => ⟨S16x1, .f32⟩
  | .local _ .vmem, ⟨10, _⟩ => ⟨S64x32, .f32⟩
  | .local _ .vmem, ⟨11, _⟩ => ⟨S64x1, .f32⟩
  | .local _ .vmem, ⟨12, _⟩ => ⟨S64x2048, .f32⟩
  | .local _ .vmem, ⟨13, _⟩ => ⟨S64x2048, .f32⟩
  | _, _ => ⟨S32x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x108 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference1Ideal.lean ====
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S_ : Shape := ⟨0, ![]⟩
abbrev S32x12x18x18 : Shape := ⟨4, ![32, 12, 18, 18]⟩
abbrev S32x18x18x16x3x3 : Shape := ⟨6, ![32, 18, 18, 16, 3, 3]⟩
abbrev S32x16x16x16x1x1 : Shape := ⟨6, ![32, 16, 16, 16, 1, 1]⟩
abbrev S32x16x16x16 : Shape := ⟨4, ![32, 16, 16, 16]⟩
abbrev S1x16x1x1 : Shape := ⟨4, ![1, 16, 1, 1]⟩
abbrev S32x12x256 : Shape := ⟨3, ![32, 12, 256]⟩
abbrev S32x256x12 : Shape := ⟨3, ![32, 256, 12]⟩
abbrev S32x32x12 : Shape := ⟨3, ![32, 32, 12]⟩
abbrev S32x256 : Shape := ⟨2, ![32, 256]⟩
abbrev S32x256x1 : Shape := ⟨3, ![32, 256, 1]⟩
abbrev S32x32 : Shape := ⟨2, ![32, 32]⟩
abbrev S32x1x32 : Shape := ⟨3, ![32, 1, 32]⟩
abbrev S32x256x32 : Shape := ⟨3, ![32, 256, 32]⟩
abbrev S32x256x9 : Shape := ⟨3, ![32, 256, 9]⟩
abbrev S32x256x9x1 : Shape := ⟨4, ![32, 256, 9, 1]⟩
abbrev S32x256x9x12 : Shape := ⟨4, ![32, 256, 9, 12]⟩
abbrev S32x256x108 : Shape := ⟨3, ![32, 256, 108]⟩
abbrev S32x256x16 : Shape := ⟨3, ![32, 256, 16]⟩
abbrev S1x1x16 : Shape := ⟨3, ![1, 1, 16]⟩
abbrev S32x16x256 : Shape := ⟨3, ![32, 16, 256]⟩
abbrev S32x32x16x16 : Shape := ⟨4, ![32, 32, 16, 16]⟩
abbrev S64x32 : Shape := ⟨2, ![64, 32]⟩
abbrev S32x16x16x64 : Shape := ⟨4, ![32, 16, 16, 64]⟩
abbrev S32x64x16x16 : Shape := ⟨4, ![32, 64, 16, 16]⟩
abbrev S1x64x1x1 : Shape := ⟨4, ![1, 64, 1, 1]⟩
abbrev S64x32x16x16 : Shape := ⟨4, ![64, 32, 16, 16]⟩
abbrev S64x8192 : Shape := ⟨2, ![64, 8192]⟩

abbrev nBuf : Space → Nat
  | .hbm => 99
  | .vmem => 0
  | .smem => 0
  | _ => 0

abbrev bufTy : (tb : Table) → Fin (tcTables nBuf tb) → BufTy
  | .hbm, ⟨0, _⟩ => ⟨S32x3x32x32, .f32⟩
  | .hbm, ⟨1, _⟩ => ⟨S16x12x3x3, .f32⟩
  | .hbm, ⟨2, _⟩ => ⟨S16, .f32⟩
  | .hbm, ⟨3, _⟩ => ⟨S108x16, .f32⟩
  | .hbm, ⟨4, _⟩ => ⟨S16, .f32⟩
  | .hbm, ⟨5, _⟩ => ⟨S64x32x1x1, .f32⟩
  | .hbm, ⟨6, _⟩ => ⟨S64, .f32⟩
  | .hbm, ⟨7, _⟩ => ⟨S32x3x16x2x16x2, .f32⟩
  | .hbm, ⟨8, _⟩ => ⟨S32x3x2x2x16x16, .f32⟩
  | .hbm, ⟨9, _⟩ => ⟨S32x12x16x16, .f32⟩
  | .hbm, ⟨10, _⟩ => ⟨S_, .f32⟩
  | .hbm, ⟨11, _⟩ => ⟨S32x12x18x18, .f32⟩
  | .hbm, ⟨12, _⟩ => ⟨S32x18x18x16x3x3, .f32⟩
  | .hbm, ⟨13, _⟩ => ⟨S32x16x16x16x1x1, .f32⟩
  | .hbm, ⟨14, _⟩ => ⟨S32x16x16x16, .f32⟩
  | .hbm, ⟨15, _⟩ => ⟨S32x16x16x16x1x1, .f32⟩
  | .hbm, ⟨16, _⟩ => ⟨S32x16x16x16, .f32⟩
  | .hbm, ⟨17, _⟩ => ⟨S32x16x16x16x1x1, .f32⟩
  | .hbm, ⟨18, _⟩ => ⟨S32x16x16x16, .f32⟩
  | .hbm, ⟨19, _⟩ => ⟨S32x16x16x16x1x1, .f32⟩
  | .hbm, ⟨20, _⟩ => ⟨S32x16x16x16, .f32⟩
  | .hbm, ⟨21, _⟩ => ⟨S32x16x16x16x1x1, .f32⟩
  | .hbm, ⟨22, _⟩ => ⟨S32x16x16x16, .f32⟩
  | .hbm, ⟨23, _⟩ => ⟨S32x16x16x16x1x1, .f32⟩
  | .hbm, ⟨24, _⟩ => ⟨S32x16x16x16, .f32⟩
  | .hbm, ⟨25, _⟩ => ⟨S32x16x16x16x1x1, .f32⟩
  | .hbm, ⟨26, _⟩ => ⟨S32x16x16x16, .f32⟩
  | .hbm, ⟨27, _⟩ => ⟨S32x16x16x16x1x1, .f32⟩
  | .hbm, ⟨28, _⟩ => ⟨S32x16x16x16, .f32⟩
  | .hbm, ⟨29, _⟩ => ⟨S32x16x16x16x1x1, .f32⟩
  | .hbm, ⟨30, _⟩ => ⟨S32x16x16x16, .f32⟩
  | .hbm, ⟨31, _⟩ => ⟨S32x16x16x16, .f32⟩
  | .hbm, ⟨32, _⟩ => ⟨S32x16x16x16, .f32⟩
  | .hbm, ⟨33, _⟩ => ⟨S32x16x16x16, .f32⟩
  | .hbm, ⟨34, _⟩ => ⟨S32x16x16x16, .f32⟩
  | .hbm, ⟨35, _⟩ => ⟨S32x16x16x16, .f32⟩
  | .hbm, ⟨36, _⟩ => ⟨S32x16x16x16, .f32⟩
  | .hbm, ⟨37, _⟩ => ⟨S32x16x16x16, .f32⟩
  | .hbm, ⟨38, _⟩ => ⟨S32x16x16x16, .f32⟩
  | .hbm, ⟨39, _⟩ => ⟨S32x16x16x16, .f32⟩
  | .hbm, ⟨40, _⟩ => ⟨S1x16x1x1, .f32⟩
  | .hbm, ⟨41, _⟩ => ⟨S32x16x16x16, .f32⟩
  | .hbm, ⟨42, _⟩ => ⟨S32x16x16x16, .f32⟩
  | .hbm, ⟨43, _⟩ => ⟨S_, .f32⟩
  | .hbm, ⟨44, _⟩ => ⟨S32x16x16x16, .f32⟩
  | .hbm, ⟨45, _⟩ => ⟨S32x16x16x16, .f32⟩
  | .hbm, ⟨46, _⟩ => ⟨S32x12x256, .f32⟩
  | .hbm, ⟨47, _⟩ => ⟨S32x256x12, .f32⟩
  | .hbm, ⟨48, _⟩ => ⟨S32x32x12, .f32⟩
  | .hbm, ⟨49, _⟩ => ⟨S32x256x12, .f32⟩
  | .hbm, ⟨50, _⟩ => ⟨S_, .f32⟩
  | .hbm, ⟨51, _⟩ => ⟨S32x256, .f32⟩
  | .hbm, ⟨52, _⟩ => ⟨S32x256x1, .f32⟩
  | .hbm, ⟨53, _⟩ => ⟨S32x32x12, .f32⟩
  | .hbm, ⟨54, _⟩ => ⟨S_, .f32⟩
  | .hbm, ⟨55, _⟩ => ⟨S32x32, .f32⟩
  | .hbm, ⟨56, _⟩ => ⟨S32x1x32, .f32⟩
  | .hbm, ⟨57, _⟩ => ⟨S32x256x32, .f32⟩
  | .hbm, ⟨58, _⟩ => ⟨S_, .f32⟩
  | .hbm, ⟨59, _⟩ => ⟨S32x256x32, .f32⟩
  | .hbm, ⟨60, _⟩ => ⟨S32x256x32, .f32⟩
  | .hbm, ⟨61, _⟩ => ⟨S32x256x32, .f32⟩
  | .hbm, ⟨62, _⟩ => ⟨S32x256x32, .f32⟩
  | .hbm, ⟨63, _⟩ => ⟨S32x256x32, .f32⟩
  | .hbm, ⟨64, _⟩ => ⟨S32x256x32, .f32⟩
  | .hbm, ⟨65, _⟩ => ⟨S32x256x32, .f32⟩
  | .hbm, ⟨66, _⟩ => ⟨S32x256x9, .f32⟩
  | .hbm, ⟨67, _⟩ => ⟨S32x256x9, .i32⟩
  | .hbm, ⟨68, _⟩ => ⟨S_, .i32⟩
  | .hbm, ⟨69, _⟩ => ⟨S32x256x9, .i32⟩
  | .hbm, ⟨70, _⟩ => ⟨S32x256x9, .i1⟩
  | .hbm, ⟨71, _⟩ => ⟨S_, .i32⟩
  | .hbm, ⟨72, _⟩ => ⟨S32x256x9, .i32⟩
  | .hbm, ⟨73, _⟩ => ⟨S32x256x9, .i32⟩
  | .hbm, ⟨74, _⟩ => ⟨S32x256x9, .i32⟩
  | .hbm, ⟨75, _⟩ => ⟨S32x256x9x1, .i32⟩
  | .hbm, ⟨76, _⟩ => ⟨S32x256x9x12, .f32⟩
  | .hbm, ⟨77, _⟩ => ⟨S32x256x108, .f32⟩
  | .hbm, ⟨78, _⟩ => ⟨S32x256x16, .f32⟩
  | .hbm, ⟨79, _⟩ => ⟨S1x1x16, .f32⟩
  | .hbm, ⟨80, _⟩ => ⟨S32x256x16, .f32⟩
  | .hbm, ⟨81, _⟩ => ⟨S32x256x16, .f32⟩
  | .hbm, ⟨82, _⟩ => ⟨S32x16x256, .f32⟩
  | .hbm, ⟨83, _⟩ => ⟨S32x16x16x16, .f32⟩
  | .hbm, ⟨84, _⟩ => ⟨S_, .f32⟩
  | .hbm, ⟨85, _⟩ => ⟨S32x16x16x16, .f32⟩
  | .hbm, ⟨86, _⟩ => ⟨S32x16x16x16, .f32⟩
  | .hbm, ⟨87, _⟩ => ⟨S32x32x16x16, .f32⟩
  | .hbm, ⟨88, _⟩ => ⟨S64x32, .f32⟩
  | .hbm, ⟨89, _⟩ => ⟨S32x16x16x64, .f32⟩
  | .hbm, ⟨90, _⟩ => ⟨S32x64x16x16, .f32⟩
  | .hbm, ⟨91, _⟩ => ⟨S1x64x1x1, .f32⟩
  | .hbm, ⟨92, _⟩ => ⟨S32x64x16x16, .f32⟩
  | .hbm, ⟨93, _⟩ => ⟨S32x64x16x16, .f32⟩
  | .hbm, ⟨94, _⟩ => ⟨S_, .f32⟩
  | .hbm, ⟨95, _⟩ => ⟨S32x64x16x16, .f32⟩
  | .hbm, ⟨96, _⟩ => ⟨S32x64x16x16, .f32⟩
  | .hbm, ⟨97, _⟩ => ⟨S64x32x16x16, .f32⟩
  | .hbm, ⟨98, _⟩ => ⟨S64x8192, .f32⟩
  | _, _ => ⟨S32x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_values : Ref sig .tc := ⟨.hbm, 66, rfl⟩
abbrev main_indices : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_c_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_5 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_6 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== KernelAtZero.lean ====
abbrev S10 : Shape := ⟨1, ![10]⟩
abbrev S_ : Shape := ⟨0, ![]⟩
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S1024x32768 : Shape := ⟨2, ![1024, 32768]⟩
abbrev S1024 : Shape := ⟨1, ![1024]⟩
abbrev S10x1024 : Shape := ⟨2, ![10, 1024]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S32x12x256 : Shape := ⟨3, ![32, 12, 256]⟩
abbrev S12x32x256 : Shape := ⟨3, ![12, 32, 256]⟩
abbrev S12x8192 : Shape := ⟨2, ![12, 8192]⟩
abbrev S16x3x3x12 : Shape := ⟨4, ![16, 3, 3, 12]⟩
abbrev S16x108 : Shape := ⟨2, ![16, 108]⟩
abbrev S64x32 : Shape := ⟨2, ![64, 32]⟩
abbrev S12x1024 : Shape := ⟨2, ![12, 1024]⟩
abbrev S1024x12 : Shape := ⟨2, ![1024, 12]⟩
abbrev S16x1 : Shape := ⟨2, ![16, 1]⟩
abbrev S64x1 : Shape := ⟨2, ![64, 1]⟩
abbrev S64x8192 : Shape := ⟨2, ![64, 8192]⟩
abbrev S12x2048 : Shape := ⟨2, ![12, 2048]⟩
abbrev S256x12 : Shape := ⟨2, ![256, 12]⟩
abbrev S12x256 : Shape := ⟨2, ![12, 256]⟩
abbrev S64x2048 : Shape := ⟨2, ![64, 2048]⟩
abbrev S1x2048 : Shape := ⟨2, ![1, 2048]⟩
abbrev S16x2048 : Shape := ⟨2, ![16, 2048]⟩
abbrev S16x12 : Shape := ⟨2, ![16, 12]⟩
abbrev S2048 : Shape := ⟨1, ![2048]⟩
abbrev S32x12 : Shape := ⟨2, ![32, 12]⟩
abbrev S32x1 : Shape := ⟨2, ![32, 1]⟩
abbrev S32x256 : Shape := ⟨2, ![32, 256]⟩
abbrev S1x256 : Shape := ⟨2, ![1, 256]⟩
abbrev S32x2048 : Shape := ⟨2, ![32, 2048]⟩
abbrev S16x256 : Shape := ⟨2, ![16, 256]⟩
abbrev S16x32 : Shape := ⟨2, ![16, 32]⟩
abbrev S16x288 : Shape := ⟨2, ![16, 288]⟩
abbrev S288x256 : Shape := ⟨2, ![288, 256]⟩
abbrev S32x3x3x64 : Shape := ⟨4, ![32, 3, 3, 64]⟩
abbrev S32x576 : Shape := ⟨2, ![32, 576]⟩
abbrev S128x64 : Shape := ⟨2, ![128, 64]⟩
abbrev S64x1024 : Shape := ⟨2, ![64, 1024]⟩
abbrev S1024x64 : Shape := ⟨2, ![1024, 64]⟩
abbrev S128x1 : Shape := ⟨2, ![128, 1]⟩
abbrev S128x8192 : Shape := ⟨2, ![128, 8192]⟩
abbrev S256x64 : Shape := ⟨2, ![256, 64]⟩
abbrev S64x256 : Shape := ⟨2, ![64, 256]⟩
abbrev S128x2048 : Shape := ⟨2, ![128, 2048]⟩
abbrev S32x64 : Shape := ⟨2, ![32, 64]⟩
abbrev S32x32 : Shape := ⟨2, ![32, 32]⟩
abbrev S32x288 : Shape := ⟨2, ![32, 288]⟩
abbrev S128x32x256 : Shape := ⟨3, ![128, 32, 256]⟩
abbrev S32x128x256 : Shape := ⟨3, ![32, 128, 256]⟩
abbrev S32x128x16x16 : Shape := ⟨4, ![32, 128, 16, 16]⟩
abbrev S32x32x2x2x16x16 : Shape := ⟨6, ![32, 32, 2, 2, 16, 16]⟩
abbrev S32x32x16x2x16x2 : Shape := ⟨6, ![32, 32, 16, 2, 16, 2]⟩
abbrev S32x32x32x32 : Shape := ⟨4, ![32, 32, 32, 32]⟩
abbrev S32x32768 : Shape := ⟨2, ![32, 32768]⟩
abbrev S10x32 : Shape := ⟨2, ![10, 32]⟩
abbrev S32x10 : Shape := ⟨2, ![32, 10]⟩

abbrev nBuf : Space → Nat
  | .hbm => 68
  | .vmem => 28
  | .smem => 0
  | _ => 0

abbrev bufTy : (tb : Table) → Fin (tcTables nBuf tb) → BufTy
  | .hbm, ⟨0, _⟩ => ⟨S10, .f32⟩
  | .hbm, ⟨1, _⟩ => ⟨S_, .f32⟩
  | .hbm, ⟨2, _⟩ => ⟨S32x3x32x32, .f32⟩
  | .hbm, ⟨3, _⟩ => ⟨S_, .f32⟩
  | .hbm, ⟨4, _⟩ => ⟨S16x12x3x3, .f32⟩
  | .hbm, ⟨5, _⟩ => ⟨S_, .f32⟩
  | .hbm, ⟨6, _⟩ => ⟨S16, .f32⟩
  | .hbm, ⟨7, _⟩ => ⟨S_, .f32⟩
  | .hbm, ⟨8, _⟩ => ⟨S108x16, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S64x32x1x1, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S32x64x3x3, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S576x32, .f32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S128x64x1x1, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S1024x32768, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S10x1024, .f32⟩
  | .hbm, ⟨33, _⟩ => ⟨S32x3x16x2x16x2, .f32⟩
  | .hbm, ⟨34, _⟩ => ⟨S32x3x2x2x16x16, .f32⟩
  | .hbm, ⟨35, _⟩ => ⟨S32x12x16x16, .f32⟩
  | .hbm, ⟨36, _⟩ => ⟨S32x12x256, .f32⟩
  | .hbm, ⟨37, _⟩ => ⟨S12x32x256, .f32⟩
  | .hbm, ⟨38, _⟩ => ⟨S12x8192, .f32⟩
  | .hbm, ⟨39, _⟩ => ⟨S16x3x3x12, .f32⟩
  | .hbm, ⟨40, _⟩ => ⟨S16x108, .f32⟩
  | .hbm, ⟨41, _⟩ => ⟨S16x108, .f32⟩
  | .hbm, ⟨42, _⟩ => ⟨S64x32, .f32⟩
  | .hbm, ⟨43, _⟩ => ⟨S12x1024, .f32⟩
  | .hbm, ⟨44, _⟩ => ⟨S1024x12, .f32⟩
  | .hbm, ⟨45, _⟩ => ⟨S16x1, .f32⟩
  | .hbm, ⟨46, _⟩ => ⟨S16x1, .f32⟩
  | .hbm, ⟨47, _⟩ => ⟨S64x1, .f32⟩
  | .hbm, ⟨48, _⟩ => ⟨S64x8192, .f32⟩
  | .hbm, ⟨49, _⟩ => ⟨S32x3x3x64, .f32⟩
  | .hbm, ⟨50, _⟩ => ⟨S32x576, .f32⟩
  | .hbm, ⟨51, _⟩ => ⟨S32x576, .f32⟩
  | .hbm, ⟨52, _⟩ => ⟨S128x64, .f32⟩
  | .hbm, ⟨53, _⟩ => ⟨S64x1024, .f32⟩
  | .hbm, ⟨54, _⟩ => ⟨S1024x64, .f32⟩
  | .hbm, ⟨55, _⟩ => ⟨S32x1, .f32⟩
  | .hbm, ⟨56, _⟩ => ⟨S32x1, .f32⟩
  | .hbm, ⟨57, _⟩ => ⟨S128x1, .f32⟩
  | .hbm, ⟨58, _⟩ => ⟨S128x8192, .f32⟩
  | .hbm, ⟨59, _⟩ => ⟨S128x32x256, .f32⟩
  | .hbm, ⟨60, _⟩ => ⟨S32x128x256, .f32⟩
  | .hbm, ⟨61, _⟩ => ⟨S32x128x16x16, .f32⟩
  | .hbm, ⟨62, _⟩ => ⟨S32x32x2x2x16x16, .f32⟩
  | .hbm, ⟨63, _⟩ => ⟨S32x32x16x2x16x2, .f32⟩
  | .hbm, ⟨64, _⟩ => ⟨S32x32x32x32, .f32⟩
  | .hbm, ⟨65, _⟩ => ⟨S32x32768, .f32⟩
  | .hbm, ⟨66, _⟩ => ⟨S10x32, .f32⟩
  | .hbm, ⟨67, _⟩ => ⟨S32x10, .f32⟩
  | .local _ .vmem, ⟨0, _⟩ => ⟨S12x2048, .f32⟩
  | .local _ .vmem, ⟨1, _⟩ => ⟨S12x2048, .f32⟩
  | .local _ .vmem, ⟨2, _⟩ => ⟨S256x12, .f32⟩
  | .local _ .vmem, ⟨3, _⟩ => ⟨S256x12, .f32⟩
  | .local _ .vmem, ⟨4, _⟩ => ⟨S12x256, .f32⟩
  | .local _ .vmem, ⟨5, _⟩ => ⟨S12x256, .f32⟩
  | .local _ .vmem, ⟨6, _⟩ => ⟨S16x108, .f32⟩
  | .local _ .vmem, ⟨7, _⟩ => ⟨S16x1, .f32⟩
  | .local _ .vmem, ⟨8, _⟩ => ⟨S16x108, .f32⟩
  | .local _ .vmem, ⟨9, _⟩ => ⟨S16x1, .f32⟩
  | .local _ .vmem, ⟨10, _⟩ => ⟨S64x32, .f32⟩
  | .local _ .vmem, ⟨11, _⟩ => ⟨S64x1, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S256x64, .f32⟩
  | .local _ .vmem, ⟨17, _⟩ => ⟨S256x64, .f32⟩
  | .local _ .vmem, ⟨18, _⟩ => ⟨S64x256, .f32⟩
  | .local _ .vmem, ⟨19, _⟩ => ⟨S64x256, .f32⟩
  | .local _ .vmem, ⟨20, _⟩ => ⟨S32x576, .f32⟩
  | .local _ .vmem, ⟨21, _⟩ => ⟨S32x1, .f32⟩
  | .local _ .vmem, ⟨22, _⟩ => ⟨S32x576, .f32⟩
  | .local _ .vmem, ⟨23, _⟩ => ⟨S32x1, .f32⟩
  | .local _ .vmem, ⟨24, _⟩ => ⟨S128x64, .f32⟩
  | .local _ .vmem, ⟨25, _⟩ => ⟨S128x1, .f32⟩
  | .local _ .vmem, ⟨26, _⟩ => ⟨S128x2048, .f32⟩
  | .local _ .vmem, ⟨27, _⟩ => ⟨S128x2048, .f32⟩
  | _, _ => ⟨S10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_cst_5 : Ref sig .tc := ⟨.hbm, 13, rfl⟩
abbrev main_v6 : Ref sig .tc := ⟨.hbm, 14, rfl⟩
abbrev main_cst_6 : Ref sig .tc := ⟨.hbm, 15, rfl⟩
abbrev main_v7 : Ref sig .tc := ⟨.hbm, 16, rfl⟩
abbrev main_cst_7 : Ref sig .tc := ⟨.hbm, 17, rfl⟩
abbrev main_v8 : Ref sig .tc := ⟨.hbm, 18, rfl⟩
abbrev main_cst_8 : Ref sig .tc := ⟨.hbm, 19, rfl⟩
abbrev main_v9 : Ref sig .tc := ⟨.hbm, 20, rfl⟩
abbrev main_cst_9 : Ref sig .tc := ⟨.hbm, 21, rfl⟩
abbrev main_v10 : Ref sig .tc := ⟨.hbm, 22, rfl⟩
abbrev main_cst_10 : Ref sig .tc := ⟨.hbm, 23, rfl⟩
abbrev main_v11 : Ref sig .tc := ⟨.hbm, 24, rfl⟩
abbrev main_cst_11 : Ref sig .tc := ⟨.hbm, 25, rfl⟩
abbrev main_v12 : Ref sig .tc := ⟨.hbm, 26, rfl⟩
abbrev main_cst_12 : Ref sig .tc := ⟨.hbm, 27, rfl⟩
abbrev main_v13 : Ref sig .tc := ⟨.hbm, 28, rfl⟩
abbrev main_cst_13 : Ref sig .tc := ⟨.hbm, 29, rfl⟩
abbrev main_v14 : Ref sig .tc := ⟨.hbm, 30, rfl⟩
abbrev main_cst_14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x108 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x108 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceAtZeroIdeal.lean ====
abbrev S10 : Shape := ⟨1, ![10]⟩
abbrev S_ : Shape := ⟨0, ![]⟩
abbrev S32x3x32x32 : Shape := ⟨4, ![32, 3, 32, 32]⟩
abbrev S16x12x3x3 : Shape := ⟨4, ![16, 12, 3, 3]⟩
abbrev S16 : Shape := ⟨1, ![16]⟩
abbrev S108x16 : Shape := ⟨2, ![108, 16]⟩
abbrev S64x32x1x1 : Shape := ⟨4, ![64, 32, 1, 1]⟩
abbrev S64 : Shape := ⟨1, ![64]⟩
abbrev S32x64x3x3 : Shape := ⟨4, ![32, 64, 3, 3]⟩
abbrev S32 : Shape := ⟨1, ![32]⟩
abbrev S576x32 : Shape := ⟨2, ![576, 32]⟩
abbrev S128x64x1x1 : Shape := ⟨4, ![128, 64, 1, 1]⟩
abbrev S128 : Shape := ⟨1, ![128]⟩
abbrev S1024x32768 : Shape := ⟨2, ![1024, 32768]⟩
abbrev S1024 : Shape := ⟨1, ![1024]⟩
abbrev S10x1024 : Shape := ⟨2, ![10, 1024]⟩
abbrev S32x3x16x2x16x2 : Shape := ⟨6, ![32, 3, 16, 2, 16, 2]⟩
abbrev S32x3x2x2x16x16 : Shape := ⟨6, ![32, 3, 2, 2, 16, 16]⟩
abbrev S32x12x16x16 : Shape := ⟨4, ![32, 12, 16, 16]⟩
abbrev S32x12x18x18 : Shape := ⟨4, ![32, 12, 18, 18]⟩
abbrev S32x18x18x16x3x3 : Shape := ⟨6, ![32, 18, 18, 16, 3, 3]⟩
abbrev S32x16x16x16x1x1 : Shape := ⟨6, ![32, 16, 16, 16, 1, 1]⟩
abbrev S32x16x16x16 : Shape := ⟨4, ![32, 16, 16, 16]⟩
abbrev S1x16x1x1 : Shape := ⟨4, ![1, 16, 1, 1]⟩
abbrev S32x12x256 : Shape := ⟨3, ![32, 12, 256]⟩
abbrev S32x256x12 : Shape := ⟨3, ![32, 256, 12]⟩
abbrev S32x32x12 : Shape := ⟨3, ![32, 32, 12]⟩
abbrev S32x256 : Shape := ⟨2, ![32, 256]⟩
abbrev S32x256x1 : Shape := ⟨3, ![32, 256, 1]⟩
abbrev S32x32 : Shape := ⟨2, ![32, 32]⟩
abbrev S32x1x32 : Shape := ⟨3, ![32, 1, 32]⟩
abbrev S32x256x32 : Shape := ⟨3, ![32, 256, 32]⟩
abbrev S32x256x9 : Shape := ⟨3, ![32, 256, 9]⟩
abbrev S32x256x9x1 : Shape := ⟨4, ![32, 256, 9, 1]⟩
abbrev S32x256x9x12 : Shape := ⟨4, ![32, 256, 9, 12]⟩
abbrev S32x256x108 : Shape := ⟨3, ![32, 256, 108]⟩
abbrev S32x256x16 : Shape := ⟨3, ![32, 256, 16]⟩
abbrev S1x1x16 : Shape := ⟨3, ![1, 1, 16]⟩
abbrev S32x16x256 : Shape := ⟨3, ![32, 16, 256]⟩
abbrev S32x32x16x16 : Shape := ⟨4, ![32, 32, 16, 16]⟩
abbrev S64x32 : Shape := ⟨2, ![64, 32]⟩
abbrev S32x16x16x64 : Shape := ⟨4, ![32, 16, 16, 64]⟩
abbrev S32x64x16x16 : Shape := ⟨4, ![32, 64, 16, 16]⟩
abbrev S1x64x1x1 : Shape := ⟨4, ![1, 64, 1, 1]⟩
abbrev S32x16x2x2x16x16 : Shape := ⟨6, ![32, 16, 2, 2, 16, 16]⟩
abbrev S32x16x16x2x16x2 : Shape := ⟨6, ![32, 16, 16, 2, 16, 2]⟩
abbrev S32x16x32x32 : Shape := ⟨4, ![32, 16, 32, 32]⟩
abbrev S32x64x18x18 : Shape := ⟨4, ![32, 64, 18, 18]⟩
abbrev S32x18x18x32x3x3 : Shape := ⟨6, ![32, 18, 18, 32, 3, 3]⟩
abbrev S32x16x16x32x1x1 : Shape := ⟨6, ![32, 16, 16, 32, 1, 1]⟩
abbrev S32x16x16x32 : Shape := ⟨4, ![32, 16, 16, 32]⟩
abbrev S1x32x1x1 : Shape := ⟨4, ![1, 32, 1, 1]⟩
abbrev S32x64x256 : Shape := ⟨3, ![32, 64, 256]⟩
abbrev S32x256x64 : Shape := ⟨3, ![32, 256, 64]⟩
abbrev S32x32x64 : Shape := ⟨3, ![32, 32, 64]⟩
abbrev S32x256x9x64 : Shape := ⟨4, ![32, 256, 9, 64]⟩
abbrev S32x256x576 : Shape := ⟨3, ![32, 256, 576]⟩
abbrev S1x1x32 : Shape := ⟨3, ![1, 1, 32]⟩
abbrev S32x32x256 : Shape := ⟨3, ![32, 32, 256]⟩
abbrev S128x64 : Shape := ⟨2, ![128, 64]⟩
abbrev S32x16x16x128 : Shape := ⟨4, ![32, 16, 16, 128]⟩
abbrev S32x128x16x16 : Shape := ⟨4, ![32, 128, 16, 16]⟩
abbrev S1x128x1x1 : Shape := ⟨4, ![1, 128, 1, 1]⟩
abbrev S32x32x2x2x16x16 : Shape := ⟨6, ![32, 32, 2, 2, 16, 16]⟩
abbrev S32x32x16x2x16x2 : Shape := ⟨6, ![32, 32, 16, 2, 16, 2]⟩
abbrev S32x32x32x32 : Shape := ⟨4, ![32, 32, 32, 32]⟩
abbrev S32x32768 : Shape := ⟨2, ![32, 32768]⟩
abbrev S32768x1024 : Shape := ⟨2, ![32768, 1024]⟩
abbrev S32x1024 : Shape := ⟨2, ![32, 1024]⟩
abbrev S1x1024 : Shape := ⟨2, ![1, 1024]⟩
abbrev S1024x10 : Shape := ⟨2, ![1024, 10]⟩
abbrev S32x10 : Shape := ⟨2, ![32, 10]⟩
abbrev S1x10 : Shape := ⟨2, ![1, 10]⟩

abbrev nBuf : Space → Nat
  | .hbm => 233
  | .vmem => 0
  | .smem => 0
  | _ => 0

abbrev hbmTy0_0 (i : Nat) : BufTy := match i % 128 with
  | 0 => ⟨S10, .f32⟩
  | 1 => ⟨S_, .f32⟩
  | 2 => ⟨S32x3x32x32, .f32⟩
  | 3 => ⟨S_, .f32⟩
  | 4 => ⟨S16x12x3x3, .f32⟩
  | 5 => ⟨S_, .f32⟩
  | 6 => ⟨S16, .f32⟩
  | 7 => ⟨S_, .f32⟩
  | 8 => ⟨S108x16, .f32⟩
  | 9 => ⟨S_, .f32⟩
  | 10 => ⟨S16, .f32⟩
  | 11 => ⟨S_, .f32⟩
  | 12 => ⟨S64x32x1x1, .f32⟩
  | 13 => ⟨S_, .f32⟩
  | 14 => ⟨S64, .f32⟩
  | 15 => ⟨S_, .f32⟩
  | 16 => ⟨S32x64x3x3, .f32⟩
  | 17 => ⟨S_, .f32⟩
  | 18 => ⟨S32, .f32⟩
  | 19 => ⟨S_, .f32⟩
  | 20 => ⟨S576x32, .f32⟩
  | 21 => ⟨S_, .f32⟩
  | 22 => ⟨S32, .f32⟩
  | 23 => ⟨S_, .f32⟩
  | 24 => ⟨S128x64x1x1, .f32⟩
  | 25 => ⟨S_, .f32⟩
  | 26 => ⟨S128, .f32⟩
  | 27 => ⟨S_, .f32⟩
  | 28 => ⟨S1024x32768, .f32⟩
  | 29 => ⟨S_, .f32⟩
  | 30 => ⟨S1024, .f32⟩
  | 31 => ⟨S_, .f32⟩
  | 32 => ⟨S10x1024, .f32⟩
  | 33 => ⟨S32x3x16x2x16x2, .f32⟩
  | 34 => ⟨S32x3x2x2x16x16, .f32⟩
  | 35 => ⟨S32x12x16x16, .f32⟩
  | 36 => ⟨S_, .f32⟩
  | 37 => ⟨S32x12x18x18, .f32⟩
  | 38 => ⟨S32x18x18x16x3x3, .f32⟩
  | 39 => ⟨S32x16x16x16x1x1, .f32⟩
  | 40 => ⟨S32x16x16x16, .f32⟩
  | 41 => ⟨S32x16x16x16x1x1, .f32⟩
  | 42 => ⟨S32x16x16x16, .f32⟩
  | 43 => ⟨S32x16x16x16x1x1, .f32⟩
  | 44 => ⟨S32x16x16x16, .f32⟩
  | 45 => ⟨S32x16x16x16x1x1, .f32⟩
  | 46 => ⟨S32x16x16x16, .f32⟩
  | 47 => ⟨S32x16x16x16x1x1, .f32⟩
  | 48 => ⟨S32x16x16x16, .f32⟩
  | 49 => ⟨S32x16x16x16x1x1, .f32⟩
  | 50 => ⟨S32x16x16x16, .f32⟩
  | 51 => ⟨S32x16x16x16x1x1, .f32⟩
  | 52 => ⟨S32x16x16x16, .f32⟩
  | 53 => ⟨S32x16x16x16x1x1, .f32⟩
  | 54 => ⟨S32x16x16x16, .f32⟩
  | 55 => ⟨S32x16x16x16x1x1, .f32⟩
  | 56 => ⟨S32x16x16x16, .f32⟩
  | 57 => ⟨S32x16x16x16, .f32⟩
  | 58 => ⟨S32x16x16x16, .f32⟩
  | 59 => ⟨S32x16x16x16, .f32⟩
  | 60 => ⟨S32x16x16x16, .f32⟩
  | 61 => ⟨S32x16x16x16, .f32⟩
  | 62 => ⟨S32x16x16x16, .f32⟩
  | 63 => ⟨S32x16x16x16, .f32⟩
  | 64 => ⟨S32x16x16x16, .f32⟩
  | 65 => ⟨S32x16x16x16, .f32⟩
  | 66 => ⟨S1x16x1x1, .f32⟩
  | 67 => ⟨S32x16x16x16, .f32⟩
  | 68 => ⟨S32x16x16x16, .f32⟩
  | 69 => ⟨S_, .f32⟩
  | 70 => ⟨S32x16x16x16, .f32⟩
  | 71 => ⟨S32x16x16x16, .f32⟩
  | 72 => ⟨S32x12x256, .f32⟩
  | 73 => ⟨S32x256x12, .f32⟩
  | 74 => ⟨S32x32x12, .f32⟩
  | 75 => ⟨S32x256x12, .f32⟩
  | 76 => ⟨S_, .f32⟩
  | 77 => ⟨S32x256, .f32⟩
  | 78 => ⟨S32x256x1, .f32⟩
  | 79 => ⟨S32x32x12, .f32⟩
  | 80 => ⟨S_, .f32⟩
  | 81 => ⟨S32x32, .f32⟩
  | 82 => ⟨S32x1x32, .f32⟩
  | 83 => ⟨S32x256x32, .f32⟩
  | 84 => ⟨S_, .f32⟩
  | 85 => ⟨S32x256x32, .f32⟩
  | 86 => ⟨S32x256x32, .f32⟩
  | 87 => ⟨S32x256x32, .f32⟩
  | 88 => ⟨S32x256x32, .f32⟩
  | 89 => ⟨S32x256x32, .f32⟩
  | 90 => ⟨S32x256x32, .f32⟩
  | 91 => ⟨S32x256x32, .f32⟩
  | 92 => ⟨S32x256x9, .f32⟩
  | 93 => ⟨S32x256x9, .i32⟩
  | 94 => ⟨S_, .i32⟩
  | 95 => ⟨S32x256x9, .i32⟩
  | 96 => ⟨S32x256x9, .i1⟩
  | 97 => ⟨S_, .i32⟩
  | 98 => ⟨S32x256x9, .i32⟩
  | 99 => ⟨S32x256x9, .i32⟩
  | 100 => ⟨S32x256x9, .i32⟩
  | 101 => ⟨S32x256x9x1, .i32⟩
  | 102 => ⟨S32x256x9x12, .f32⟩
  | 103 => ⟨S32x256x108, .f32⟩
  | 104 => ⟨S32x256x16, .f32⟩
  | 105 => ⟨S1x1x16, .f32⟩
  | 106 => ⟨S32x256x16, .f32⟩
  | 107 => ⟨S32x256x16, .f32⟩
  | 108 => ⟨S32x16x256, .f32⟩
  | 109 => ⟨S32x16x16x16, .f32⟩
  | 110 => ⟨S_, .f32⟩
  | 111 => ⟨S32x16x16x16, .f32⟩
  | 112 => ⟨S32x16x16x16, .f32⟩
  | 113 => ⟨S32x32x16x16, .f32⟩
  | 114 => ⟨S64x32, .f32⟩
  | 115 => ⟨S32x16x16x64, .f32⟩
  | 116 => ⟨S32x64x16x16, .f32⟩
  | 117 => ⟨S1x64x1x1, .f32⟩
  | 118 => ⟨S32x64x16x16, .f32⟩
  | 119 => ⟨S32x64x16x16, .f32⟩
  | 120 => ⟨S_, .f32⟩
  | 121 => ⟨S32x64x16x16, .f32⟩
  | 122 => ⟨S32x64x16x16, .f32⟩
  | 123 => ⟨S32x16x2x2x16x16, .f32⟩
  | 124 => ⟨S32x16x16x2x16x2, .f32⟩
  | 125 => ⟨S32x16x32x32, .f32⟩
  | 126 => ⟨S32x16x16x2x16x2, .f32⟩
  | 127 => ⟨S32x16x2x2x16x16, .f32⟩
  | _ => ⟨S10, .f32⟩

abbrev hbmTy0_1 (i : Nat) : BufTy := match i % 128 with
  | 0 => ⟨S32x64x16x16, .f32⟩
  | 1 => ⟨S_, .f32⟩
  | 2 => ⟨S32x64x18x18, .f32⟩
  | 3 => ⟨S32x18x18x32x3x3, .f32⟩
  | 4 => ⟨S32x16x16x32x1x1, .f32⟩
  | 5 => ⟨S32x16x16x32, .f32⟩
  | 6 => ⟨S32x16x16x32x1x1, .f32⟩
  | 7 => ⟨S32x16x16x32, .f32⟩
  | 8 => ⟨S32x16x16x32x1x1, .f32⟩
  | 9 => ⟨S32x16x16x32, .f32⟩
  | 10 => ⟨S32x16x16x32x1x1, .f32⟩
  | 11 => ⟨S32x16x16x32, .f32⟩
  | 12 => ⟨S32x16x16x32x1x1, .f32⟩
  | 13 => ⟨S32x16x16x32, .f32⟩
  | 14 => ⟨S32x16x16x32x1x1, .f32⟩
  | 15 => ⟨S32x16x16x32, .f32⟩
  | 16 => ⟨S32x16x16x32x1x1, .f32⟩
  | 17 => ⟨S32x16x16x32, .f32⟩
  | 18 => ⟨S32x16x16x32x1x1, .f32⟩
  | 19 => ⟨S32x16x16x32, .f32⟩
  | 20 => ⟨S32x16x16x32x1x1, .f32⟩
  | 21 => ⟨S32x16x16x32, .f32⟩
  | 22 => ⟨S32x16x16x32, .f32⟩
  | 23 => ⟨S32x16x16x32, .f32⟩
  | 24 => ⟨S32x16x16x32, .f32⟩
  | 25 => ⟨S32x16x16x32, .f32⟩
  | 26 => ⟨S32x16x16x32, .f32⟩
  | 27 => ⟨S32x16x16x32, .f32⟩
  | 28 => ⟨S32x16x16x32, .f32⟩
  | 29 => ⟨S32x16x16x32, .f32⟩
  | 30 => ⟨S32x32x16x16, .f32⟩
  | 31 => ⟨S1x32x1x1, .f32⟩
  | 32 => ⟨S32x32x16x16, .f32⟩
  | 33 => ⟨S32x32x16x16, .f32⟩
  | 34 => ⟨S_, .f32⟩
  | 35 => ⟨S32x32x16x16, .f32⟩
  | 36 => ⟨S32x32x16x16, .f32⟩
  | 37 => ⟨S32x64x256, .f32⟩
  | 38 => ⟨S32x256x64, .f32⟩
  | 39 => ⟨S32x32x64, .f32⟩
  | 40 => ⟨S32x256x64, .f32⟩
  | 41 => ⟨S_, .f32⟩
  | 42 => ⟨S32x256, .f32⟩
  | 43 => ⟨S32x256x1, .f32⟩
  | 44 => ⟨S32x32x64, .f32⟩
  | 45 => ⟨S_, .f32⟩
  | 46 => ⟨S32x32, .f32⟩
  | 47 => ⟨S32x1x32, .f32⟩
  | 48 => ⟨S32x256x32, .f32⟩
  | 49 => ⟨S_, .f32⟩
  | 50 => ⟨S32x256x32, .f32⟩
  | 51 => ⟨S32x256x32, .f32⟩
  | 52 => ⟨S32x256x32, .f32⟩
  | 53 => ⟨S32x256x32, .f32⟩
  | 54 => ⟨S32x256x32, .f32⟩
  | 55 => ⟨S32x256x32, .f32⟩
  | 56 => ⟨S32x256x32, .f32⟩
  | 57 => ⟨S32x256x9, .f32⟩
  | 58 => ⟨S32x256x9, .i32⟩
  | 59 => ⟨S_, .i32⟩
  | 60 => ⟨S32x256x9, .i32⟩
  | 61 => ⟨S32x256x9, .i1⟩
  | 62 => ⟨S_, .i32⟩
  | 63 => ⟨S32x256x9, .i32⟩
  | 64 => ⟨S32x256x9, .i32⟩
  | 65 => ⟨S32x256x9, .i32⟩
  | 66 => ⟨S32x256x9x1, .i32⟩
  | 67 => ⟨S32x256x9x64, .f32⟩
  | 68 => ⟨S32x256x576, .f32⟩
  | 69 => ⟨S32x256x32, .f32⟩
  | 70 => ⟨S1x1x32, .f32⟩
  | 71 => ⟨S32x256x32, .f32⟩
  | 72 => ⟨S32x256x32, .f32⟩
  | 73 => ⟨S32x32x256, .f32⟩
  | 74 => ⟨S32x32x16x16, .f32⟩
  | 75 => ⟨S_, .f32⟩
  | 76 => ⟨S32x32x16x16, .f32⟩
  | 77 => ⟨S32x32x16x16, .f32⟩
  | 78 => ⟨S32x64x16x16, .f32⟩
  | 79 => ⟨S128x64, .f32⟩
  | 80 => ⟨S32x16x16x128, .f32⟩
  | 81 => ⟨S32x128x16x16, .f32⟩
  | 82 => ⟨S1x128x1x1, .f32⟩
  | 83 => ⟨S32x128x16x16, .f32⟩
  | 84 => ⟨S32x128x16x16, .f32⟩
  | 85 => ⟨S_, .f32⟩
  | 86 => ⟨S32x128x16x16, .f32⟩
  | 87 => ⟨S32x128x16x16, .f32⟩
  | 88 => ⟨S32x32x2x2x16x16, .f32⟩
  | 89 => ⟨S32x32x16x2x16x2, .f32⟩
  | 90 => ⟨S32x32x32x32, .f32⟩
  | 91 => ⟨S32x32768, .f32⟩
  | 92 => ⟨S32768x1024, .f32⟩
  | 93 => ⟨S32x1024, .f32⟩
  | 94 => ⟨S1x1024, .f32⟩
  | 95 => ⟨S32x1024, .f32⟩
  | 96 => ⟨S32x1024, .f32⟩
  | 97 => ⟨S_, .f32⟩
  | 98 => ⟨S32x1024, .f32⟩
  | 99 => ⟨S32x1024, .f32⟩
  | 100 => ⟨S1024x10, .f32⟩
  | 101 => ⟨S32x10, .f32⟩
  | 102 => ⟨S1x10, .f32⟩
  | 103 => ⟨S32x10, .f32⟩
  | 104 => ⟨S32x10, .f32⟩
  | _ => ⟨S10, .f32⟩

abbrev hbmTy (i : Nat) : BufTy := match i / 128 with
  | 0 => hbmTy0_0 i
  | 1 => hbmTy0_1 i
  | _ => ⟨S10, .f32⟩

abbrev bufTy : (tb : Table) → Fin (tcTables nBuf tb) → BufTy
  | .hbm, ⟨i, _⟩ => hbmTy i
  | _, _ => ⟨S10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_cst_3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_cst_5 : Ref sig .tc := ⟨.hbm, 13, rfl⟩
abbrev main_v6 : Ref sig .tc := ⟨.hbm, 14, rfl⟩
abbrev main_cst_6 : Ref sig .tc := ⟨.hbm, 15, rfl⟩
abbrev main_v7 : Ref sig .tc := ⟨.hbm, 16, rfl⟩
abbrev main_cst_7 : Ref sig .tc := ⟨.hbm, 17, rfl⟩
abbrev main_v8 : Ref sig .tc := ⟨.hbm, 18, rfl⟩
abbrev main_cst_8 : Ref sig .tc := ⟨.hbm, 19, rfl⟩
abbrev main_v9 : Ref sig .tc := ⟨.hbm, 20, rfl⟩
abbrev main_cst_9 : Ref sig .tc := ⟨.hbm, 21, rfl⟩
abbrev main_v10 : Ref sig .tc := ⟨.hbm, 22, rfl⟩
abbrev main_cst_10 : Ref sig .tc := ⟨.hbm, 23, rfl⟩
abbrev main_v11 : Ref sig .tc := ⟨.hbm, 24, rfl⟩
abbrev main_cst_11 : Ref sig .tc := ⟨.hbm, 25, rfl⟩
abbrev main_v12 : Ref sig .tc := ⟨.hbm, 26, rfl⟩
abbrev main_cst_12 : Ref sig .tc := ⟨.hbm, 27, rfl⟩
abbrev main_v13 : Ref sig .tc := ⟨.hbm, 28, rfl⟩
abbrev main_cst_13 : Ref sig .tc := ⟨.hbm, 29, rfl⟩
abbrev main_v14 : Ref sig .tc := ⟨.hbm, 30, rfl⟩
abbrev main_cst_14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_15 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_16 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_17 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_18 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_19 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_values : Ref sig .tc := ⟨.hbm, 92, rfl⟩
abbrev main_indices : Ref sig .tc := ⟨.hbm, 93, rfl⟩
abbrev main_c : Ref sig .tc := ⟨.hbm, 94, rfl⟩
abbrev main_v70 : Ref sig .tc := ⟨.hbm, 95, rfl⟩
abbrev main_v71 : Ref sig .tc := ⟨.hbm, 96, rfl⟩
abbrev main_c_20 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_21 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_22 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_24 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_25 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_26 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_27 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_values_28 : Ref sig .tc := ⟨.hbm, 185, rfl⟩
abbrev main_indices_29 : Ref sig .tc := ⟨.hbm, 186, rfl⟩
abbrev main_c_30 : Ref sig .tc := ⟨.hbm, 187, rfl⟩
abbrev main_v152 : Ref sig .tc := ⟨.hbm, 188, rfl⟩
abbrev main_v153 : Ref sig .tc := ⟨.hbm, 189, rfl⟩
abbrev main_c_31 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_32 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_33 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_call0_cst : Ref sig .tc := ⟨.hbm, 225, rfl⟩
abbrev main_call0_v0 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩

abbrev nD : Nat := 1
abbrev τ : Topo := Topo.v7x

variable {F : FTy → Type} [FloatOps F]
-- ==== Proof.HeadKernel.lean ====
/- The head's kernel: what its accumulator and its result hold. Eight grid points each add, into a 1024 by 32 scratch, the
   product of a 1024 by 4096 block of the first weights with a 4096 by 32 block of the features; the last point then adds the
   first bias, takes the positive part, and multiplies by the second weights. -/
module

public import proofs.«01_k».proof.Proof.Gen.Kernel3Ideal.Value
public import Idealize.ShloMosaic.Lib.Pointwise
public import Idealize.ShloMosaic.Lib.Pipeline.Value

@[expose] public section

noncomputable section

namespace Cert.Kernel3Ideal.Head

open Cert.Kernel3Ideal Cert.Kernel3Ideal.Gen Cert.Kernel3Ideal.Value Idealize.ShloMosaic Idealize.ShloMosaic.TcCoe Idealize.SL.Sem

/-- The offsets written out are zero on each axis. -/
theorem hz : (![0, 0] : Fin 2 → Nat) = fun _ => 0 := funext fun a => by fin_cases a <;> rfl

variable {F : FTy → Type} [FloatOps F]

/-- The first point leaves, in the scratch, the product of its two blocks added to zero. -/
theorem sout_A (c i a1 h1 a2 h2 a3 h3 a4 h4 a5 h5 a6 h6 a7 h7 hc0 hc1 x0 x1 x2 x3 x4) :
    sout0_A_0 (F := F) c i a1 h1 a2 h2 a3 h3 a4 h4 a5 h5 a6 h6 a7 h7 hc0 hc1 x0 x1 x2 x3 x4 = k0_pay2 k0_pay1 x0 x1 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1024x32) hz, View.readCov_unit_zero (S := S1024x32) _ hz]
  simp only [View.readAt_eq_ld, h1.read_unread, h2.read_unread, View.ld_unit_zero (S := S1024x4096) hz, View.ld_unit_zero (S := S4096x32) hz]

/-- A middle point adds the product of its two blocks to the scratch. -/
theorem sout_B (c i a1 h1 a2 h2 a3 h3 a4 h4 a5 h5 a6 h6 a7 h7 hc0 hc1 x0 x1 x2 x3 x4 xs) :
    sout0_B_0 (F := F) c i a1 h1 a2 h2 a3 h3 a4 h4 a5 h5 a6 h6 a7 h7 hc0 hc1 x0 x1 x2 x3 x4 xs = k0_pay2 xs x0 x1 := by
  unfold sout0_B_0
  rw [View.read_writes_eq_canon _ _ _ (scover0_B_0 c i a1 h1 a2 h2 a3 h3 a4 h4 a5 h5 a6 h6 a7 h7 hc0 hc1 x0 x1 x2 x3 x4 xs)]
  unfold kernelRun0_B
  dsimp only
  rw [View.canon_unit_zero hz]
  simp only [View.readAt_eq_ld, h1.read_unread, h2.read_unread, h7.read_unread, View.ld_unit_zero (S := S1024x4096) hz, View.ld_unit_zero (S := S4096x32) hz, View.ld_unit_zero (S := S1024x32) hz]

/-- The last point's result: the head's second half on the scratch with the last product added. -/
theorem out_C (c i a1 h1 a2 h2 a3 h3 a4 h4 a5 h5 a6 h6 a7 h7 hc0 hc1 x0 x1 x2 x3 x4 xs) :
    out0_C_5 (F := F) c i a1 h1 a2 h2 a3 h3 a4 h4 a5 h5 a6 h6 a7 h7 hc0 hc1 x0 x1 x2 x3 x4 xs = k0_pay3 (k0_pay2 xs x0 x1) x2 x3 x4 := by
  unfold out0_C_5
  rw [View.read_writes_eq_canon _ _ _ (cover0_C_5 c i a1 h1 a2 h2 a3 h3 a4 h4 a5 h5 a6 h6 a7 h7 hc0 hc1 x0 x1 x2 x3 x4 xs)]
  unfold kernelRun0_C
  dsimp only
  sl_unfold_words
  rw [View.canon_unit_zero hz, View.readCov_unit_zero (S := S1024x32) _ hz]
  simp only [View.readAt_eq_ld, h1.read_unread, h2.read_unread, h3.read_unread, h4.read_unread, h5.read_unread, h7.read_unread, View.ld_unit_zero (S := S1024x4096) hz, View.ld_unit_zero (S := S4096x32) hz, View.ld_unit_zero (S := S1024x32) hz, View.ld_unit_zero (S := S1024x1) hz, View.ld_unit_zero (S := S10x1024) hz, View.ld_unit_zero (S := S10x1) hz]

/-- The accumulation step at an entry. -/
theorem pay2_apply (v : Vec Ideal S1024x32 .f32) (x : Vec Ideal S1024x4096 .f32) (y : Vec Ideal S4096x32 .f32) (r : Fin 1024) (l : Fin 32) :
    k0_pay2 v x y (ix2 r l) = v (ix2 r l) + ∑ k : Fin 4096, x (ix2 r k) * y (ix2 k l) := by
  pointwise [k0_pay2]

/-- The zero the scratch starts from. -/
theorem pay1_apply (r : Fin 1024) (l : Fin 32) : k0_pay1 (F := Ideal) (ix2 r l) = 0 := by
  pointwise [k0_pay1]

/-- The second half of the head at an entry. -/
theorem pay3_apply (v : Vec Ideal S1024x32 .f32) (b1 : Vec Ideal S1024x1 .f32) (w : Vec Ideal S10x1024 .f32) (b2 : Vec Ideal S10x1 .f32) (r : Fin 10) (l : Fin 32) :
    k0_pay3 v b1 w b2 (ix2 r l) = (∑ k : Fin 1024, w (ix2 r k) * max (v (ix2 k l) + b1 (ix2 k 0)) 0) + b2 (ix2 r 0) := by
  pointwise [k0_pay3]

section

variable (m : (ℓ : Loc nD τ sig) → Buf (Elt F) ℓ)

/-- Point `t` reads columns `4096 t …` of the first weights. -/
theorem iblk0 (c : Dev nD) (t : Fin cfg0.N) (r : Fin 1024) (k : Fin 4096) (h : 4096 * t.val + k.val < 32768) :
    (iblk m c 0 t : Vec F S1024x4096 .f32) (ix2 r k) = (m ((c : Thread nD τ).loc main_arg0) : Vec F S1024x32768 .f32) (ix2 r ⟨4096 * t.val + k.val, h⟩) := by
  have hi : win0_0.index t 0 = 0 ∧ win0_0.index t 1 = t.val := (by decide +kernel : ∀ t : Fin grid0.N, win0_0.index t 0 = 0 ∧ win0_0.index t 1 = t.val) t
  unfold iblk
  rw [View.read_apply]
  show V m c main_arg0 _ = _
  rw [V_main_arg0]
  congr 1
  funext a
  apply Fin.ext
  match a with
  | ⟨0, _⟩ => show win0_0.index t 0 * 1024 + 1 * r.val = r.val; rw [hi.1]; omega
  | ⟨1, _⟩ => show win0_0.index t 1 * 4096 + 1 * k.val = 4096 * t.val + k.val; rw [hi.2]; omega

/-- Point `t` reads rows `4096 t …` of the features. -/
theorem iblk1 (c : Dev nD) (t : Fin cfg0.N) (k : Fin 4096) (l : Fin 32) (h : 4096 * t.val + k.val < 32768) :
    (iblk m c 1 t : Vec F S4096x32 .f32) (ix2 k l) = (m ((c : Thread nD τ).loc main_arg1) : Vec F S32768x32 .f32) (ix2 ⟨4096 * t.val + k.val, h⟩ l) := by
  have hi : win0_1.index t 0 = t.val ∧ win0_1.index t 1 = 0 := (by decide +kernel : ∀ t : Fin grid0.N, win0_1.index t 0 = t.val ∧ win0_1.index t 1 = 0) t
  unfold iblk
  rw [View.read_apply]
  show V m c main_arg1 _ = _
  rw [V_main_arg1]
  congr 1
  funext a
  apply Fin.ext
  match a with
  | ⟨0, _⟩ => show win0_1.index t 0 * 4096 + 1 * k.val = 4096 * t.val + k.val; rw [hi.1]; omega
  | ⟨1, _⟩ => show win0_1.index t 1 * 32 + 1 * l.val = l.val; rw [hi.2]; omega

/-- The first bias, staged whole as a column. -/
theorem iblk2 (c : Dev nD) (t : Fin cfg0.N) (r : Fin 1024) :
    (iblk m c 2 t : Vec F S1024x1 .f32) (ix2 r 0) = (m ((c : Thread nD τ).loc main_arg2) : Vec F S1024 .f32) (ix1 r) := by
  have hi : win0_2.index t 0 = 0 ∧ win0_2.index t 1 = 0 := (by decide +kernel : ∀ t : Fin grid0.N, win0_2.index t 0 = 0 ∧ win0_2.index t 1 = 0) t
  have hv : V m c main_v0 = shapeCast S1024x1 (m ((c : Thread nD τ).loc main_arg2) : Vec F S1024 .f32) shapeCasts_S1024_S1024x1 := by
    unfold V
    after_results
    rfl
  unfold iblk
  rw [View.read_apply]
  show V m c main_v0 _ = _
  rw [hv]
  have e : ∀ i : S1024x1.Idx, (i 0).val = r.val → shapeCast S1024x1 (m ((c : Thread nD τ).loc main_arg2) : Vec F S1024 .f32) shapeCasts_S1024_S1024x1 i = (m ((c : Thread nD τ).loc main_arg2) : Vec F S1024 .f32) (ix1 r) := by
    intro i h
    have e0 : i 0 = r := Fin.ext h
    have e1 : i 1 = (0 : Fin 1) := Subsingleton.elim (α := Fin 1) _ _
    rw [eq_ix2 i, e0, e1]
    pointwise
  exact e _ (by show win0_2.index t 0 * 1024 + 1 * r.val = r.val; rw [hi.1]; omega)

/-- The second weights, staged whole. -/
theorem iblk3 (c : Dev nD) (t : Fin cfg0.N) (r : Fin 10) (k : Fin 1024) :
    (iblk m c 3 t : Vec F S10x1024 .f32) (ix2 r k) = (m ((c : Thread nD τ).loc main_arg3) : Vec F S10x1024 .f32) (ix2 r k) := by
  have hi : win0_3.index t 0 = 0 ∧ win0_3.index t 1 = 0 := (by decide +kernel : ∀ t : Fin grid0.N, win0_3.index t 0 = 0 ∧ win0_3.index t 1 = 0) t
  unfold iblk
  rw [View.read_apply]
  show V m c main_arg3 _ = _
  rw [V_main_arg3]
  congr 1
  funext a
  apply Fin.ext
  match a with
  | ⟨0, _⟩ => show win0_3.index t 0 * 10 + 1 * r.val = r.val; rw [hi.1]; omega
  | ⟨1, _⟩ => show win0_3.index t 1 * 1024 + 1 * k.val = k.val; rw [hi.2]; omega

/-- The second bias, staged whole as a column. -/
theorem iblk4 (c : Dev nD) (t : Fin cfg0.N) (r : Fin 10) :
    (iblk m c 4 t : Vec F S10x1 .f32) (ix2 r 0) = (m ((c : Thread nD τ).loc main_arg4) : Vec F S10 .f32) (ix1 r) := by
  have hi : win0_4.index t 0 = 0 ∧ win0_4.index t 1 = 0 := (by decide +kernel : ∀ t : Fin grid0.N, win0_4.index t 0 = 0 ∧ win0_4.index t 1 = 0) t
  have hv : V m c main_v1 = shapeCast S10x1 (m ((c : Thread nD τ).loc main_arg4) : Vec F S10 .f32) shapeCasts_S10_S10x1 := by
    unfold V
    after_results
    rfl
  unfold iblk
  rw [View.read_apply]
  show V m c main_v1 _ = _
  rw [hv]
  have e : ∀ i : S10x1.Idx, (i 0).val = r.val → shapeCast S10x1 (m ((c : Thread nD τ).loc main_arg4) : Vec F S10 .f32) shapeCasts_S10_S10x1 i = (m ((c : Thread nD τ).loc main_arg4) : Vec F S10 .f32) (ix1 r) := by
    intro i h
    have e0 : i 0 = r := Fin.ext h
    have e1 : i 1 = (0 : Fin 1) := Subsingleton.elim (α := Fin 1) _ _
    rw [eq_ix2 i, e0, e1]
    pointwise
  exact e _ (by show win0_4.index t 0 * 10 + 1 * r.val = r.val; rw [hi.1]; omega)

end

variable (m : (ℓ : Loc nD τ sig) → Buf (Elt Ideal) ℓ)

/-! The arguments, as arrays. -/

/-- Argument 0. -/
abbrev arg0 (c : Dev nD) : Vec Ideal S1024x32768 .f32 := m ((c : Thread nD τ).loc main_arg0)

/-- Argument 1. -/
abbrev arg1 (c : Dev nD) : Vec Ideal S32768x32 .f32 := m ((c : Thread nD τ).loc main_arg1)

/-- Argument 2. -/
abbrev arg2 (c : Dev nD) : Vec Ideal S1024 .f32 := m ((c : Thread nD τ).loc main_arg2)

/-- Argument 3. -/
abbrev arg3 (c : Dev nD) : Vec Ideal S10x1024 .f32 := m ((c : Thread nD τ).loc main_arg3)

/-- Argument 4. -/
abbrev arg4 (c : Dev nD) : Vec Ideal S10 .f32 := m ((c : Thread nD τ).loc main_arg4)

/-- The product that point `n` adds, at an entry: the terms `4096 n, …, 4096 n + 4095` of the sum over the features. -/
def part (c : Dev nD) (n : Nat) (r : Fin 1024) (l : Fin 32) : EReal :=
  if h : n < 8 then
    ∑ k : Fin 4096, arg0 m c (ix2 r ⟨4096 * n + k.val, by have := k.isLt; omega⟩)
      * arg1 m c (ix2 ⟨4096 * n + k.val, by have := k.isLt; omega⟩ l)
  else 0

/-- One point's step on the accumulator, at an entry. -/
theorem step_apply (c : Dev nD) (t : Fin cfg0.N) (v : Vec Ideal S1024x32 .f32) (r : Fin 1024) (l : Fin 32) :
    k0_pay2 v (iblk m c 0 t : Vec Ideal S1024x4096 .f32) (iblk m c 1 t : Vec Ideal S4096x32 .f32) (ix2 r l) = v (ix2 r l) + part m c t.val r l := by
  have hN : t.val < 8 := lt_of_lt_of_eq t.isLt (show cfg0.N = 8 from N_0)
  rw [pay2_apply]
  congr 1
  unfold part
  rw [dif_pos hN]
  refine Finset.sum_congr rfl fun k _ => ?_
  have hk := k.isLt
  rw [iblk0 m c t _ k (by omega), iblk1 m c t k _ (by omega)]

/-- The scratch after point `j`, before the last: the products of the points so far. -/
theorem scratch_eq (c : Dev nD) : ∀ (j : Nat) (hj : j < 7) (h : 0 + j < cfg0.N) (r : Fin 1024) (l : Fin 32),
    (Pipeline.accAt (fun n h => stAt0 m c n h junk0) (stAt0 m c) 0 j h).2 (ix2 r l) = ∑ s ∈ Finset.range (j + 1), part m c s r l
  | 0, _, h, r, l => by
    rw [Pipeline.accAt_zero]
    show (stAt0 m c (⟨0, h⟩ : Fin cfg0.N).val (⟨0, h⟩ : Fin cfg0.N).isLt junk0).2 (ix2 r l) = _
    rw [stAt0_A m c ⟨0, h⟩ junk0 rfl (by show ¬0 % 8 = 7; decide)]
    dsimp only
    rw [sout_A, step_apply, pay1_apply, Finset.sum_range_one, zero_add]
  | j + 1, hj, h, r, l => by
    rw [Pipeline.accAt_succ]
    have e : 0 + (j + 1) = j + 1 := Nat.zero_add _
    have hB0 : ¬(⟨0 + (j + 1), h⟩ : Fin cfg0.N).val % 8 = 0 := by dsimp only; omega
    have hB1 : ¬(⟨0 + (j + 1), h⟩ : Fin cfg0.N).val % 8 = 7 := by dsimp only; omega
    rw [show stAt0 m c (0 + (j + 1)) h = stAt0 m c (⟨0 + (j + 1), h⟩ : Fin cfg0.N).val (⟨0 + (j + 1), h⟩ : Fin cfg0.N).isLt from rfl,
      stAt0_B m c ⟨0 + (j + 1), h⟩ _ hB0 hB1]
    dsimp only
    rw [sout_B, step_apply, scratch_eq c j (by omega), Finset.sum_range_succ _ (j + 1)]
    dsimp only
    rw [e]

/-- The head's result at an entry, from the arguments. -/
theorem result_apply (c : Dev nD) (r : Fin 10) (l : Fin 32) :
    G5 m c (ix2 r l) = (∑ k : Fin 1024, arg3 m c (ix2 r k)
        * max ((∑ s ∈ Finset.range 8, part m c s k l) + arg2 m c (ix1 k)) 0)
      + arg4 m c (ix1 r) := by
  rw [G5_last, Pipeline.accAt_succ]
  have h : 0 + (6 + 1) < cfg0.N := lt_of_lt_of_eq (by decide) N_0.symm
  rw [show stAt0 m c (0 + (6 + 1)) h = stAt0 m c (⟨0 + (6 + 1), h⟩ : Fin cfg0.N).val (⟨0 + (6 + 1), h⟩ : Fin cfg0.N).isLt from rfl,
      stAt0_C m c ⟨0 + (6 + 1), h⟩ _ (by show ¬(0 + (6 + 1)) % 8 = 0; decide) (by show (0 + (6 + 1)) % 8 = 7; decide)]
  dsimp only
  rw [out_C, pay3_apply, iblk4]
  congr 1
  refine Finset.sum_congr rfl fun k _ => ?_
  rw [iblk3, iblk2, step_apply, scratch_eq m c 6 (by decide), Finset.sum_range_succ _ 7]

end Cert.Kernel3Ideal.Head
-- ==== Proof.Head.lean ====
/- The head against its reference: the kernel's eight partial sums of 4096 terms are the reference's one sum of 32768. -/
module

public import proofs.«01_k».proof.Defs
public import proofs.«01_k».proof.Proof.HeadKernel
public import proofs.«01_k».proof.Proof.Gen.Reference3Ideal.Read

@[expose] public section

noncomputable section

namespace Cert.Head

open Idealize.ShloMosaic Idealize.ShloMosaic.TcCoe Idealize.SL.Sem

/-- A sum over 32768 indices, taken as eight stretches of 4096. -/
theorem sum_stretches (f : Fin 32768 → EReal) :
    ∑ q : Fin 32768, f q = ∑ s ∈ Finset.range 8, if h : s < 8 then ∑ k : Fin 4096, f ⟨4096 * s + k.val, by have := k.isLt; omega⟩ else 0 := by
  rw [Finset.sum_range, ← Equiv.sum_comp (finProdFinEquiv (m := 8) (n := 4096)) f, Fintype.sum_prod_type]
  refine Finset.sum_congr rfl fun s _ => ?_
  rw [dif_pos s.isLt]
  refine Finset.sum_congr rfl fun k _ => congrArg f (Fin.ext ?_)
  show k.val + 4096 * s.val = 4096 * s.val + k.val
  omega

open Cert.Reference3Ideal Cert.Reference3Ideal.Read in
/-- The reference's result at an entry. -/
theorem ref_apply (x0 : Vec Ideal S1024x32768 .f32) (x1 : Vec Ideal S32768x32 .f32) (x2 : Vec Ideal S1024 .f32) (x3 : Vec Ideal S10x1024 .f32)
    (x4 : Vec Ideal S10 .f32) (r : Fin 10) (l : Fin 32) :
    val_main_v12 (F := Ideal) x0 x1 x2 x3 x4 (ix2 r l)
      = (∑ k : Fin 1024, x3 (ix2 r k) * max ((∑ q : Fin 32768, x0 (ix2 k q) * x1 (ix2 q l)) + x2 (ix1 k)) 0) + x4 (ix1 r) := by
  have e4 : val_main_v10 (F := Ideal) x4 (idx_main_v12 (ix2 r l)) = x4 (ix1 r) := by
    rw [val_main_v10_apply, val_main_v9_apply]
    exact congrArg x4 (funext fun a => by fin_cases a; rfl)
  have e : ∀ k : Fin 1024, val_main_v6 (F := Ideal) x0 x1 x2 (lidx_main_v8 (idx_main_v12 (ix2 r l)) k) = max ((∑ q : Fin 32768, x0 (ix2 k q) * x1 (ix2 q l)) + x2 (ix1 k)) 0 := by
    intro k
    rw [val_main_v6_apply, val_main_v5_apply, val_main_v2_apply, val_main_v4_apply, val_main_v3_apply, val_main_call0_v0_apply, val_main_call0_cst_apply]
    have e0 : ∀ q, val_main_v0 (F := Ideal) x1 (lidx_main_v2 (lidx_main_v8 (idx_main_v12 (ix2 r l)) k) q) = x1 (ix2 q l) := fun q => by
      rw [val_main_v0_apply]
      exact congrArg x1 (funext fun a => by fin_cases a <;> rfl)
    have e1 : ∀ q, val_main_v1 (F := Ideal) x0 (ridx_main_v2 (lidx_main_v8 (idx_main_v12 (ix2 r l)) k) q) = x0 (ix2 k q) := fun q => by
      rw [val_main_v1_apply]
      exact congrArg x0 (funext fun a => by fin_cases a <;> rfl)
    have e2 : x2 (idx_main_v3 (idx_main_v4 (lidx_main_v8 (idx_main_v12 (ix2 r l)) k))) = x2 (ix1 k) :=
      congrArg x2 (funext fun a => by fin_cases a; rfl)
    simp only [e0, e1, e2]
    have z : (FloatOps.ofBits .f32 0x00000000#32 : Ideal .f32) = (0 : EReal) := Ideal.ofBits_zero_f32
    rw [z]
    exact congrArg (fun z : EReal => max (z + x2 (ix1 k)) 0) (Finset.sum_congr rfl fun q _ => mul_comm _ _)
  rw [val_main_v12_apply, val_main_v11_apply, val_main_v8_apply, e4]
  refine congrArg (fun z : EReal => z + x4 (ix1 r)) (Finset.sum_congr rfl fun k _ => ?_)
  have e7 : val_main_v7 (F := Ideal) x3 (ridx_main_v8 (idx_main_v12 (ix2 r l)) k) = x3 (ix2 r k) := by
    rw [val_main_v7_apply]
    exact congrArg x3 (funext fun a => by fin_cases a <;> rfl)
  rw [e, e7]
  exact mul_comm _ _

open Cert.Kernel3Ideal.Head in
/-- The two results are one array. -/
theorem results_eq (m : (ℓ : Loc Cert.Kernel3Ideal.nD Cert.Kernel3Ideal.τ Cert.Kernel3Ideal.sig) → Buf (Elt Ideal) ℓ) (c : Dev Cert.Kernel3Ideal.nD) :
    (Cert.Kernel3Ideal.Value.G5 m c : Vec Ideal Cert.Kernel3Ideal.S10x32 .f32)
      = Cert.Reference3Ideal.Read.val_main_v12 (F := Ideal) (arg0 m c) (arg1 m c) (arg2 m c) (arg3 m c) (arg4 m c) := by
  funext i
  have h : ∀ (r : Fin 10) (l : Fin 32), (Cert.Kernel3Ideal.Value.G5 m c : Vec Ideal Cert.Kernel3Ideal.S10x32 .f32) (ix2 r l)
      = Cert.Reference3Ideal.Read.val_main_v12 (F := Ideal) (arg0 m c) (arg1 m c) (arg2 m c) (arg3 m c) (arg4 m c) (ix2 r l) := by
    intro r l
    rw [ref_apply, result_apply]
    refine congrArg (· + _) (Finset.sum_congr rfl fun k _ => ?_)
    rw [sum_stretches]
    rfl
  have e := h (i 0) (i 1)
  rw [eq_ix2 (n0 := 10) (n1 := 32) i]
  exact e

end Cert.Head

open Idealize.ShloMosaic Idealize.ShloMosaic.TcCoe Idealize.SL.Sem in
/-- The head's kernel and its reference, run side by side, end with the same result, their arguments as they were. -/
theorem Cert.Proof.algebraic3 : Cert.algebraic_Kernel3Ideal_Reference3Ideal := by
  intro m ρ m' ρ' _ harg
  refine ⟨fun c => Cert.Kernel3Ideal.Value.G5 m c, Cert.Kernel3Ideal.Value.run m ρ, ?_⟩
  refine (θ_run _ _ _).mono (fun r h c => ⟨(h c).1.trans ?_, (h c).2⟩) (Cert.Reference3Ideal.Value.run m' ρ')
  obtain ⟨h0, h1, h2, h3, h4⟩ := harg c
  rw [h0, h1, h2, h3, h4]
  exact (Cert.Reference3Ideal.Read.val_main_v12_eq (F := Ideal) _ _ _ _ _).trans (Cert.Head.results_eq m c).symm

end
-- ==== Proof.Block.lean ====
/- The mathematics of one branching block on images of sixteen by sixteen pixels, free of any program. A 3x3 convolution with
   zero padding and a nearest-neighbour layer are each followed by their positive part; a pixelwise linear map with its
   positive part is then taken of the two together. An image is, for each channel, a function of the pixel number, sixteen times
   the row plus the column. -/
module

public import Idealize.ShloMosaic.PureOps.Ideal
public import Idealize.ShloMosaic.Lib.PlanTiles.StableSort

@[expose] public section

noncomputable section

namespace Cert.Block

open Idealize.ShloMosaic Idealize.ShloMosaic.PlanTiles

/-- A row of numbers read at a natural number, zero beyond its end. -/
def col {n : Nat} (f : Fin n → EReal) (i : Nat) : EReal := if h : i < n then f ⟨i, h⟩ else 0

/-- Inside the row it reads the row. -/
theorem col_eq {n : Nat} (f : Fin n → EReal) (i : Nat) (h : i < n) : col f i = f ⟨i, h⟩ := dif_pos h

/-- A table of three by three numbers read at natural numbers, zero beyond its end. -/
def tri (f : Fin 3 → Fin 3 → EReal) (i j : Nat) : EReal := if h : i < 3 ∧ j < 3 then f ⟨i, h.1⟩ ⟨j, h.2⟩ else 0

/-- Inside the table it reads the table. -/
theorem tri_eq (f : Fin 3 → Fin 3 → EReal) (i j : Fin 3) : tri f i.val j.val = f i j := dif_pos ⟨i.isLt, j.isLt⟩

/-- The pixel that the tap in row `i` and column `j` of a 3x3 window around pixel `p` sees; zero beyond the image's edge. -/
def tap (x : Nat → EReal) (i j p : Nat) : EReal :=
  if 1 ≤ p / 16 + i ∧ p / 16 + i < 17 ∧ 1 ≤ p % 16 + j ∧ p % 16 + j < 17 then x (16 * (p / 16 + i - 1) + (p % 16 + j - 1)) else 0

/-- One tap's part of the convolution: its weights times what it sees, added over the channels. -/
def tapSum {C : Nat} (W : Fin C → Nat → Nat → EReal) (X : Fin C → Nat → EReal) (i j p : Nat) : EReal :=
  ∑ c, W c i j * tap (X c) i j p

/-- The 3x3 convolution with zero padding, its bias added, and its positive part. -/
def conv {C : Nat} (W : Fin C → Nat → Nat → EReal) (b : EReal) (X : Fin C → Nat → EReal) (p : Nat) : EReal :=
  max (tapSum W X 0 0 p + tapSum W X 0 1 p + tapSum W X 0 2 p + tapSum W X 1 0 p + tapSum W X 1 1 p + tapSum W X 1 2 p
    + tapSum W X 2 0 p + tapSum W X 2 1 p + tapSum W X 2 2 p + b) 0

/-- How near the candidate `m`, pixel `8 m`, is to pixel `p`: the negated square distance of their channels. -/
def sim {C : Nat} (X : Fin C → Nat → EReal) (p : Nat) (m : Fin 32) : EReal :=
  -((∑ c, X c p * X c p) - 2 * (∑ c, X c p * X c (8 * m.val)) + ∑ c, X c (8 * m.val) * X c (8 * m.val))

/-- The positions that hold the greatest value. -/
def tops (s : Fin 32 → EReal) : Finset (Fin 32) := Finset.univ.filter fun m => ∀ k, s k ≤ s m

/-- Some position holds the greatest value. -/
theorem tops_nonempty (s : Fin 32 → EReal) : (tops s).Nonempty := by
  obtain ⟨m, -, hm⟩ := Finset.exists_max_image Finset.univ s ⟨0, Finset.mem_univ _⟩
  exact ⟨m, Finset.mem_filter.mpr ⟨Finset.mem_univ _, fun k => hm k (Finset.mem_univ _)⟩⟩

/-- The first position that holds the greatest value. -/
def first (s : Fin 32 → EReal) : Fin 32 := (tops s).min' (tops_nonempty s)

/-- The values with the first greatest one struck out. -/
def strike (s : Fin 32 → EReal) : Fin 32 → EReal := fun m => if m = first s then ⊥ else s m

/-- What is left after `k` greatest values have been struck out. -/
def left (s : Fin 32 → EReal) : Nat → Fin 32 → EReal
  | 0 => s
  | k + 1 => strike (left s k)

/-- The position of the greatest value but `k`, of equal values the first before the later. -/
def best (s : Fin 32 → EReal) (k : Nat) : Fin 32 := first (left s k)

/-- The nearest-neighbour layer: weights for the nine nearest candidates, the nearest first, its bias, and its positive part. -/
def near {C : Nat} (W : Fin 9 → Fin C → EReal) (b : EReal) (X : Fin C → Nat → EReal) (p : Nat) : EReal :=
  max ((∑ k : Fin 9, ∑ c, W k c * X c (8 * (best (sim X p) k.val).val)) + b) 0

/-- The two layers' results over one another. -/
def both {O : Nat} (A N : Fin O → EReal) (o : Fin (2 * O)) : EReal :=
  if h : o.val < O then A ⟨o.val, h⟩ else N ⟨o.val - O, by omega⟩

/-- The block: the two layers, and the pixelwise linear map of both with its bias and its positive part. -/
def block {C O : Nat} (Wc : Fin O → Fin C → Nat → Nat → EReal) (bc : Fin O → EReal) (Wn : Fin O → Fin 9 → Fin C → EReal)
    (bn : Fin O → EReal) (Wm : Fin (2 * O) → EReal) (bm : EReal) (X : Fin C → Nat → EReal) (p : Nat) : EReal :=
  max ((∑ o, Wm o * both (fun o => conv (Wc o) (bc o) X p) (fun o => near (Wn o) (bn o) X p) o) + bm) 0

/-- No value exceeds the one at the first greatest position. -/
theorem le_first (s : Fin 32 → EReal) (k : Fin 32) : s k ≤ s (first s) :=
  (Finset.mem_filter.mp ((tops s).min'_mem (tops_nonempty s))).2 k

/-- A position that no value exceeds does not come before the first greatest one. -/
theorem first_le (s : Fin 32 → EReal) (m : Fin 32) (h : ∀ k, s k ≤ s m) : first s ≤ m :=
  (tops s).min'_le m (Finset.mem_filter.mpr ⟨Finset.mem_univ _, h⟩)

/-- A position that every other one either lies below in value, or equals in value and follows, is the first greatest. -/
theorem first_eq (s : Fin 32 → EReal) (a : Fin 32) (h : ∀ b, b ≠ a → s b < s a ∨ (s a = s b ∧ a < b)) : first s = a := by
  by_contra hne
  rcases h _ hne with h1 | ⟨h1, h2⟩
  · exact absurd (le_first s a) (not_le.mpr h1)
  · refine absurd (first_le s a fun k => ?_) (not_le.mpr h2)
    rcases eq_or_ne k a with rfl | hk
    · exact le_rfl
    · rcases h k hk with h3 | ⟨h3, -⟩
      · exact h3.le
      · exact h3.ge

/-- How many values lie below the one at `a`. -/
def below (s : Fin 32 → EReal) (a : Fin 32) : Nat := (Finset.univ.filter fun b => s b < s a).card

/-- A value with fewer values below it is the smaller one. -/
theorem below_lt (s : Fin 32 → EReal) (a b : Fin 32) : below s b < below s a ↔ s b < s a := by
  constructor
  · intro h
    by_contra hn
    refine absurd h (not_lt.mpr (Finset.card_le_card fun x hx => ?_))
    exact Finset.mem_filter.mpr ⟨Finset.mem_univ _, lt_of_lt_of_le (Finset.mem_filter.mp hx).2 (not_lt.mp hn)⟩
  · intro h
    refine Finset.card_lt_card (Finset.ssubset_iff_of_subset (fun x hx => ?_) |>.mpr ⟨b, ?_, ?_⟩)
    · exact Finset.mem_filter.mpr ⟨Finset.mem_univ _, (Finset.mem_filter.mp hx).2.trans h⟩
    · exact Finset.mem_filter.mpr ⟨Finset.mem_univ _, h⟩
    · exact fun hb => absurd (Finset.mem_filter.mp hb).2 (lt_irrefl _)

/-- "Holds a greater value". -/
def greater (s : Fin 32 → EReal) (a b : Fin 32) : Bool := decide (s b < s a)

/-- Comparing two values is comparing how many lie below each. -/
theorem greater_eq (s : Fin 32 → EReal) : greater s = fun a b => decide (below s b < below s a) := by
  funext a b
  exact decide_eq_decide.mpr (below_lt s a b).symm

/-- In a list whose every two entries in order are related, so are the ones at two positions in order. -/
theorem get_of_pairwise {R : Fin 32 → Fin 32 → Prop} (l : List (Fin 32)) (hl : 32 = l.length) (h : l.Pairwise R) (i j : Fin 32) (hij : i < j) :
    R (l.get (i.cast hl)) (l.get (j.cast hl)) :=
  List.pairwise_iff_get.mp h _ _ (Fin.lt_def.mpr (Fin.lt_def.mp hij))

/-- A stable sort by value puts equal values in the order of their positions. -/
theorem sorted_lex (s : Fin 32 → EReal) (i j : Fin 32) (hij : i < j) :
    s (sortedFrom (greater s) j) < s (sortedFrom (greater s) i)
      ∨ (s (sortedFrom (greater s) i) = s (sortedFrom (greater s) j) ∧ sortedFrom (greater s) i < sortedFrom (greater s) j) := by
  have h : (sortPositions 32 (greater s)).Pairwise (Lex (below s) (· < ·)) := by
    rw [greater_eq]
    exact pairwise_stableSort_lex (below s) (· < ·) (List.finRange 32) (List.pairwise_lt_finRange 32)
  have h2 : Lex (below s) (· < ·) (sortedFrom (greater s) i) (sortedFrom (greater s) j) :=
    get_of_pairwise _ (length_sortPositions 32 (greater s)).symm h i j hij
  rcases h2 with h2 | ⟨h2, h3⟩
  · exact Or.inl ((below_lt s _ _).mp h2)
  · refine Or.inr ⟨le_antisymm (not_lt.mp fun h4 => ?_) (not_lt.mp fun h4 => ?_), h3⟩
    · exact absurd ((below_lt s _ _).mpr h4) (by omega)
    · exact absurd ((below_lt s _ _).mpr h4) (by omega)

/-- Where no value is the least one there is, a stable sort's first positions are those of the greatest values in turn. -/
theorem sorted_best (s : Fin 32 → EReal) (hs : ∀ m, s m ≠ ⊥) (k : Nat) (hk : k < 32) :
    sortedFrom (greater s) ⟨k, hk⟩ = best s k
      ∧ ∀ m, left s k m = if ∃ i : Fin 32, i.val < k ∧ m = sortedFrom (greater s) i then ⊥ else s m := by
  induction k with
  | zero =>
    have h0 : ∀ m, left s 0 m = if ∃ i : Fin 32, i.val < 0 ∧ m = sortedFrom (greater s) i then ⊥ else s m := fun m => by
      rw [if_neg (by rintro ⟨i, hi, -⟩; omega)]; rfl
    refine ⟨(first_eq _ _ fun b hb => ?_).symm, h0⟩
    obtain ⟨j, rfl⟩ := sortedFrom_surjective (greater s) b
    have hj : j ≠ ⟨0, hk⟩ := fun e => hb (congrArg _ e)
    exact sorted_lex s ⟨0, hk⟩ j (Fin.lt_def.mpr (Nat.pos_of_ne_zero fun e => hj (Fin.ext e)))
  | succ k ih =>
    obtain ⟨ih1, ih2⟩ := ih (by omega)
    have h0 : ∀ m, left s (k + 1) m = if ∃ i : Fin 32, i.val < k + 1 ∧ m = sortedFrom (greater s) i then ⊥ else s m := fun m => by
      show (if m = first (left s k) then ⊥ else left s k m) = _
      rw [show first (left s k) = _ from ih1.symm, ih2 m]
      by_cases h1 : m = sortedFrom (greater s) ⟨k, by omega⟩
      · rw [if_pos h1, if_pos ⟨⟨k, by omega⟩, Nat.lt_succ_self k, h1⟩]
      · rw [if_neg h1]
        refine if_congr ⟨?_, ?_⟩ rfl rfl
        · rintro ⟨i, hi, e⟩; exact ⟨i, by omega, e⟩
        · rintro ⟨i, hi, e⟩
          refine ⟨i, lt_of_le_of_ne (by omega) fun e2 => h1 ?_, e⟩
          rw [e]; exact congrArg _ (Fin.ext e2)
    refine ⟨(first_eq _ _ fun b hb => ?_).symm, h0⟩
    obtain ⟨j, rfl⟩ := sortedFrom_surjective (greater s) b
    have hj : j ≠ ⟨k + 1, hk⟩ := fun e => hb (congrArg _ e)
    have hk1 : left s (k + 1) (sortedFrom (greater s) ⟨k + 1, hk⟩) = s (sortedFrom (greater s) ⟨k + 1, hk⟩) := by
      rw [h0, if_neg]
      rintro ⟨i, hi, e⟩
      have := congrArg Fin.val (sortedFrom_injective _ e)
      simp only at this
      omega
    rw [hk1, h0]
    by_cases hlt : j.val < k + 1
    · rw [if_pos ⟨j, hlt, rfl⟩]
      exact Or.inl (bot_lt_iff_ne_bot.mpr (hs _))
    · rw [if_neg]
      · exact sorted_lex s ⟨k + 1, hk⟩ j (Fin.lt_def.mpr (lt_of_le_of_ne (by simp only; omega) fun e => hj (Fin.ext e.symm)))
      · rintro ⟨i, hi, e⟩
        have := congrArg Fin.val (sortedFrom_injective _ e)
        omega

end Cert.Block
-- ==== Proof.Finite.lean ====
/- Images whose pixels are real numbers: how near a candidate is to a pixel is then a real number too, so it is never the least of
   the extended reals. -/
module

public import proofs.«01_k».proof.Proof.Block

@[expose] public section

noncomputable section

namespace Cert.Block

open Idealize.ShloMosaic

/-- A sum of real numbers is a real number. -/
theorem real_sum {n : Nat} (f : Fin n → EReal) (h : ∀ i, ∃ r : ℝ, f i = r) : ∃ r : ℝ, ∑ i, f i = r := by
  choose g hg using h
  refine ⟨∑ i, g i, ?_⟩
  simp only [hg]
  induction (Finset.univ : Finset (Fin n)) using Finset.induction_on with
  | empty => simp
  | insert a s ha ih => rw [Finset.sum_insert ha, Finset.sum_insert ha, ih, EReal.coe_add]

/-- A product of real numbers is a real number. -/
theorem real_mul (a b : EReal) (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A row of real numbers read at any natural number is a real number. -/
theorem real_col {n : Nat} (f : Fin n → EReal) (h : ∀ i, ∃ r : ℝ, f i = r) (i : Nat) : ∃ r : ℝ, col f i = r := by
  unfold col
  by_cases hi : i < n
  · rw [dif_pos hi]; exact h _
  · rw [dif_neg hi]; exact ⟨0, rfl⟩

/-- Where the pixels are real numbers, no candidate's nearness is the least extended real. -/
theorem sim_ne_bot {C : Nat} (X : Fin C → Nat → EReal) (h : ∀ c i, ∃ r : ℝ, X c i = r) (p : Nat) (m : Fin 32) : sim X p m ≠ ⊥ := by
  obtain ⟨a, ha⟩ := real_sum _ fun c => real_mul _ _ (h c p) (h c p)
  obtain ⟨b, hb⟩ := real_sum _ fun c => real_mul _ _ (h c p) (h c (8 * m.val))
  obtain ⟨d, hd⟩ := real_sum _ fun c => real_mul _ _ (h c (8 * m.val)) (h c (8 * m.val))
  unfold sim
  rw [ha, hb, hd, show (2 : EReal) = ((2 : ℝ) : EReal) from rfl, ← EReal.coe_mul, ← EReal.coe_sub, ← EReal.coe_add, ← EReal.coe_neg]
  exact EReal.coe_ne_bot _

/-- A number whose absolute value is found to lie below infinity is real. -/
theorem real_of_finite (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  have h2 : max x (-x) < ⊤ := by
    by_contra hn
    have h3 : BitVec.ofBool (decide (max x (-x) < ⊤)) = 1#1 := h
    rw [decide_eq_false hn] at h3
    exact absurd h3 (by decide)
  induction x with
  | bot => exact absurd h2 (by simp)
  | top => exact absurd h2 (by simp)
  | coe r => exact ⟨r, rfl⟩

end Cert.Block
-- ==== Proof.Body2.lean ====
/- The words of the branching block's kernel as compositions of a few operations of its own: a masked, turned image as one
   tap of the 3x3 window sees it, a step of the convolution, the nearness of the candidates of one image, a round of the
   nearest-neighbour choice. The block has 64 channels in, 32 channels for each layer, 128 channels out, and eight images. -/
module

public import proofs.«01_k».proof.Proof.Gen.Kernel2Ideal.Value
public import Idealize.ShloMosaic.Lib.Pointwise
public import Idealize.ShloMosaic.Lib.Pipeline.Value

@[expose] public section

noncomputable section

namespace Cert.Kernel2Ideal.Body

open Cert.Kernel2Ideal Cert.Kernel2Ideal.Gen Idealize.ShloMosaic Idealize.ShloMosaic.TcCoe

variable {F : FTy → Type} [FloatOps F]

/-- The row of each column's pixel in its image. -/
def rowW : IVec S1x2048 32 := k0_pay2

/-- The column of each column's pixel in its image. -/
def colW : IVec S1x2048 32 := k0_pay3

/-- Where a tap `dh` rows down and `dw` columns on stays inside the image. -/
def inside (dh dw : BitVec 32) (h w : IVec S1x2048 32) : IVec S1x2048 1 :=
  andi (andi (andi (cmpi .sge (addi h (broadcast S1x2048 dh)) (broadcast S1x2048 0#32))
    (cmpi .slt (addi h (broadcast S1x2048 dh)) (broadcast S1x2048 16#32)))
    (cmpi .sge (addi w (broadcast S1x2048 dw)) (broadcast S1x2048 0#32)))
    (cmpi .slt (addi w (broadcast S1x2048 dw)) (broadcast S1x2048 16#32))

/-- The images turned by `r` columns. -/
def turned (r : BitVec 32) (x : FVec F S64x2048 .f32) : FVec F S64x2048 .f32 := dynamicRotate 1 r none x rotates_S64x2048_d1

/-- What a tap sees of the turned images: zero outside. -/
def seen (dh dw : BitVec 32) (x : FVec F S64x2048 .f32) : FVec F S64x2048 .f32 :=
  select (broadcastTo S64x2048 (shapeCast S1x2048 (inside dh dw rowW colW) shapeCasts_S1x2048_S1x2048) broadcasts_S1x2048_S64x2048)
    x (broadcast S64x2048 (Scalar.ofBits .f32 0x00000000#32))

/-- One tap's product added to what the convolution has so far. -/
def step (off : Nat) (hs : S32x576.Slices ![0, off] S32x64) (Wc : FVec F S32x576 .f32) (t : FVec F S64x2048 .f32) (acc : FVec F S32x2048 .f32) : FVec F S32x2048 .f32 :=
  addf acc (matmul dot_S32x64_S64x2048_S32x2048_1_0_0_1_n_n none (truncf .bf16 (extractStridedSlice S32x64 ![0, off] Wc hs) bitsLt_bf16_f32)
    (truncf .bf16 t bitsLt_bf16_f32) (constant S32x2048 .f32 0x00000000#32))

/-- The sum of the first `n` taps, for the nine. -/
def taps0 : FVec F S32x2048 .f32 := broadcast S32x2048 (Scalar.ofBits .f32 0x00000000#32)

/-- The sum of the first tap. -/
def taps1 (x : FVec F S64x2048 .f32) (Wc : FVec F S32x576 .f32) : FVec F S32x2048 .f32 :=
  step 0 slices_S32x576_o0_0_S32x64 Wc (seen 4294967295#32 4294967295#32 (turned 17#32 x)) taps0
/-- The sum of the first two taps. -/
def taps2 (x : FVec F S64x2048 .f32) (Wc : FVec F S32x576 .f32) : FVec F S32x2048 .f32 :=
  step 64 slices_S32x576_o0_64_S32x64 Wc (seen 4294967295#32 0#32 (turned 16#32 x)) (taps1 x Wc)
/-- The sum of the first three taps. -/
def taps3 (x : FVec F S64x2048 .f32) (Wc : FVec F S32x576 .f32) : FVec F S32x2048 .f32 :=
  step 128 slices_S32x576_o0_128_S32x64 Wc (seen 4294967295#32 1#32 (turned 15#32 x)) (taps2 x Wc)
/-- The sum of the first four taps. -/
def taps4 (x : FVec F S64x2048 .f32) (Wc : FVec F S32x576 .f32) : FVec F S32x2048 .f32 :=
  step 192 slices_S32x576_o0_192_S32x64 Wc (seen 0#32 4294967295#32 (turned 1#32 x)) (taps3 x Wc)
/-- The sum of the first five taps. -/
def taps5 (x : FVec F S64x2048 .f32) (Wc : FVec F S32x576 .f32) : FVec F S32x2048 .f32 :=
  step 256 slices_S32x576_o0_256_S32x64 Wc (seen 0#32 0#32 x) (taps4 x Wc)
/-- The sum of the first six taps. -/
def taps6 (x : FVec F S64x2048 .f32) (Wc : FVec F S32x576 .f32) : FVec F S32x2048 .f32 :=
  step 320 slices_S32x576_o0_320_S32x64 Wc (seen 0#32 1#32 (turned 2047#32 x)) (taps5 x Wc)
/-- The sum of the first seven taps. -/
def taps7 (x : FVec F S64x2048 .f32) (Wc : FVec F S32x576 .f32) : FVec F S32x2048 .f32 :=
  step 384 slices_S32x576_o0_384_S32x64 Wc (seen 1#32 4294967295#32 (turned 2033#32 x)) (taps6 x Wc)
/-- The sum of the first eight taps. -/
def taps8 (x : FVec F S64x2048 .f32) (Wc : FVec F S32x576 .f32) : FVec F S32x2048 .f32 :=
  step 448 slices_S32x576_o0_448_S32x64 Wc (seen 1#32 0#32 (turned 2032#32 x)) (taps7 x Wc)
/-- The sum of the first nine taps. -/
def taps9 (x : FVec F S64x2048 .f32) (Wc : FVec F S32x576 .f32) : FVec F S32x2048 .f32 :=
  step 512 slices_S32x576_o0_512_S32x64 Wc (seen 1#32 1#32 (turned 2031#32 x)) (taps8 x Wc)

/-- The convolution's result: all nine taps, the bias, the positive part. -/
def convT (x : FVec F S64x2048 .f32) (Wc : FVec F S32x576 .f32) (b : FVec F S32x1 .f32) : FVec F S32x2048 .f32 :=
  maximumf (addf (taps9 x (shapeCast S32x576 Wc shapeCasts_S32x576_S32x576)) (broadcastTo S32x2048 (shapeCast S32x1 b shapeCasts_S32x1_S32x1) broadcasts_S32x1_S32x2048))
    (broadcast S32x2048 (Scalar.ofBits .f32 0x00000000#32))

/-- The pixels' squares added over the channels. -/
def squares (x : FVec F S64x2048 .f32) : FVec F S1x2048 .f32 :=
  shapeCast S1x2048 (multiReduction .add [0] S2048 (mulf x x) 0x00000000#32 reduces_S64x2048_S2048 (.inl rfl) rfl) shapeCasts_S2048_S1x2048

/-- The nearness of the candidates of one image to its pixels. -/
def simT (oc ox : Nat) (hc : S256x64.Slices ![oc, 0] S32x64) (hx : S64x2048.Slices ![0, ox] S64x256) (hq : S1x2048.Slices ![0, ox] S1x256)
    (x : FVec F S64x2048 .f32) (q : FVec F S1x2048 .f32) (cd : FVec F S256x64 .f32) : FVec F S32x256 .f32 :=
  subf (broadcast S32x256 (Scalar.ofBits .f32 0x00000000#32))
    (addf (subf (broadcastTo S32x256 (extractStridedSlice S1x256 ![0, ox] q hq) broadcasts_S1x256_S32x256)
      (mulf (broadcast S32x256 (Scalar.ofBits .f32 0x40000000#32))
        (matmul dot_S32x64_S64x256_S32x256_1_0_0_1_n_n none (truncf .bf16 (extractStridedSlice S32x64 ![oc, 0] cd hc) bitsLt_bf16_f32)
          (truncf .bf16 (extractStridedSlice S64x256 ![0, ox] x hx) bitsLt_bf16_f32) (constant S32x256 .f32 0x00000000#32))))
      (broadcastTo S32x256 (shapeCast S32x1 (multiReduction .add [1] S32 (mulf (extractStridedSlice S32x64 ![oc, 0] cd hc) (extractStridedSlice S32x64 ![oc, 0] cd hc))
        0x00000000#32 reduces_S32x64_S32 (.inl rfl) rfl) shapeCasts_S32_S32x1) broadcasts_S32x1_S32x256))

/-- The nearness of every image's candidates to its pixels, image after image. -/
def simsT (x : FVec F S64x2048 .f32) (cd : FVec F S256x64 .f32) : FVec F S32x2048 .f32 :=
  concatenate S32x2048 1 [⟨S32x256, simT 0 0 slices_S256x64_o0_0_S32x64 slices_S64x2048_o0_0_S64x256 slices_S1x2048_o0_0_S1x256 x (squares x) (shapeCast S256x64 cd shapeCasts_S256x64_S256x64)⟩, ⟨S32x256, simT 32 256 slices_S256x64_o32_0_S32x64 slices_S64x2048_o0_256_S64x256 slices_S1x2048_o0_256_S1x256 x (squares x) (shapeCast S256x64 cd shapeCasts_S256x64_S256x64)⟩, ⟨S32x256, simT 64 512 slices_S256x64_o64_0_S32x64 slices_S64x2048_o0_512_S64x256 slices_S1x2048_o0_512_S1x256 x (squares x) (shapeCast S256x64 cd shapeCasts_S256x64_S256x64)⟩, ⟨S32x256, simT 96 768 slices_S256x64_o96_0_S32x64 slices_S64x2048_o0_768_S64x256 slices_S1x2048_o0_768_S1x256 x (squares x) (shapeCast S256x64 cd shapeCasts_S256x64_S256x64)⟩, ⟨S32x256, simT 128 1024 slices_S256x64_o128_0_S32x64 slices_S64x2048_o0_1024_S64x256 slices_S1x2048_o0_1024_S1x256 x (squares x) (shapeCast S256x64 cd shapeCasts_S256x64_S256x64)⟩, ⟨S32x256, simT 160 1280 slices_S256x64_o160_0_S32x64 slices_S64x2048_o0_1280_S64x256 slices_S1x2048_o0_1280_S1x256 x (squares x) (shapeCast S256x64 cd shapeCasts_S256x64_S256x64)⟩, ⟨S32x256, simT 192 1536 slices_S256x64_o192_0_S32x64 slices_S64x2048_o0_1536_S64x256 slices_S1x2048_o0_1536_S1x256 x (squares x) (shapeCast S256x64 cd shapeCasts_S256x64_S256x64)⟩, ⟨S32x256, simT 224 1792 slices_S256x64_o224_0_S32x64 slices_S64x2048_o0_1792_S64x256 slices_S1x2048_o0_1792_S1x256 x (squares x) (shapeCast S256x64 cd shapeCasts_S256x64_S256x64)⟩]
    concatenates_S32x256_S32x256_S32x256_S32x256_S32x256_S32x256_S32x256_S32x256_S32x2048_d1

/-- Each candidate's number. -/
def numW : IVec S32x2048 32 := iota .tc S32x2048 32 [0] iota_S32x2048_d0_w32

/-- Where the first greatest value of each column stands. -/
def chosen (s : FVec F S32x2048 .f32) : IVec S32x2048 1 :=
  cmpi .eq numW (broadcastTo S32x2048 (shapeCast S1x2048 (multiReductionI .minsi [0] S2048
    (select (cmpf .oeq s (broadcastTo S32x2048 (shapeCast S1x2048 (multiReduction .maximumf [0] S2048 s 0xFF800000#32 reduces_S32x2048_S2048 (.inl rfl) rfl)
      shapeCasts_S2048_S1x2048) broadcasts_S1x2048_S32x2048)) numW (broadcast S32x2048 32#32))
    2147483647#32 reduces_S32x2048_S2048 rfl) shapeCasts_S2048_S1x2048) broadcasts_S1x2048_S32x2048)

/-- The values with the chosen ones struck out. -/
def struck (s : FVec F S32x2048 .f32) : FVec F S32x2048 .f32 :=
  select (chosen s) (broadcast S32x2048 (Scalar.ofBits .f32 0xFF800000#32)) s

/-- One where a value is chosen, zero elsewhere. -/
def hot (s : FVec F S32x2048 .f32) : FVec F S32x2048 .f32 := sitofp .f32 (extui 32 (chosen s) natLt_1_32)

/-- The values after `k` rounds. -/
def rounds (s : FVec F S32x2048 .f32) : Nat → FVec F S32x2048 .f32
  | 0 => s
  | k + 1 => struck (rounds s k)

/-- The weights of the `k`-th nearest neighbour times every candidate. -/
def weighed (off : Nat) (hs : S32x576.Slices ![0, off] S32x64) (ct : FVec F S64x256 .f32) (Wn : FVec F S32x576 .f32) : FVec F S32x256 .f32 :=
  matmul dot_S32x64_S64x256_S32x256_1_0_0_1_n_n none (truncf .bf16 (extractStridedSlice S32x64 ![0, off] (shapeCast S32x576 Wn shapeCasts_S32x576_S32x576) hs) bitsLt_bf16_f32)
    (truncf .bf16 (shapeCast S64x256 ct shapeCasts_S64x256_S64x256) bitsLt_bf16_f32) (constant S32x256 .f32 0x00000000#32)

/-- The nearest-neighbour layer of one image: the weighed candidates where the nine rounds chose them. -/
def nearT (oc ox : Nat) (hc : S32x256.Slices ![0, oc] S32x32) (hx : S32x2048.Slices ![0, ox] S32x256)
    (w0 w1 w2 w3 w4 w5 w6 w7 w8 : FVec F S32x256 .f32) (h0 h1 h2 h3 h4 h5 h6 h7 h8 : FVec F S32x2048 .f32) : FVec F S32x256 .f32 :=
  matmul dot_S32x288_S288x256_S32x256_1_0_0_1_n_n (some .fp32)
    (concatenate S32x288 1 [⟨S32x32, extractStridedSlice S32x32 ![0, oc] w0 hc⟩, ⟨S32x32, extractStridedSlice S32x32 ![0, oc] w1 hc⟩, ⟨S32x32, extractStridedSlice S32x32 ![0, oc] w2 hc⟩, ⟨S32x32, extractStridedSlice S32x32 ![0, oc] w3 hc⟩, ⟨S32x32, extractStridedSlice S32x32 ![0, oc] w4 hc⟩, ⟨S32x32, extractStridedSlice S32x32 ![0, oc] w5 hc⟩, ⟨S32x32, extractStridedSlice S32x32 ![0, oc] w6 hc⟩, ⟨S32x32, extractStridedSlice S32x32 ![0, oc] w7 hc⟩, ⟨S32x32, extractStridedSlice S32x32 ![0, oc] w8 hc⟩]
      concatenates_S32x32_S32x32_S32x32_S32x32_S32x32_S32x32_S32x32_S32x32_S32x32_S32x288_d1)
    (concatenate S288x256 0 [⟨S32x256, extractStridedSlice S32x256 ![0, ox] h0 hx⟩, ⟨S32x256, extractStridedSlice S32x256 ![0, ox] h1 hx⟩, ⟨S32x256, extractStridedSlice S32x256 ![0, ox] h2 hx⟩, ⟨S32x256, extractStridedSlice S32x256 ![0, ox] h3 hx⟩, ⟨S32x256, extractStridedSlice S32x256 ![0, ox] h4 hx⟩, ⟨S32x256, extractStridedSlice S32x256 ![0, ox] h5 hx⟩, ⟨S32x256, extractStridedSlice S32x256 ![0, ox] h6 hx⟩, ⟨S32x256, extractStridedSlice S32x256 ![0, ox] h7 hx⟩, ⟨S32x256, extractStridedSlice S32x256 ![0, ox] h8 hx⟩]
      concatenates_S32x256_S32x256_S32x256_S32x256_S32x256_S32x256_S32x256_S32x256_S32x256_S288x256_d0)
    (constant S32x256 .f32 0x00000000#32)

/-- The nearest-neighbour layer of all eight images, from the nearness of their candidates. -/
def nearsT (s : FVec F S32x2048 .f32) (ct : FVec F S64x256 .f32) (Wn : FVec F S32x576 .f32) : FVec F S32x2048 .f32 :=
  concatenate S32x2048 1 [⟨S32x256, nearT 0 0 slices_S32x256_o0_0_S32x32 slices_S32x2048_o0_0_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 32 256 slices_S32x256_o0_32_S32x32 slices_S32x2048_o0_256_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 64 512 slices_S32x256_o0_64_S32x32 slices_S32x2048_o0_512_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 96 768 slices_S32x256_o0_96_S32x32 slices_S32x2048_o0_768_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 128 1024 slices_S32x256_o0_128_S32x32 slices_S32x2048_o0_1024_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 160 1280 slices_S32x256_o0_160_S32x32 slices_S32x2048_o0_1280_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 192 1536 slices_S32x256_o0_192_S32x32 slices_S32x2048_o0_1536_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩, ⟨S32x256, nearT 224 1792 slices_S32x256_o0_224_S32x32 slices_S32x2048_o0_1792_S32x256 (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds s 0)) (hot (rounds s 1)) (hot (rounds s 2)) (hot (rounds s 3)) (hot (rounds s 4)) (hot (rounds s 5)) (hot (rounds s 6)) (hot (rounds s 7)) (hot (rounds s 8))⟩]
    concatenates_S32x256_S32x256_S32x256_S32x256_S32x256_S32x256_S32x256_S32x256_S32x2048_d1

/-- The two layers over one another. -/
def bothT (A : FVec F S32x2048 .f32) (N : FVec F S32x2048 .f32) (b : FVec F S32x1 .f32) : FVec F S64x2048 .f32 :=
  concatenate S64x2048 0 [⟨S32x2048, A⟩, ⟨S32x2048, maximumf (addf N (broadcastTo S32x2048 (shapeCast S32x1 b shapeCasts_S32x1_S32x1) broadcasts_S32x1_S32x2048))
    (broadcast S32x2048 (Scalar.ofBits .f32 0x00000000#32))⟩] concatenates_S32x2048_S32x2048_S64x2048_d0

/-- The pixelwise linear map with its bias and its positive part. -/
def mixT (ab : FVec F S64x2048 .f32) (W : FVec F S128x64 .f32) (b : FVec F S128x1 .f32) : FVec F S128x2048 .f32 :=
  maximumf (addf (matmul dot_S128x64_S64x2048_S128x2048_1_0_0_1_n_n none (truncf .bf16 (shapeCast S128x64 W shapeCasts_S128x64_S128x64) bitsLt_bf16_f32)
    (truncf .bf16 ab bitsLt_bf16_f32) (constant S128x2048 .f32 0x00000000#32)) (broadcastTo S128x2048 (shapeCast S128x1 b shapeCasts_S128x1_S128x1) broadcasts_S128x1_S128x2048))
    (broadcast S128x2048 (Scalar.ofBits .f32 0x00000000#32))

/-- The block's result on eight images. -/
def outT (x0 : FVec F S64x2048 .f32) (x1 : FVec F S256x64 .f32) (x2 : FVec F S64x256 .f32) (x3 : FVec F S32x576 .f32) (x4 : FVec F S32x1 .f32)
    (x5 : FVec F S32x576 .f32) (x6 : FVec F S32x1 .f32) (x7 : FVec F S128x64 .f32) (x8 : FVec F S128x1 .f32) : FVec F S128x2048 .f32 :=
  mixT (bothT (convT x0 x3 x4) (nearsT (simsT x0 x1) x2 x5) x6) x7 x8

/-- The body's first word array is the row of each column's pixel. -/
theorem rowW_eq : (k0_pay2 : IVec S1x2048 32) = rowW := rfl
/-- The body's value after one tap of the convolution is their sum. -/
theorem taps1_eq (x : FVec F S64x2048 .f32) (Wc : FVec F S32x576 .f32) : k0_pay9 (F := F) k0_pay3 Wc k0_pay5 (k0_pay6 x) k0_pay7 k0_pay8 16#32 = taps1 x Wc := rfl
/-- The body's value after three taps of the convolution is their sum. -/
theorem taps3_eq (x : FVec F S64x2048 .f32) (Wc : FVec F S32x576 .f32) : k0_pay12 (F := F) x k0_pay2 k0_pay3 Wc (taps1 x Wc) (k0_pay10 x) (Scalar.ofBits .f32 0x00000000#32) (k0_pay11 k0_pay2 k0_pay3) = taps3 x Wc := rfl
/-- The body's value after four taps of the convolution is their sum. -/
theorem taps4_eq (x : FVec F S64x2048 .f32) (Wc : FVec F S32x576 .f32) : k0_pay16 (F := F) k0_pay3 Wc (taps3 x Wc) (k0_pay13 x) (k0_pay14 k0_pay2) (k0_pay15 k0_pay2) 16#32 = taps4 x Wc := rfl
/-- The body's value after six taps of the convolution is their sum. -/
theorem taps6_eq (x : FVec F S64x2048 .f32) (Wc : FVec F S32x576 .f32) : k0_pay18 (F := F) x k0_pay2 k0_pay3 Wc (taps4 x Wc) (k0_pay17 x k0_pay2 k0_pay3) = taps6 x Wc := rfl
/-- The body's value after seven taps of the convolution is their sum. -/
theorem taps7_eq (x : FVec F S64x2048 .f32) (Wc : FVec F S32x576 .f32) : k0_pay22 (F := F) k0_pay3 Wc (taps6 x Wc) (k0_pay19 x) (k0_pay20 k0_pay2) (k0_pay21 k0_pay2) = taps7 x Wc := rfl
/-- The body's last step of the convolution gives its result. -/
theorem conv_eq (x : FVec F S64x2048 .f32) (Wc : FVec F S32x576 .f32) (b : FVec F S32x1 .f32) :
    k0_pay24 (F := F) x k0_pay2 k0_pay3 (k0_pay4 Wc) (taps7 x (k0_pay4 Wc)) (k0_pay23 x k0_pay2 k0_pay3) b = convT x Wc b := rfl
/-- The body's sum of squares is the sum of the pixels' squares. -/
theorem squares_eq (x : FVec F S64x2048 .f32) : k0_pay25 x = squares x := rfl
/-- The body's nearness of all images' candidates is the nearness defined above. -/
theorem sims_eq (x : FVec F S64x2048 .f32) (cd : FVec F S256x64 .f32) :
    k0_pay41 x (k0_pay25 x) (k0_pay26 cd) (k0_pay28 x (k0_pay25 x) cd) (k0_pay29 x (k0_pay25 x) cd) (k0_pay34 (k0_pay31 cd) (k0_pay32 x cd) (k0_pay33 (k0_pay25 x)))
      (k0_pay35 x (k0_pay25 x) (k0_pay26 cd)) (k0_pay36 x (k0_pay25 x) (k0_pay26 cd)) (k0_pay38 (k0_pay26 cd)) (k0_pay39 (k0_pay26 cd)) (k0_pay40 x) = simsT x cd := rfl

section rounds
variable (s : FVec F S32x2048 .f32)
/-- The body's marks of the first round are the chosen entries of that round. -/
theorem c0 : k0_pay52 s numW = chosen (rounds s 0) := rfl
/-- The body's values after one round are those of the rounds. -/
theorem r1 : k0_pay55 s (chosen (rounds s 0)) = rounds s 1 := rfl
/-- The body's marks of the second round are the chosen entries of that round. -/
theorem c1 : k0_pay56 s numW (chosen (rounds s 0)) = chosen (rounds s 1) := rfl
/-- The body's values after two rounds are those of the rounds. -/
theorem r2 : k0_pay58 s numW (chosen (rounds s 0)) = rounds s 2 := by
  unfold k0_pay58; rw [c1, r1]; rfl
/-- The body's marks of the third round are the chosen entries of that round. -/
theorem c2 : k0_pay59 s numW (chosen (rounds s 0)) = chosen (rounds s 2) := by
  unfold k0_pay59; rw [r2]; rfl
/-- The body's values after three rounds are those of the rounds. -/
theorem r3 : k0_pay61 s numW (chosen (rounds s 0)) = rounds s 3 := by
  unfold k0_pay61; rw [c2, r2]; rfl
/-- The body's marks of the fourth round are the chosen entries of that round. -/
theorem c3 : k0_pay62 s numW (chosen (rounds s 0)) = chosen (rounds s 3) := by
  unfold k0_pay62; rw [r3]; rfl
/-- The body's values after four rounds are those of the rounds. -/
theorem r4 : k0_pay64 s numW (chosen (rounds s 0)) = rounds s 4 := by
  unfold k0_pay64; rw [c3, r3]; rfl
/-- The body's greatest values of the fifth round are those of the values after four rounds. -/
theorem m4 : k0_pay65 s numW (chosen (rounds s 0)) = multiReduction .maximumf [0] S2048 (rounds s 4) 0xFF800000#32 reduces_S32x2048_S2048 (.inl rfl) rfl := by
  unfold k0_pay65; rw [r4]
/-- The body's marks of the fifth round are the chosen entries of that round. -/
theorem c4 : k0_pay66 numW (rounds s 4) (multiReduction .maximumf [0] S2048 (rounds s 4) 0xFF800000#32 reduces_S32x2048_S2048 (.inl rfl) rfl) = chosen (rounds s 4) := rfl
/-- The body's values after five rounds are those of the rounds. -/
theorem r5 : k0_pay68 numW (rounds s 4) (multiReduction .maximumf [0] S2048 (rounds s 4) 0xFF800000#32 reduces_S32x2048_S2048 (.inl rfl) rfl) = rounds s 5 := by
  unfold k0_pay68; rw [c4]; rfl
/-- The body's marks of the sixth round are the chosen entries of that round. -/
theorem c5 : k0_pay69 numW (rounds s 4) (multiReduction .maximumf [0] S2048 (rounds s 4) 0xFF800000#32 reduces_S32x2048_S2048 (.inl rfl) rfl) = chosen (rounds s 5) := by
  unfold k0_pay69; rw [r5]; rfl
/-- The body's values after six rounds are those of the rounds. -/
theorem r6 : k0_pay71 numW (rounds s 4) (multiReduction .maximumf [0] S2048 (rounds s 4) 0xFF800000#32 reduces_S32x2048_S2048 (.inl rfl) rfl) = rounds s 6 := by
  unfold k0_pay71; rw [c5, r5]; rfl
/-- The body's marks of the seventh round are the chosen entries of that round. -/
theorem c6 : k0_pay72 numW (rounds s 4) (multiReduction .maximumf [0] S2048 (rounds s 4) 0xFF800000#32 reduces_S32x2048_S2048 (.inl rfl) rfl) = chosen (rounds s 6) := by
  unfold k0_pay72; rw [r6]; rfl
/-- The body's values after seven rounds are those of the rounds. -/
theorem r7 : k0_pay74 numW (rounds s 4) (multiReduction .maximumf [0] S2048 (rounds s 4) 0xFF800000#32 reduces_S32x2048_S2048 (.inl rfl) rfl) = rounds s 7 := by
  unfold k0_pay74; rw [c6, r6]; rfl
/-- The body's marks of the eighth round are the chosen entries of that round. -/
theorem c7 : k0_pay76 numW (k0_pay75 numW (rounds s 4) (multiReduction .maximumf [0] S2048 (rounds s 4) 0xFF800000#32 reduces_S32x2048_S2048 (.inl rfl) rfl)) = chosen (rounds s 7) := by
  unfold k0_pay75; rw [r7]; rfl
/-- The body's first array of ones and zeros marks the first round's choice. -/
theorem h0 : k0_pay54 (k0_pay53 s numW) = hot (rounds s 0) := rfl
/-- The body's second array of ones and zeros marks the second round's choice. -/
theorem h1 : k0_pay57 s numW (chosen (rounds s 0)) = hot (rounds s 1) := by unfold k0_pay57; rw [c1]; rfl
/-- The body's third array of ones and zeros marks the third round's choice. -/
theorem h2 : k0_pay60 s numW (chosen (rounds s 0)) = hot (rounds s 2) := by unfold k0_pay60; rw [c2]; rfl
/-- The body's fourth array of ones and zeros marks the fourth round's choice. -/
theorem h3 : k0_pay63 s numW (chosen (rounds s 0)) = hot (rounds s 3) := by unfold k0_pay63; rw [c3]; rfl
/-- The body's fifth array of ones and zeros marks the fifth round's choice. -/
theorem h4 : k0_pay67 numW (rounds s 4) (multiReduction .maximumf [0] S2048 (rounds s 4) 0xFF800000#32 reduces_S32x2048_S2048 (.inl rfl) rfl) = hot (rounds s 4) := rfl
/-- The body's sixth array of ones and zeros marks the sixth round's choice. -/
theorem h5 : k0_pay70 numW (rounds s 4) (multiReduction .maximumf [0] S2048 (rounds s 4) 0xFF800000#32 reduces_S32x2048_S2048 (.inl rfl) rfl) = hot (rounds s 5) := by unfold k0_pay70; rw [c5]; rfl
/-- The body's seventh array of ones and zeros marks the seventh round's choice. -/
theorem h6 : k0_pay73 numW (rounds s 4) (multiReduction .maximumf [0] S2048 (rounds s 4) 0xFF800000#32 reduces_S32x2048_S2048 (.inl rfl) rfl) = hot (rounds s 6) := by unfold k0_pay73; rw [c6]; rfl
/-- The body's eighth array of ones and zeros marks the eighth round's choice. -/
theorem h7 : k0_pay77 (F := F) numW (k0_pay75 numW (rounds s 4) (multiReduction .maximumf [0] S2048 (rounds s 4) 0xFF800000#32 reduces_S32x2048_S2048 (.inl rfl) rfl)) = hot (rounds s 7) := by unfold k0_pay77; rw [c7]; rfl
/-- The body's ninth array of ones and zeros marks the ninth round's choice. -/
theorem h8 : k0_pay78 numW (rounds s 7) (k0_pay75 numW (rounds s 4) (multiReduction .maximumf [0] S2048 (rounds s 4) 0xFF800000#32 reduces_S32x2048_S2048 (.inl rfl) rfl)) = hot (rounds s 8) := by unfold k0_pay78; rw [c7]; rfl
end rounds

/-- The offsets written out are zero on each axis. -/
theorem hz : (![0, 0] : Fin 2 → Nat) = fun _ => 0 := funext fun a => by fin_cases a <;> rfl

section near
variable (w0 w1 w2 w3 w4 w5 w6 w7 w8 : FVec F S32x256 .f32) (g0 g1 g2 g3 g4 g5 g6 g7 g8 : FVec F S32x2048 .f32)
/-- The body's nearest-neighbour layer of the first image is that image's layer. -/
theorem n0 (v : FVec F S32x2048 .f32) (z : IVec S32x2048 32) : k0_pay79 numW w0 w1 w2 w3 w4 w5 w6 w7 w8 g0 g1 g2 g3 g4 g5 g6 v z
    = nearT 0 0 slices_S32x256_o0_0_S32x32 slices_S32x2048_o0_0_S32x256 w0 w1 w2 w3 w4 w5 w6 w7 w8 g0 g1 g2 g3 g4 g5 g6 (k0_pay77 numW z) (k0_pay78 numW v z) := rfl
/-- The body's nearest-neighbour layer of the second image is that image's layer. -/
theorem n1 : k0_pay84 g3 g4 g5 g6 g7 g8 (k0_pay80 w0 w1 w2 w3 w4 w5 w6 w7 w8) (k0_pay81 g0) (k0_pay82 g1) (k0_pay83 g2) = nearT 32 256 slices_S32x256_o0_32_S32x32 slices_S32x2048_o0_256_S32x256 w0 w1 w2 w3 w4 w5 w6 w7 w8 g0 g1 g2 g3 g4 g5 g6 g7 g8 := rfl
/-- The body's nearest-neighbour layer of the third image is that image's layer. -/
theorem n2 : k0_pay85 w0 w1 w2 w3 w4 w5 w6 w7 w8 g0 g1 g2 g3 g4 g5 g6 g7 g8 = nearT 64 512 slices_S32x256_o0_64_S32x32 slices_S32x2048_o0_512_S32x256 w0 w1 w2 w3 w4 w5 w6 w7 w8 g0 g1 g2 g3 g4 g5 g6 g7 g8 := rfl
/-- The body's nearest-neighbour layer of the fourth image is that image's layer. -/
theorem n3 : k0_pay86 w0 w1 w2 w3 w4 w5 w6 w7 w8 g0 g1 g2 g3 g4 g5 g6 g7 g8 = nearT 96 768 slices_S32x256_o0_96_S32x32 slices_S32x2048_o0_768_S32x256 w0 w1 w2 w3 w4 w5 w6 w7 w8 g0 g1 g2 g3 g4 g5 g6 g7 g8 := rfl
/-- The body's nearest-neighbour layer of the fifth image is that image's layer. -/
theorem n4 : k0_pay94 w7 w8 g0 g1 g2 g3 g4 g5 g6 g7 g8 (k0_pay87 w0) (k0_pay88 w1) (k0_pay89 w2) (k0_pay90 w3) (k0_pay91 w4) (k0_pay92 w5) (k0_pay93 w6) = nearT 128 1024 slices_S32x256_o0_128_S32x32 slices_S32x2048_o0_1024_S32x256 w0 w1 w2 w3 w4 w5 w6 w7 w8 g0 g1 g2 g3 g4 g5 g6 g7 g8 := rfl
/-- The body's nearest-neighbour layer of the sixth image is that image's layer. -/
theorem n5 : k0_pay95 w0 w1 w2 w3 w4 w5 w6 w7 w8 g0 g1 g2 g3 g4 g5 g6 g7 g8 = nearT 160 1280 slices_S32x256_o0_160_S32x32 slices_S32x2048_o0_1280_S32x256 w0 w1 w2 w3 w4 w5 w6 w7 w8 g0 g1 g2 g3 g4 g5 g6 g7 g8 := rfl
/-- The body's nearest-neighbour layer of the seventh image is that image's layer. -/
theorem n6 : k0_pay96 w0 w1 w2 w3 w4 w5 w6 w7 w8 g0 g1 g2 g3 g4 g5 g6 g7 g8 = nearT 192 1536 slices_S32x256_o0_192_S32x32 slices_S32x2048_o0_1536_S32x256 w0 w1 w2 w3 w4 w5 w6 w7 w8 g0 g1 g2 g3 g4 g5 g6 g7 g8 := rfl
/-- The body's nearest-neighbour layer of the eighth image is that image's layer. -/
theorem n7 : k0_pay99 g0 g1 g2 g3 g4 g5 g6 g7 g8 (k0_pay98 w1 w2 w3 w4 w5 w6 w7 w8 (k0_pay97 w0)) = nearT 224 1792 slices_S32x256_o0_224_S32x32 slices_S32x2048_o0_1792_S32x256 w0 w1 w2 w3 w4 w5 w6 w7 w8 g0 g1 g2 g3 g4 g5 g6 g7 g8 := rfl
end near

section out
variable (x0 : Vec F S64x2048 .f32) (x1 : Vec F S256x64 .f32) (x2 : Vec F S64x256 .f32) (x3 : Vec F S32x576 .f32) (x4 : Vec F S32x1 .f32)
  (x5 : Vec F S32x576 .f32) (x6 : Vec F S32x1 .f32) (x7 : Vec F S128x64 .f32) (x8 : Vec F S128x1 .f32)
/-- The body's candidate numbers are the candidates' numbers. -/
theorem a108 : k0_pay108 x0 x1 x2 x3 x4 x5 x6 x7 x8 = numW := rfl
/-- The body's nearness of the candidates, from its own blocks. -/
theorem a109 : k0_pay109 x0 x1 x2 x3 x4 x5 x6 x7 x8 = simsT x0 x1 := by
  unfold k0_pay109 k0_pay105 k0_pay106
  rw [View.ld_unit_zero (S := S64x2048) hz, View.ld_unit_zero (S := S256x64) hz]
  exact sims_eq x0 x1
/-- The body's weighed candidates of the first neighbour, from its own blocks. -/
theorem a110 : k0_pay110 x0 x1 x2 x3 x4 x5 x6 x7 x8 = weighed 0 slices_S32x576_o0_0_S32x64 x2 x5 := by
  unfold k0_pay110 k0_pay107
  rw [View.ld_unit_zero (S := S64x256) hz, View.ld_unit_zero (S := S32x576) hz]
  rfl
/-- The body's weighed candidates of the second neighbour, from its own blocks. -/
theorem a111 : k0_pay111 x0 x1 x2 x3 x4 x5 x6 x7 x8 = weighed 64 slices_S32x576_o0_64_S32x64 x2 x5 := by
  unfold k0_pay111 k0_pay107
  rw [View.ld_unit_zero (S := S64x256) hz, View.ld_unit_zero (S := S32x576) hz]
  rfl
/-- The body's weighed candidates of the third neighbour, from its own blocks. -/
theorem a112 : k0_pay112 x0 x1 x2 x3 x4 x5 x6 x7 x8 = weighed 128 slices_S32x576_o0_128_S32x64 x2 x5 := by
  unfold k0_pay112 k0_pay107
  rw [View.ld_unit_zero (S := S64x256) hz, View.ld_unit_zero (S := S32x576) hz]
  rfl
/-- The body's weighed candidates of the fourth neighbour, from its own blocks. -/
theorem a113 : k0_pay113 x0 x1 x2 x3 x4 x5 x6 x7 x8 = weighed 192 slices_S32x576_o0_192_S32x64 x2 x5 := by
  unfold k0_pay113 k0_pay107
  rw [View.ld_unit_zero (S := S64x256) hz, View.ld_unit_zero (S := S32x576) hz]
  rfl
/-- The body's weighed candidates of the fifth neighbour, from its own blocks. -/
theorem a114 : k0_pay114 x0 x1 x2 x3 x4 x5 x6 x7 x8 = weighed 256 slices_S32x576_o0_256_S32x64 x2 x5 := by
  unfold k0_pay114 k0_pay107
  rw [View.ld_unit_zero (S := S64x256) hz, View.ld_unit_zero (S := S32x576) hz]
  rfl
/-- The body's weighed candidates of the sixth neighbour, from its own blocks. -/
theorem a115 : k0_pay115 x0 x1 x2 x3 x4 x5 x6 x7 x8 = weighed 320 slices_S32x576_o0_320_S32x64 x2 x5 := by
  unfold k0_pay115 k0_pay107
  rw [View.ld_unit_zero (S := S64x256) hz, View.ld_unit_zero (S := S32x576) hz]
  rfl
/-- The body's weighed candidates of the seventh neighbour, from its own blocks. -/
theorem a116 : k0_pay116 x0 x1 x2 x3 x4 x5 x6 x7 x8 = weighed 384 slices_S32x576_o0_384_S32x64 x2 x5 := by
  unfold k0_pay116 k0_pay107
  rw [View.ld_unit_zero (S := S64x256) hz, View.ld_unit_zero (S := S32x576) hz]
  rfl
/-- The body's weighed candidates of the eighth neighbour, from its own blocks. -/
theorem a117 : k0_pay117 x0 x1 x2 x3 x4 x5 x6 x7 x8 = weighed 448 slices_S32x576_o0_448_S32x64 x2 x5 := by
  unfold k0_pay117 k0_pay107
  rw [View.ld_unit_zero (S := S64x256) hz, View.ld_unit_zero (S := S32x576) hz]
  rfl
/-- The body's weighed candidates of the ninth neighbour, from its own blocks. -/
theorem a118 : k0_pay118 x0 x1 x2 x3 x4 x5 x6 x7 x8 = weighed 512 slices_S32x576_o0_512_S32x64 x2 x5 := by
  unfold k0_pay118 k0_pay107
  rw [View.ld_unit_zero (S := S64x256) hz, View.ld_unit_zero (S := S32x576) hz]
  rfl
/-- The first round's choice, from the body's own blocks. -/
theorem a119 : k0_pay119 x0 x1 x2 x3 x4 x5 x6 x7 x8 = chosen (rounds (simsT x0 x1) 0) := by
  unfold k0_pay119
  rw [a109, a108, c0]
/-- The first round's marks, from the body's own blocks. -/
theorem a120 : k0_pay120 x0 x1 x2 x3 x4 x5 x6 x7 x8 = hot (rounds (simsT x0 x1) 0) := by
  unfold k0_pay120
  rw [a109, a108, h0]
/-- The second round's marks, from the body's own blocks. -/
theorem a121 : k0_pay121 x0 x1 x2 x3 x4 x5 x6 x7 x8 = hot (rounds (simsT x0 x1) 1) := by
  unfold k0_pay121
  rw [a119, a109, a108, h1]
/-- The third round's marks, from the body's own blocks. -/
theorem a122 : k0_pay122 x0 x1 x2 x3 x4 x5 x6 x7 x8 = hot (rounds (simsT x0 x1) 2) := by
  unfold k0_pay122
  rw [a119, a109, a108, h2]
/-- The fourth round's marks, from the body's own blocks. -/
theorem a123 : k0_pay123 x0 x1 x2 x3 x4 x5 x6 x7 x8 = hot (rounds (simsT x0 x1) 3) := by
  unfold k0_pay123
  rw [a119, a109, a108, h3]
/-- The values after four rounds, from the body's own blocks. -/
theorem a124 : k0_pay124 x0 x1 x2 x3 x4 x5 x6 x7 x8 = rounds (simsT x0 x1) 4 := by
  unfold k0_pay124
  rw [a119, a109, a108, r4]
/-- The greatest values of the fifth round, from the body's own blocks. -/
theorem a125 : k0_pay125 x0 x1 x2 x3 x4 x5 x6 x7 x8 = multiReduction .maximumf [0] S2048 (rounds (simsT x0 x1) 4) 0xFF800000#32 reduces_S32x2048_S2048 (.inl rfl) rfl := by
  unfold k0_pay125
  rw [a119, a109, a108, m4]
/-- The fifth round's marks, from the body's own blocks. -/
theorem a126 : k0_pay126 x0 x1 x2 x3 x4 x5 x6 x7 x8 = hot (rounds (simsT x0 x1) 4) := by
  unfold k0_pay126
  rw [a124, a125, a108, h4]
/-- The sixth round's marks, from the body's own blocks. -/
theorem a127 : k0_pay127 x0 x1 x2 x3 x4 x5 x6 x7 x8 = hot (rounds (simsT x0 x1) 5) := by
  unfold k0_pay127
  rw [a124, a125, a108, h5]
/-- The seventh round's marks, from the body's own blocks. -/
theorem a128 : k0_pay128 x0 x1 x2 x3 x4 x5 x6 x7 x8 = hot (rounds (simsT x0 x1) 6) := by
  unfold k0_pay128
  rw [a124, a125, a108, h6]
/-- The values after seven rounds, from the body's own blocks. -/
theorem a129 : k0_pay129 x0 x1 x2 x3 x4 x5 x6 x7 x8 = rounds (simsT x0 x1) 7 := by
  unfold k0_pay129
  rw [a124, a125, a108, r7]
/-- The comparison the eighth round starts from, from the body's own blocks. -/
theorem a130 : k0_pay130 x0 x1 x2 x3 x4 x5 x6 x7 x8 = k0_pay75 numW (rounds (simsT x0 x1) 4) (multiReduction .maximumf [0] S2048 (rounds (simsT x0 x1) 4) 0xFF800000#32 reduces_S32x2048_S2048 (.inl rfl) rfl) := by
  unfold k0_pay130
  rw [a124, a125, a108]
/-- The eighth round's marks, from the body's own blocks. -/
theorem a131 : k0_pay131 x0 x1 x2 x3 x4 x5 x6 x7 x8 = hot (rounds (simsT x0 x1) 7) := by
  unfold k0_pay131
  rw [a130, a108, h7]
/-- The ninth round's marks, from the body's own blocks. -/
theorem a132 : k0_pay132 x0 x1 x2 x3 x4 x5 x6 x7 x8 = hot (rounds (simsT x0 x1) 8) := by
  unfold k0_pay132
  rw [a129, a130, a108, h8]

/-- The body's chain of convolution steps, from its own blocks, gives the convolution's result. -/
theorem conv_out : k0_pay24 x0 (k0_pay102 x0 x1 x2 x3 x4 x5 x6 x7 x8) (k0_pay103 x0 x1 x2 x3 x4 x5 x6 x7 x8) (k0_pay104 x0 x1 x2 x3 x4 x5 x6 x7 x8) (k0_pay22 (k0_pay103 x0 x1 x2 x3 x4 x5 x6 x7 x8) (k0_pay104 x0 x1 x2 x3 x4 x5 x6 x7 x8) (k0_pay18 x0 (k0_pay102 x0 x1 x2 x3 x4 x5 x6 x7 x8) (k0_pay103 x0 x1 x2 x3 x4 x5 x6 x7 x8) (k0_pay104 x0 x1 x2 x3 x4 x5 x6 x7 x8) (k0_pay16 (k0_pay103 x0 x1 x2 x3 x4 x5 x6 x7 x8) (k0_pay104 x0 x1 x2 x3 x4 x5 x6 x7 x8) (k0_pay12 x0 (k0_pay102 x0 x1 x2 x3 x4 x5 x6 x7 x8) (k0_pay103 x0 x1 x2 x3 x4 x5 x6 x7 x8) (k0_pay104 x0 x1 x2 x3 x4 x5 x6 x7 x8) (k0_pay9 (k0_pay103 x0 x1 x2 x3 x4 x5 x6 x7 x8) (k0_pay104 x0 x1 x2 x3 x4 x5 x6 x7 x8) k0_pay5 (k0_pay6 x0) k0_pay7 k0_pay8 16#32) (k0_pay10 x0) (Scalar.ofBits .f32 0x00000000#32) (k0_pay11 (k0_pay102 x0 x1 x2 x3 x4 x5 x6 x7 x8) (k0_pay103 x0 x1 x2 x3 x4 x5 x6 x7 x8))) (k0_pay13 x0) (k0_pay14 (k0_pay102 x0 x1 x2 x3 x4 x5 x6 x7 x8)) (k0_pay15 (k0_pay102 x0 x1 x2 x3 x4 x5 x6 x7 x8)) 16#32) (k0_pay17 x0 (k0_pay102 x0 x1 x2 x3 x4 x5 x6 x7 x8) (k0_pay103 x0 x1 x2 x3 x4 x5 x6 x7 x8))) (k0_pay19 x0) (k0_pay20 (k0_pay102 x0 x1 x2 x3 x4 x5 x6 x7 x8)) (k0_pay21 (k0_pay102 x0 x1 x2 x3 x4 x5 x6 x7 x8))) (k0_pay23 x0 (k0_pay102 x0 x1 x2 x3 x4 x5 x6 x7 x8) (k0_pay103 x0 x1 x2 x3 x4 x5 x6 x7 x8)) x4
    = convT x0 x3 x4 := by
  unfold k0_pay102 k0_pay103 k0_pay104
  rw [View.ld_unit_zero (S := S32x576) hz, taps1_eq, taps3_eq, taps4_eq, taps6_eq, taps7_eq, conv_eq]

/-- What the kernel writes is the block's result on its blocks. -/
theorem out_eq : out0_9 x0 x1 x2 x3 x4 x5 x6 x7 x8 = outT x0 x1 x2 x3 x4 x5 x6 x7 x8 := by
  unfold out0_9
  rw [View.canon_unit_zero hz]
  simp only [View.ld_unit_zero (S := S64x2048) hz, View.ld_unit_zero (S := S256x64) hz, View.ld_unit_zero (S := S64x256) hz, View.ld_unit_zero (S := S32x576) hz, View.ld_unit_zero (S := S32x1) hz, View.ld_unit_zero (S := S128x64) hz, View.ld_unit_zero (S := S128x1) hz]
  rw [conv_out, a108, n0, n1, n2, n3, n4, n5, n6, n7, a129, a130, h7, h8, a110, a111, a112, a113, a114, a115, a116, a117, a118, a120, a121, a122, a123, a126, a127, a128, a131, a132]
  rfl
end out

end Cert.Kernel2Ideal.Body
-- ==== Proof.Pick.lean ====
/- How the kernel's words name the taps that stay inside the image and the first greatest of thirty-two values. -/
module

public import proofs.«01_k».proof.Proof.Block
public import Idealize.ShloMosaic.Lib.Pointwise
public import Idealize.ShloMosaic.Lib.SortNet.Extract

@[expose] public section

noncomputable section

namespace Cert.Block

open Idealize.ShloMosaic

/-- The greatest of the values, folded from the least value there is, is the value at the first greatest position. -/
theorem fold_max_first (s : Fin 32 → EReal) : Finset.fold max ⊥ s Finset.univ = s (first s) :=
  le_antisymm ((Finset.fold_max_le _).mpr ⟨bot_le, fun x _ => le_first s x⟩)
    ((Finset.le_fold_max _).mpr (Or.inr ⟨first s, Finset.mem_univ _, le_rfl⟩))

/-- The signed minimum of words, read as an integer, is the minimum of the integers they read as. -/
theorem toInt_fold_minsi (g : Fin 32 → BitVec 32) (b : BitVec 32) (t : Finset (Fin 32)) :
    (Finset.fold IntOp.minsi b g t).toInt = Finset.fold min b.toInt (fun x => (g x).toInt) t :=
  (Finset.fold_hom (op := IntOp.minsi) (op' := min) (m := BitVec.toInt) (fun x y => SortNet.toInt_minsi x y)).symm

/-- A word of a number below 33 reads as that number. -/
theorem toInt_small (x : Nat) (h : x < 33) : (BitVec.ofNat 32 x).toInt = x := by
  have : ∀ y : Fin 33, (BitVec.ofNat 32 y.val).toInt = y.val := by decide +kernel
  exact this ⟨x, h⟩

/-- The least of the numbers of the positions that hold the greatest value is that of the first of them. -/
theorem fold_minsi_first (s : Fin 32 → EReal) :
    Finset.fold IntOp.minsi 2147483647#32 (fun x : Fin 32 => if s x = s (first s) then BitVec.ofNat 32 x.val else 32#32) Finset.univ
      = BitVec.ofNat 32 (first s).val := by
  apply BitVec.eq_of_toInt_eq
  have hf := toInt_small (first s).val (by have := (first s).isLt; omega)
  rw [toInt_fold_minsi, hf]
  refine le_antisymm ((Finset.fold_min_le _).mpr (Or.inr ⟨first s, Finset.mem_univ _, ?_⟩)) ((Finset.le_fold_min _).mpr ⟨?_, fun x _ => ?_⟩)
  · rw [if_pos rfl, hf]
  · have h : (2147483647#32).toInt = 2147483647 := by decide +kernel
    have := (first s).isLt
    show ((first s).val : Int) ≤ (2147483647#32).toInt
    rw [h]; omega
  · by_cases h : s x = s (first s)
    · have h2 := first_le s x fun k => (le_first s k).trans h.ge
      have h3 := Fin.le_def.mp h2
      have h4 := toInt_small x.val (by have := x.isLt; omega)
      show _ ≤ (if s x = s (first s) then BitVec.ofNat 32 x.val else 32#32).toInt
      rw [if_pos h, h4]; omega
    · have := (first s).isLt
      show _ ≤ (if s x = s (first s) then BitVec.ofNat 32 x.val else 32#32).toInt
      rw [if_neg h, show (32#32).toInt = ((32 : Nat) : Int) from toInt_small 32 (by omega)]
      omega

/-- Two candidates' words are equal exactly when the candidates are. -/
theorem cmpi_eq_small (a b : Fin 32) : IntOp.cmpi .eq (BitVec.ofNat 32 a.val) (BitVec.ofNat 32 b.val) = if a = b then 1#1 else 0#1 := by
  revert a b
  decide +kernel

/-- The word that a round computes for a position: one at the first greatest value, zero elsewhere. -/
theorem pick_word (s : Fin 32 → EReal) (m : Fin 32) :
    IntOp.cmpi .eq (BitVec.ofNat 32 m.val) (Finset.fold IntOp.minsi 2147483647#32
      (fun x : Fin 32 => if s x = Finset.fold max ⊥ s Finset.univ then BitVec.ofNat 32 x.val else 32#32) Finset.univ)
      = if m = first s then 1#1 else 0#1 := by
  rw [fold_max_first, fold_minsi_first, cmpi_eq_small]

/-- The word that says whether the tap in row `i` and column `j` of the window stays inside the image. -/
theorem inside_word (i j : Fin 3) (h w : Fin 16) :
    IntOp.andi
      (IntOp.andi
        (IntOp.andi (IntOp.cmpi .sge (IntOp.addi (BitVec.ofNat 32 h.val) (BitVec.ofNat 32 (i.val + 4294967295))) 0#32)
          (IntOp.cmpi .slt (IntOp.addi (BitVec.ofNat 32 h.val) (BitVec.ofNat 32 (i.val + 4294967295))) 16#32))
        (IntOp.cmpi .sge (IntOp.addi (BitVec.ofNat 32 w.val) (BitVec.ofNat 32 (j.val + 4294967295))) 0#32))
      (IntOp.cmpi .slt (IntOp.addi (BitVec.ofNat 32 w.val) (BitVec.ofNat 32 (j.val + 4294967295))) 16#32)
      = if 1 ≤ h.val + i.val ∧ h.val + i.val < 17 ∧ 1 ≤ w.val + j.val ∧ w.val + j.val < 17 then 1#1 else 0#1 := by
  revert i j h w
  decide +kernel

/-- The least extended real as a word. -/
theorem ofBits_least : Ideal.ofBits .f32 0xFF800000#32 = ⊥ := by
  simp [Ideal.ofBits, Ideal.ieee]

/-- Two as a word. -/
theorem ofBits_two : Ideal.ofBits .f32 0x40000000#32 = 2 := by
  rw [show (2 : EReal) = ((2 : ℝ) : EReal) by norm_cast]
  simp [Ideal.ofBits, Ideal.ieee, -EReal.coe_mul]
  norm_num

end Cert.Block
-- ==== Proof.Body2Conv.lean ====
/- The convolution and the candidates' nearness of the branching block's kernel, read as real numbers at one pixel of one
   image: the kernel's columns are the pixels of eight images, 256 to an image. -/
module

public import proofs.«01_k».proof.Proof.Body2
public import proofs.«01_k».proof.Proof.Block
public import proofs.«01_k».proof.Proof.Pick

@[expose] public section

noncomputable section

namespace Cert.Kernel2Ideal.Body

open Cert.Kernel2Ideal Cert.Kernel2Ideal.Gen Idealize.ShloMosaic Idealize.ShloMosaic.TcCoe Cert.Block

/-- The column that holds pixel `p` of image `s`. -/
def spot (s : Fin 8) (p : Fin 256) : Fin 2048 := ⟨256 * s.val + p.val, by omega⟩

/-- Image `s` of the eight: for each channel, its pixels by number. -/
def img (x : FVec Ideal S64x2048 .f32) (s : Fin 8) : Fin 64 → Nat → EReal := fun c => col fun p : Fin 256 => x (ix2 c (spot s p))

/-- Inside an image, its pixel is an entry of the block. -/
theorem img_eq (x : FVec Ideal S64x2048 .f32) (s : Fin 8) (c : Fin 64) (p : Nat) (hp : p < 256) :
    img x s c p = x (ix2 c (spot s ⟨p, hp⟩)) := col_eq _ _ _

/-- The convolution's weights for output channel `o`, from their row: tap by tap, the channels of a tap together. -/
def wts (W : FVec Ideal S32x576 .f32) (o : Fin 32) : Fin 64 → Nat → Nat → EReal :=
  fun c => tri fun i j => W (ix2 o ⟨(3 * i.val + j.val) * 64 + c.val, by omega⟩)

/-- The row word of a column: sixteen pixels make a row, and sixteen rows an image. -/
theorem rowW_apply (j : Fin 2048) : rowW (ix2 0 j) = BitVec.ofNat 32 (j.val / 16 % 16) := by
  pointwise [rowW, k0_pay2]
  revert j
  decide +kernel

/-- The column word of a column: sixteen pixels make a row. -/
theorem colW_apply (j : Fin 2048) : colW (ix2 0 j) = BitVec.ofNat 32 (j.val % 16) := by
  pointwise [colW, k0_pay3]
  revert j
  decide +kernel

/-- The word that says a tap stays inside the image is one exactly when its row and its column do. -/
theorem inside_apply (i j : Fin 3) (s : Fin 8) (p : Fin 256) :
    inside (BitVec.ofNat 32 (i.val + 4294967295)) (BitVec.ofNat 32 (j.val + 4294967295)) rowW colW (ix2 0 (spot s p))
      = if 1 ≤ p.val / 16 + i.val ∧ p.val / 16 + i.val < 17 ∧ 1 ≤ p.val % 16 + j.val ∧ p.val % 16 + j.val < 17 then 1#1 else 0#1 := by
  have h1 : (spot s p).val / 16 % 16 = p.val / 16 := by show (256 * s.val + p.val) / 16 % 16 = _; omega
  have h2 : (spot s p).val % 16 = p.val % 16 := by show (256 * s.val + p.val) % 16 = _; omega
  pointwise [inside]
  rw [rowW_apply, colW_apply, h1, h2]
  exact inside_word i j ⟨p.val / 16, by omega⟩ ⟨p.val % 16, by omega⟩

/-- An entry of the turned images is the entry that many columns before, around the end. -/
theorem turned_apply (r : BitVec 32) (x : FVec Ideal S64x2048 .f32) (c : Fin 64) (j : Fin 2048) :
    turned r x (ix2 c j) = x (ix2 c ⟨(j.val + 2048 - r.toNat % 2048) % 2048, Nat.mod_lt _ (by norm_num)⟩) := by
  pointwise [turned]

/-- What a tap sees at an entry: the turned images' entry where the tap stays inside, else zero. -/
theorem seen_apply (dh dw : BitVec 32) (x : FVec Ideal S64x2048 .f32) (c : Fin 64) (j : Fin 2048) :
    seen dh dw x (ix2 c j) = Scalar.select (inside dh dw rowW colW (ix2 0 j)) (x (ix2 c j)) 0 := by
  pointwise [seen]

/-- What a tap of the window sees of the turned images is what the mathematics' tap sees of the image. -/
theorem seen_eq (x y : FVec Ideal S64x2048 .f32) (i j : Fin 3)
    (hy : ∀ (c : Fin 64) (l : Fin 2048), y (ix2 c l) = x (ix2 c ⟨(l.val + 16 * i.val + j.val + 2031) % 2048, Nat.mod_lt _ (by norm_num)⟩))
    (c : Fin 64) (s : Fin 8) (p : Fin 256) :
    seen (BitVec.ofNat 32 (i.val + 4294967295)) (BitVec.ofNat 32 (j.val + 4294967295)) y (ix2 c (spot s p)) = tap (img x s c) i.val j.val p.val := by
  rw [seen_apply, inside_apply, hy]
  unfold tap
  by_cases h : 1 ≤ p.val / 16 + i.val ∧ p.val / 16 + i.val < 17 ∧ 1 ≤ p.val % 16 + j.val ∧ p.val % 16 + j.val < 17
  · rw [if_pos h, if_pos h, img_eq x s c _ (by omega)]
    show x _ = x _
    congr 2
    apply Fin.ext
    show (256 * s.val + p.val + 16 * i.val + j.val + 2031) % 2048 = 256 * s.val + (16 * (p.val / 16 + i.val - 1) + (p.val % 16 + j.val - 1))
    omega
  · rw [if_neg h, if_neg h]
    rfl

/-- A step at an entry: what was there, and the tap's weights times what it sees, added over the channels. -/
theorem step_apply (off : Nat) (hs : S32x576.Slices ![0, off] S32x64) (hoff : off + 64 ≤ 576) (Wc : FVec Ideal S32x576 .f32) (t : FVec Ideal S64x2048 .f32) (acc : FVec Ideal S32x2048 .f32)
    (o : Fin 32) (j : Fin 2048) : step off hs Wc t acc (ix2 o j) = acc (ix2 o j) + ∑ c : Fin 64, Wc (ix2 o ⟨off + c.val, by omega⟩) * t (ix2 c j) := by
  pointwise [step]

/-- A step of the convolution adds one tap's part. -/
theorem step_eq (off : Nat) (hs : S32x576.Slices ![0, off] S32x64) (Wc : FVec Ideal S32x576 .f32) (x t : FVec Ideal S64x2048 .f32) (acc : FVec Ideal S32x2048 .f32)
    (o : Fin 32) (s : Fin 8) (p : Fin 256) (i j : Fin 3) (hoff : off = (3 * i.val + j.val) * 64) (ht : ∀ c, t (ix2 c (spot s p)) = tap (img x s c) i.val j.val p.val) :
    step off hs Wc t acc (ix2 o (spot s p)) = acc (ix2 o (spot s p)) + tapSum (wts Wc o) (img x s) i.val j.val p.val := by
  rw [step_apply off hs (by omega)]
  unfold tapSum
  refine congrArg _ (Finset.sum_congr rfl fun c _ => ?_)
  rw [ht]
  unfold wts
  rw [tri_eq]
  subst hoff
  rfl

section conv
variable (x : FVec Ideal S64x2048 .f32) (Wc : FVec Ideal S32x576 .f32) (o : Fin 32) (s : Fin 8) (p : Fin 256)

/-- Before the first tap the sum is zero. -/
theorem taps0_apply : (taps0 : FVec Ideal S32x2048 .f32) (ix2 o (spot s p)) = 0 := by
  pointwise [taps0]

/-- At a pixel, the first tap adds its part of the mathematics' convolution. -/
theorem taps1_apply : taps1 x Wc (ix2 o (spot s p)) = tapSum (wts Wc o) (img x s) 0 0 p.val := by
  unfold taps1
  refine (step_eq _ _ Wc x _ _ o s p 0 0 rfl fun c => seen_eq x _ 0 0 (fun c l => ?_) c s p).trans ?_
  · rw [turned_apply]
    refine congrArg (fun l => x (ix2 c l)) (Fin.ext ?_)
    show (l.val + 2048 - 17 % 2048) % 2048 = (l.val + 16 * 0 + 0 + 2031) % 2048
    omega
  · rw [taps0_apply, zero_add]; rfl

/-- At a pixel, the second tap adds its part of the mathematics' convolution. -/
theorem taps2_apply : taps2 x Wc (ix2 o (spot s p)) = taps1 x Wc (ix2 o (spot s p)) + tapSum (wts Wc o) (img x s) 0 1 p.val := by
  unfold taps2
  refine (step_eq _ _ Wc x _ _ o s p 0 1 rfl fun c => seen_eq x _ 0 1 (fun c l => ?_) c s p).trans ?_
  · rw [turned_apply]
    refine congrArg (fun l => x (ix2 c l)) (Fin.ext ?_)
    show (l.val + 2048 - 16 % 2048) % 2048 = (l.val + 16 * 0 + 1 + 2031) % 2048
    omega
  · rfl

/-- At a pixel, the third tap adds its part of the mathematics' convolution. -/
theorem taps3_apply : taps3 x Wc (ix2 o (spot s p)) = taps2 x Wc (ix2 o (spot s p)) + tapSum (wts Wc o) (img x s) 0 2 p.val := by
  unfold taps3
  refine (step_eq _ _ Wc x _ _ o s p 0 2 rfl fun c => seen_eq x _ 0 2 (fun c l => ?_) c s p).trans ?_
  · rw [turned_apply]
    refine congrArg (fun l => x (ix2 c l)) (Fin.ext ?_)
    show (l.val + 2048 - 15 % 2048) % 2048 = (l.val + 16 * 0 + 2 + 2031) % 2048
    omega
  · rfl

/-- At a pixel, the fourth tap adds its part of the mathematics' convolution. -/
theorem taps4_apply : taps4 x Wc (ix2 o (spot s p)) = taps3 x Wc (ix2 o (spot s p)) + tapSum (wts Wc o) (img x s) 1 0 p.val := by
  unfold taps4
  refine (step_eq _ _ Wc x _ _ o s p 1 0 rfl fun c => seen_eq x _ 1 0 (fun c l => ?_) c s p).trans ?_
  · rw [turned_apply]
    refine congrArg (fun l => x (ix2 c l)) (Fin.ext ?_)
    show (l.val + 2048 - 1 % 2048) % 2048 = (l.val + 16 * 1 + 0 + 2031) % 2048
    omega
  · rfl

/-- At a pixel, the fifth tap adds its part of the mathematics' convolution. -/
theorem taps5_apply : taps5 x Wc (ix2 o (spot s p)) = taps4 x Wc (ix2 o (spot s p)) + tapSum (wts Wc o) (img x s) 1 1 p.val := by
  unfold taps5
  refine (step_eq _ _ Wc x _ _ o s p 1 1 rfl fun c => seen_eq x _ 1 1 (fun c l => ?_) c s p).trans ?_
  · refine congrArg (fun l => x (ix2 c l)) (Fin.ext ?_)
    show l.val = (l.val + 16 * 1 + 1 + 2031) % 2048
    omega
  · rfl

/-- At a pixel, the sixth tap adds its part of the mathematics' convolution. -/
theorem taps6_apply : taps6 x Wc (ix2 o (spot s p)) = taps5 x Wc (ix2 o (spot s p)) + tapSum (wts Wc o) (img x s) 1 2 p.val := by
  unfold taps6
  refine (step_eq _ _ Wc x _ _ o s p 1 2 rfl fun c => seen_eq x _ 1 2 (fun c l => ?_) c s p).trans ?_
  · rw [turned_apply]
    refine congrArg (fun l => x (ix2 c l)) (Fin.ext ?_)
    show (l.val + 2048 - 2047 % 2048) % 2048 = (l.val + 16 * 1 + 2 + 2031) % 2048
    omega
  · rfl

/-- At a pixel, the seventh tap adds its part of the mathematics' convolution. -/
theorem taps7_apply : taps7 x Wc (ix2 o (spot s p)) = taps6 x Wc (ix2 o (spot s p)) + tapSum (wts Wc o) (img x s) 2 0 p.val := by
  unfold taps7
  refine (step_eq _ _ Wc x _ _ o s p 2 0 rfl fun c => seen_eq x _ 2 0 (fun c l => ?_) c s p).trans ?_
  · rw [turned_apply]
    refine congrArg (fun l => x (ix2 c l)) (Fin.ext ?_)
    show (l.val + 2048 - 2033 % 2048) % 2048 = (l.val + 16 * 2 + 0 + 2031) % 2048
    omega
  · rfl

/-- At a pixel, the eighth tap adds its part of the mathematics' convolution. -/
theorem taps8_apply : taps8 x Wc (ix2 o (spot s p)) = taps7 x Wc (ix2 o (spot s p)) + tapSum (wts Wc o) (img x s) 2 1 p.val := by
  unfold taps8
  refine (step_eq _ _ Wc x _ _ o s p 2 1 rfl fun c => seen_eq x _ 2 1 (fun c l => ?_) c s p).trans ?_
  · rw [turned_apply]
    refine congrArg (fun l => x (ix2 c l)) (Fin.ext ?_)
    show (l.val + 2048 - 2032 % 2048) % 2048 = (l.val + 16 * 2 + 1 + 2031) % 2048
    omega
  · rfl

/-- At a pixel, the ninth tap adds its part of the mathematics' convolution. -/
theorem taps9_apply : taps9 x Wc (ix2 o (spot s p)) = taps8 x Wc (ix2 o (spot s p)) + tapSum (wts Wc o) (img x s) 2 2 p.val := by
  unfold taps9
  refine (step_eq _ _ Wc x _ _ o s p 2 2 rfl fun c => seen_eq x _ 2 2 (fun c l => ?_) c s p).trans ?_
  · rw [turned_apply]
    refine congrArg (fun l => x (ix2 c l)) (Fin.ext ?_)
    show (l.val + 2048 - 2031 % 2048) % 2048 = (l.val + 16 * 2 + 2 + 2031) % 2048
    omega
  · rfl

/-- The convolution at an entry: the nine taps' sum and the bias, or zero if that is negative. -/
theorem convT_apply (b : FVec Ideal S32x1 .f32) :
    convT x Wc b (ix2 o (spot s p)) = max (taps9 x Wc (ix2 o (spot s p)) + b (ix2 o 0)) 0 := by
  unfold convT
  rw [shapeCast_self, shapeCast_self]
  pointwise

/-- The kernel's convolution is the mathematics' at every pixel. -/
theorem convT_eq (b : FVec Ideal S32x1 .f32) : convT x Wc b (ix2 o (spot s p)) = conv (wts Wc o) (b (ix2 o 0)) (img x s) p.val := by
  rw [convT_apply, taps9_apply, taps8_apply, taps7_apply, taps6_apply, taps5_apply, taps4_apply, taps3_apply, taps2_apply, taps1_apply]
  rfl
end conv

/-- A pixel's squares added over the channels. -/
theorem squares_apply (x : FVec Ideal S64x2048 .f32) (j : Fin 2048) : squares x (ix2 0 j) = ∑ c : Fin 64, x (ix2 c j) * x (ix2 c j) := by
  pointwise [squares]

/-- The nearness of one image's candidate to one pixel, written out. -/
theorem simT_apply (oc ox : Nat) (hoc : oc + 32 ≤ 256) (hox : ox + 256 ≤ 2048) (hc : S256x64.Slices ![oc, 0] S32x64) (hx : S64x2048.Slices ![0, ox] S64x256) (hq : S1x2048.Slices ![0, ox] S1x256)
    (x : FVec Ideal S64x2048 .f32) (q : FVec Ideal S1x2048 .f32) (cd : FVec Ideal S256x64 .f32) (m : Fin 32) (p : Fin 256) :
    simT oc ox hc hx hq x q cd (ix2 m p) = 0 - (q (ix2 0 ⟨ox + p.val, by omega⟩)
      - Ideal.ofBits FTy.f32 1073741824#32 * ∑ c : Fin 64, cd (ix2 ⟨oc + m.val, by omega⟩ c) * x (ix2 c ⟨ox + p.val, by omega⟩)
      + ∑ c : Fin 64, cd (ix2 ⟨oc + m.val, by omega⟩ c) * cd (ix2 ⟨oc + m.val, by omega⟩ c)) := by
  pointwise [simT]

/-- The candidates' nearness that the kernel computes is the mathematics'. -/
theorem simT_eq (oc ox : Nat) (hc : S256x64.Slices ![oc, 0] S32x64) (hx : S64x2048.Slices ![0, ox] S64x256) (hq : S1x2048.Slices ![0, ox] S1x256)
    (x : FVec Ideal S64x2048 .f32) (cd : FVec Ideal S256x64 .f32) (s : Fin 8) (hoc : oc = 32 * s.val) (hox : ox = 256 * s.val)
    (hcd : ∀ (m : Fin 32) (c : Fin 64), cd (ix2 ⟨32 * s.val + m.val, by omega⟩ c) = img x s c (8 * m.val)) (m : Fin 32) (p : Fin 256) :
    simT oc ox hc hx hq x (squares x) cd (ix2 m p) = sim (img x s) p.val m := by
  subst hoc hox
  rw [simT_apply _ _ (by omega) (by omega), ofBits_two, zero_sub, squares_apply]
  unfold sim
  have hq : ∀ c : Fin 64, x (ix2 c ⟨256 * s.val + p.val, by omega⟩) = img x s c p.val := fun c => (img_eq x s c p.val p.isLt).symm
  simp only [hq, hcd]
  simp only [mul_comm (img x s _ (8 * m.val)) (img x s _ p.val)]

/-- Eight blocks of 256 columns beside one another, read at one column. -/
theorem beside32 (x0 x1 x2 x3 x4 x5 x6 x7 : FVec Ideal S32x256 .f32)
    (h : Shape.Concatenates [S32x256, S32x256, S32x256, S32x256, S32x256, S32x256, S32x256, S32x256] S32x2048 1)
    (o : Fin 32) (s : Fin 8) (p : Fin 256) (v : EReal)
    (h0 : s = 0 → x0 (ix2 o p) = v)
    (h1 : s = 1 → x1 (ix2 o p) = v)
    (h2 : s = 2 → x2 (ix2 o p) = v)
    (h3 : s = 3 → x3 (ix2 o p) = v)
    (h4 : s = 4 → x4 (ix2 o p) = v)
    (h5 : s = 5 → x5 (ix2 o p) = v)
    (h6 : s = 6 → x6 (ix2 o p) = v)
    (h7 : s = 7 → x7 (ix2 o p) = v)
    : concatenate S32x2048 1 [⟨S32x256, x0⟩, ⟨S32x256, x1⟩, ⟨S32x256, x2⟩, ⟨S32x256, x3⟩, ⟨S32x256, x4⟩, ⟨S32x256, x5⟩, ⟨S32x256, x6⟩, ⟨S32x256, x7⟩] h (ix2 o (spot s p)) = v := by
  pointwise
  have e : (spot s p).val = 256 * s.val + p.val := rfl
  have hs := s.isLt
  have hp := p.isLt
  by_cases a0 : (spot s p).val < 256
  · rw [dif_pos a0, ← h0 (Fin.ext (by show s.val = 0; omega))]
    refine congrArg (fun l => x0 (ix2 o l)) (Fin.ext ?_)
    show (spot s p).val = p.val
    omega
  rw [dif_neg a0]
  by_cases a1 : (spot s p).val - 256 < 256
  · rw [dif_pos a1, ← h1 (Fin.ext (by show s.val = 1; omega))]
    refine congrArg (fun l => x1 (ix2 o l)) (Fin.ext ?_)
    show (spot s p).val - 256 = p.val
    omega
  rw [dif_neg a1]
  by_cases a2 : (spot s p).val - 256 - 256 < 256
  · rw [dif_pos a2, ← h2 (Fin.ext (by show s.val = 2; omega))]
    refine congrArg (fun l => x2 (ix2 o l)) (Fin.ext ?_)
    show (spot s p).val - 256 - 256 = p.val
    omega
  rw [dif_neg a2]
  by_cases a3 : (spot s p).val - 256 - 256 - 256 < 256
  · rw [dif_pos a3, ← h3 (Fin.ext (by show s.val = 3; omega))]
    refine congrArg (fun l => x3 (ix2 o l)) (Fin.ext ?_)
    show (spot s p).val - 256 - 256 - 256 = p.val
    omega
  rw [dif_neg a3]
  by_cases a4 : (spot s p).val - 256 - 256 - 256 - 256 < 256
  · rw [dif_pos a4, ← h4 (Fin.ext (by show s.val = 4; omega))]
    refine congrArg (fun l => x4 (ix2 o l)) (Fin.ext ?_)
    show (spot s p).val - 256 - 256 - 256 - 256 = p.val
    omega
  rw [dif_neg a4]
  by_cases a5 : (spot s p).val - 256 - 256 - 256 - 256 - 256 < 256
  · rw [dif_pos a5, ← h5 (Fin.ext (by show s.val = 5; omega))]
    refine congrArg (fun l => x5 (ix2 o l)) (Fin.ext ?_)
    show (spot s p).val - 256 - 256 - 256 - 256 - 256 = p.val
    omega
  rw [dif_neg a5]
  by_cases a6 : (spot s p).val - 256 - 256 - 256 - 256 - 256 - 256 < 256
  · rw [dif_pos a6, ← h6 (Fin.ext (by show s.val = 6; omega))]
    refine congrArg (fun l => x6 (ix2 o l)) (Fin.ext ?_)
    show (spot s p).val - 256 - 256 - 256 - 256 - 256 - 256 = p.val
    omega
  rw [dif_neg a6]
  · rw [← h7 (Fin.ext (by show s.val = 7; omega))]
    refine congrArg (fun l => x7 (ix2 o l)) (Fin.ext ?_)
    show (spot s p).val - 256 - 256 - 256 - 256 - 256 - 256 - 256 = p.val
    omega

/-- The nearness the kernel computes is the mathematics' nearness, where the candidates are every eighth pixel. -/
theorem simsT_eq (x : FVec Ideal S64x2048 .f32) (cd : FVec Ideal S256x64 .f32) (s : Fin 8)
    (hcd : ∀ (m : Fin 32) (c : Fin 64), cd (ix2 ⟨32 * s.val + m.val, by omega⟩ c) = img x s c (8 * m.val)) (m : Fin 32) (p : Fin 256) :
    simsT x cd (ix2 m (spot s p)) = sim (img x s) p.val m := by
  unfold simsT
  rw [shapeCast_self]
  refine beside32 _ _ _ _ _ _ _ _ _ m s p _ ?_ ?_ ?_ ?_ ?_ ?_ ?_ ?_
  · rintro rfl; exact simT_eq _ _ _ _ _ x cd 0 rfl rfl hcd m p
  · rintro rfl; exact simT_eq _ _ _ _ _ x cd 1 rfl rfl hcd m p
  · rintro rfl; exact simT_eq _ _ _ _ _ x cd 2 rfl rfl hcd m p
  · rintro rfl; exact simT_eq _ _ _ _ _ x cd 3 rfl rfl hcd m p
  · rintro rfl; exact simT_eq _ _ _ _ _ x cd 4 rfl rfl hcd m p
  · rintro rfl; exact simT_eq _ _ _ _ _ x cd 5 rfl rfl hcd m p
  · rintro rfl; exact simT_eq _ _ _ _ _ x cd 6 rfl rfl hcd m p
  · rintro rfl; exact simT_eq _ _ _ _ _ x cd 7 rfl rfl hcd m p

end Cert.Kernel2Ideal.Body
-- ==== Proof.Body2Near.lean ====
/- The nearest-neighbour layer of the branching block's kernel and its last linear map, read as real numbers at one pixel of one
   image, and with them the block's whole result. -/
module

public import proofs.«01_k».proof.Proof.Body2Conv

@[expose] public section

noncomputable section

namespace Cert.Kernel2Ideal.Body

open Cert.Kernel2Ideal Cert.Kernel2Ideal.Gen Idealize.ShloMosaic Idealize.ShloMosaic.TcCoe Cert.Block

/-- The mark of a round stands at the first greatest value of each column and nowhere else. -/
theorem chosen_apply (s : FVec Ideal S32x2048 .f32) (m : Fin 32) (j : Fin 2048) :
    chosen s (ix2 m j) = if m = first (fun k => s (ix2 k j)) then 1#1 else 0#1 := by
  pointwise [chosen, numW]
  rw [ofBits_least]
  exact pick_word (fun k => s (ix2 k j)) m

/-- An entry after a round: the least value where it was chosen, else as it was. -/
theorem struck_apply (s : FVec Ideal S32x2048 .f32) (m : Fin 32) (j : Fin 2048) :
    struck s (ix2 m j) = Scalar.select (chosen s (ix2 m j)) (Ideal.ofBits .f32 0xFF800000#32) (s (ix2 m j)) := by
  pointwise [struck]

/-- What is left after `k` rounds is what the mathematics leaves. -/
theorem rounds_apply (s : FVec Ideal S32x2048 .f32) (j : Fin 2048) (k : Nat) : ∀ m : Fin 32, rounds s k (ix2 m j) = left (fun i => s (ix2 i j)) k m := by
  induction k with
  | zero => exact fun _ => rfl
  | succ k ih =>
    intro m
    show struck (rounds s k) (ix2 m j) = strike (left (fun i => s (ix2 i j)) k) m
    rw [struck_apply, chosen_apply, ofBits_least, ih m, show (fun i => rounds s k (ix2 i j)) = left (fun i => s (ix2 i j)) k from funext ih]
    unfold strike
    by_cases h : m = first (left (fun i => s (ix2 i j)) k)
    · rw [if_pos h, if_pos h]; rfl
    · rw [if_neg h, if_neg h]; rfl

/-- The number of a mark: one where it stands, zero elsewhere. -/
theorem hot_word (s : FVec Ideal S32x2048 .f32) (m : Fin 32) (j : Fin 2048) :
    hot s (ix2 m j) = if chosen s (ix2 m j) = 1#1 then 1 else 0 := by
  show ((((chosen s (ix2 m j)).setWidth 32).toInt : ℝ) : EReal) = _
  rcases BitVec.eq_zero_or_eq_one (chosen s (ix2 m j)) with h | h <;> rw [h] <;> simp

/-- The `k`-th round marks the `k`-th nearest candidate alone. -/
theorem hot_apply (s : FVec Ideal S32x2048 .f32) (j : Fin 2048) (k : Nat) (m : Fin 32) :
    hot (rounds s k) (ix2 m j) = if m = best (fun i => s (ix2 i j)) k then 1 else 0 := by
  rw [hot_word, chosen_apply, show (fun i => rounds s k (ix2 i j)) = left (fun i => s (ix2 i j)) k from funext (rounds_apply s j k)]
  unfold best
  by_cases h : m = first (left (fun i => s (ix2 i j)) k)
  · rw [if_pos h, if_pos h, if_pos rfl]
  · rw [if_neg h, if_neg h, if_neg (by decide)]

/-- A weighed candidate: the weights times the candidate, added over the channels. -/
theorem weighed_apply (off : Nat) (hs : S32x576.Slices ![0, off] S32x64) (hoff : off + 64 ≤ 576) (ct : FVec Ideal S64x256 .f32) (Wn : FVec Ideal S32x576 .f32) (o : Fin 32) (l : Fin 256) :
    weighed off hs ct Wn (ix2 o l) = ∑ c : Fin 64, Wn (ix2 o ⟨off + c.val, by omega⟩) * ct (ix2 c l) := by
  pointwise [weighed]

/-- Position `m` of block `k` of nine blocks of 32. -/
def tile (k : Fin 9) (m : Fin 32) : Fin 288 := ⟨k.val * 32 + m.val, by omega⟩

/-- Nine blocks of 32 columns beside one another, read at column `m` of block `k`. -/
theorem nine_beside (x0 x1 x2 x3 x4 x5 x6 x7 x8 : FVec Ideal S32x32 .f32)
    (h : Shape.Concatenates [S32x32, S32x32, S32x32, S32x32, S32x32, S32x32, S32x32, S32x32, S32x32] S32x288 1) (o : Fin 32) (k : Fin 9) (m : Fin 32) (v : EReal)
    (h0 : k = 0 → x0 (ix2 o m) = v)
    (h1 : k = 1 → x1 (ix2 o m) = v)
    (h2 : k = 2 → x2 (ix2 o m) = v)
    (h3 : k = 3 → x3 (ix2 o m) = v)
    (h4 : k = 4 → x4 (ix2 o m) = v)
    (h5 : k = 5 → x5 (ix2 o m) = v)
    (h6 : k = 6 → x6 (ix2 o m) = v)
    (h7 : k = 7 → x7 (ix2 o m) = v)
    (h8 : k = 8 → x8 (ix2 o m) = v)
    : concatenate S32x288 1 [⟨S32x32, x0⟩, ⟨S32x32, x1⟩, ⟨S32x32, x2⟩, ⟨S32x32, x3⟩, ⟨S32x32, x4⟩, ⟨S32x32, x5⟩, ⟨S32x32, x6⟩, ⟨S32x32, x7⟩, ⟨S32x32, x8⟩] h (ix2 o (tile k m)) = v := by
  pointwise
  have e : (tile k m).val = k.val * 32 + m.val := rfl
  have hk := k.isLt
  have hm := m.isLt
  by_cases a0 : (tile k m).val < 32
  · rw [dif_pos a0, ← h0 (Fin.ext (by show k.val = 0; omega))]
    refine congrArg (fun l => x0 (ix2 o l)) (Fin.ext ?_)
    show (tile k m).val = m.val
    omega
  rw [dif_neg a0]
  by_cases a1 : (tile k m).val - 32 < 32
  · rw [dif_pos a1, ← h1 (Fin.ext (by show k.val = 1; omega))]
    refine congrArg (fun l => x1 (ix2 o l)) (Fin.ext ?_)
    show (tile k m).val - 32 = m.val
    omega
  rw [dif_neg a1]
  by_cases a2 : (tile k m).val - 32 - 32 < 32
  · rw [dif_pos a2, ← h2 (Fin.ext (by show k.val = 2; omega))]
    refine congrArg (fun l => x2 (ix2 o l)) (Fin.ext ?_)
    show (tile k m).val - 32 - 32 = m.val
    omega
  rw [dif_neg a2]
  by_cases a3 : (tile k m).val - 32 - 32 - 32 < 32
  · rw [dif_pos a3, ← h3 (Fin.ext (by show k.val = 3; omega))]
    refine congrArg (fun l => x3 (ix2 o l)) (Fin.ext ?_)
    show (tile k m).val - 32 - 32 - 32 = m.val
    omega
  rw [dif_neg a3]
  by_cases a4 : (tile k m).val - 32 - 32 - 32 - 32 < 32
  · rw [dif_pos a4, ← h4 (Fin.ext (by show k.val = 4; omega))]
    refine congrArg (fun l => x4 (ix2 o l)) (Fin.ext ?_)
    show (tile k m).val - 32 - 32 - 32 - 32 = m.val
    omega
  rw [dif_neg a4]
  by_cases a5 : (tile k m).val - 32 - 32 - 32 - 32 - 32 < 32
  · rw [dif_pos a5, ← h5 (Fin.ext (by show k.val = 5; omega))]
    refine congrArg (fun l => x5 (ix2 o l)) (Fin.ext ?_)
    show (tile k m).val - 32 - 32 - 32 - 32 - 32 = m.val
    omega
  rw [dif_neg a5]
  by_cases a6 : (tile k m).val - 32 - 32 - 32 - 32 - 32 - 32 < 32
  · rw [dif_pos a6, ← h6 (Fin.ext (by show k.val = 6; omega))]
    refine congrArg (fun l => x6 (ix2 o l)) (Fin.ext ?_)
    show (tile k m).val - 32 - 32 - 32 - 32 - 32 - 32 = m.val
    omega
  rw [dif_neg a6]
  by_cases a7 : (tile k m).val - 32 - 32 - 32 - 32 - 32 - 32 - 32 < 32
  · rw [dif_pos a7, ← h7 (Fin.ext (by show k.val = 7; omega))]
    refine congrArg (fun l => x7 (ix2 o l)) (Fin.ext ?_)
    show (tile k m).val - 32 - 32 - 32 - 32 - 32 - 32 - 32 = m.val
    omega
  rw [dif_neg a7]
  · rw [← h8 (Fin.ext (by show k.val = 8; omega))]
    refine congrArg (fun l => x8 (ix2 o l)) (Fin.ext ?_)
    show (tile k m).val - 32 - 32 - 32 - 32 - 32 - 32 - 32 - 32 = m.val
    omega

/-- Nine blocks of 32 rows over one another, read at row `m` of block `k`. -/
theorem nine_over (x0 x1 x2 x3 x4 x5 x6 x7 x8 : FVec Ideal S32x256 .f32)
    (h : Shape.Concatenates [S32x256, S32x256, S32x256, S32x256, S32x256, S32x256, S32x256, S32x256, S32x256] S288x256 0) (p : Fin 256) (k : Fin 9) (m : Fin 32) (v : EReal)
    (h0 : k = 0 → x0 (ix2 m p) = v)
    (h1 : k = 1 → x1 (ix2 m p) = v)
    (h2 : k = 2 → x2 (ix2 m p) = v)
    (h3 : k = 3 → x3 (ix2 m p) = v)
    (h4 : k = 4 → x4 (ix2 m p) = v)
    (h5 : k = 5 → x5 (ix2 m p) = v)
    (h6 : k = 6 → x6 (ix2 m p) = v)
    (h7 : k = 7 → x7 (ix2 m p) = v)
    (h8 : k = 8 → x8 (ix2 m p) = v)
    : concatenate S288x256 0 [⟨S32x256, x0⟩, ⟨S32x256, x1⟩, ⟨S32x256, x2⟩, ⟨S32x256, x3⟩, ⟨S32x256, x4⟩, ⟨S32x256, x5⟩, ⟨S32x256, x6⟩, ⟨S32x256, x7⟩, ⟨S32x256, x8⟩] h (ix2 (tile k m) p) = v := by
  pointwise
  have e : (tile k m).val = k.val * 32 + m.val := rfl
  have hk := k.isLt
  have hm := m.isLt
  by_cases a0 : (tile k m).val < 32
  · rw [dif_pos a0, ← h0 (Fin.ext (by show k.val = 0; omega))]
    refine congrArg (fun l => x0 (ix2 l p)) (Fin.ext ?_)
    show (tile k m).val = m.val
    omega
  rw [dif_neg a0]
  by_cases a1 : (tile k m).val - 32 < 32
  · rw [dif_pos a1, ← h1 (Fin.ext (by show k.val = 1; omega))]
    refine congrArg (fun l => x1 (ix2 l p)) (Fin.ext ?_)
    show (tile k m).val - 32 = m.val
    omega
  rw [dif_neg a1]
  by_cases a2 : (tile k m).val - 32 - 32 < 32
  · rw [dif_pos a2, ← h2 (Fin.ext (by show k.val = 2; omega))]
    refine congrArg (fun l => x2 (ix2 l p)) (Fin.ext ?_)
    show (tile k m).val - 32 - 32 = m.val
    omega
  rw [dif_neg a2]
  by_cases a3 : (tile k m).val - 32 - 32 - 32 < 32
  · rw [dif_pos a3, ← h3 (Fin.ext (by show k.val = 3; omega))]
    refine congrArg (fun l => x3 (ix2 l p)) (Fin.ext ?_)
    show (tile k m).val - 32 - 32 - 32 = m.val
    omega
  rw [dif_neg a3]
  by_cases a4 : (tile k m).val - 32 - 32 - 32 - 32 < 32
  · rw [dif_pos a4, ← h4 (Fin.ext (by show k.val = 4; omega))]
    refine congrArg (fun l => x4 (ix2 l p)) (Fin.ext ?_)
    show (tile k m).val - 32 - 32 - 32 - 32 = m.val
    omega
  rw [dif_neg a4]
  by_cases a5 : (tile k m).val - 32 - 32 - 32 - 32 - 32 < 32
  · rw [dif_pos a5, ← h5 (Fin.ext (by show k.val = 5; omega))]
    refine congrArg (fun l => x5 (ix2 l p)) (Fin.ext ?_)
    show (tile k m).val - 32 - 32 - 32 - 32 - 32 = m.val
    omega
  rw [dif_neg a5]
  by_cases a6 : (tile k m).val - 32 - 32 - 32 - 32 - 32 - 32 < 32
  · rw [dif_pos a6, ← h6 (Fin.ext (by show k.val = 6; omega))]
    refine congrArg (fun l => x6 (ix2 l p)) (Fin.ext ?_)
    show (tile k m).val - 32 - 32 - 32 - 32 - 32 - 32 = m.val
    omega
  rw [dif_neg a6]
  by_cases a7 : (tile k m).val - 32 - 32 - 32 - 32 - 32 - 32 - 32 < 32
  · rw [dif_pos a7, ← h7 (Fin.ext (by show k.val = 7; omega))]
    refine congrArg (fun l => x7 (ix2 l p)) (Fin.ext ?_)
    show (tile k m).val - 32 - 32 - 32 - 32 - 32 - 32 - 32 = m.val
    omega
  rw [dif_neg a7]
  · rw [← h8 (Fin.ext (by show k.val = 8; omega))]
    refine congrArg (fun l => x8 (ix2 l p)) (Fin.ext ?_)
    show (tile k m).val - 32 - 32 - 32 - 32 - 32 - 32 - 32 - 32 = m.val
    omega

/-- An entry of the product of the weighed candidates with the marks. -/
theorem product_apply (L : FVec Ideal S32x288 .f32) (R : FVec Ideal S288x256 .f32) (o : Fin 32) (p : Fin 256) :
    matmul dot_S32x288_S288x256_S32x256_1_0_0_1_n_n (some .fp32) L R (constant S32x256 .f32 0x00000000#32) (ix2 o p) = ∑ l : Fin 288, L (ix2 o l) * R (ix2 l p) := by
  pointwise

/-- An entry of one image's part of the weighed candidates. -/
theorem cut_left (oc : Nat) (hoc : oc + 32 ≤ 256) (hc : S32x256.Slices ![0, oc] S32x32) (w : FVec Ideal S32x256 .f32) (o : Fin 32) (m : Fin 32) :
    extractStridedSlice S32x32 ![0, oc] w hc (ix2 o m) = w (ix2 o ⟨oc + m.val, by omega⟩) := by
  pointwise

/-- An entry of one image's part of the marks. -/
theorem cut_right (ox : Nat) (hox : ox + 256 ≤ 2048) (hx : S32x2048.Slices ![0, ox] S32x256) (h : FVec Ideal S32x2048 .f32) (m : Fin 32) (p : Fin 256) :
    extractStridedSlice S32x256 ![0, ox] h hx (ix2 m p) = h (ix2 m ⟨ox + p.val, by omega⟩) := by
  pointwise

/-- The neighbours' layer of one image: over the nine rounds and the candidates, the weighed candidate where the round marks it. -/
theorem nearT_apply (oc ox : Nat) (hoc : oc + 32 ≤ 256) (hox : ox + 256 ≤ 2048) (hc : S32x256.Slices ![0, oc] S32x32) (hx : S32x2048.Slices ![0, ox] S32x256)
    (W : Fin 9 → FVec Ideal S32x256 .f32) (H : Fin 9 → FVec Ideal S32x2048 .f32) (o : Fin 32) (p : Fin 256) :
    nearT oc ox hc hx (W 0) (W 1) (W 2) (W 3) (W 4) (W 5) (W 6) (W 7) (W 8) (H 0) (H 1) (H 2) (H 3) (H 4) (H 5) (H 6) (H 7) (H 8) (ix2 o p)
      = ∑ k : Fin 9, ∑ m : Fin 32, W k (ix2 o ⟨oc + m.val, by omega⟩) * H k (ix2 m ⟨ox + p.val, by omega⟩) := by
  unfold nearT
  rw [product_apply, Fin.sum_univ_tiles 9 32 rfl]
  refine Finset.sum_congr rfl fun k _ => Finset.sum_congr rfl fun m _ => congrArg₂ (· * ·) ?_ ?_
  · exact nine_beside _ _ _ _ _ _ _ _ _ _ o k m _ (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m)
  · exact nine_over _ _ _ _ _ _ _ _ _ _ p k m _ (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p)

/-- The neighbours' weights for output channel `o`, from their row: neighbour by neighbour, the channels of one together. -/
def nwts (W : FVec Ideal S32x576 .f32) (o : Fin 32) : Fin 9 → Fin 64 → EReal :=
  fun k c => W (ix2 o ⟨64 * k.val + c.val, by omega⟩)

/-- Each neighbour's weights lie within the weights' rows. -/
theorem nslices (k : Fin 9) : S32x576.Slices ![0, 64 * k.val] S32x64 := by
  fin_cases k
  · exact slices_S32x576_o0_0_S32x64
  · exact slices_S32x576_o0_64_S32x64
  · exact slices_S32x576_o0_128_S32x64
  · exact slices_S32x576_o0_192_S32x64
  · exact slices_S32x576_o0_256_S32x64
  · exact slices_S32x576_o0_320_S32x64
  · exact slices_S32x576_o0_384_S32x64
  · exact slices_S32x576_o0_448_S32x64
  · exact slices_S32x576_o0_512_S32x64

/-- The neighbours' layer of image `s`: the candidates the rounds chose, with the weights of their rounds. -/
theorem nearT_eq (oc ox : Nat) (hc : S32x256.Slices ![0, oc] S32x32) (hx : S32x2048.Slices ![0, ox] S32x256)
    (g : FVec Ideal S32x2048 .f32) (x : FVec Ideal S64x2048 .f32) (ct : FVec Ideal S64x256 .f32) (Wn : FVec Ideal S32x576 .f32) (s : Fin 8) (hoc : oc = 32 * s.val) (hox : ox = 256 * s.val)
    (hct : ∀ (m : Fin 32) (c : Fin 64), ct (ix2 c ⟨32 * s.val + m.val, by omega⟩) = img x s c (8 * m.val))
    (hg : ∀ (m : Fin 32) (p : Fin 256), g (ix2 m (spot s p)) = sim (img x s) p.val m) (o : Fin 32) (p : Fin 256) :
    nearT oc ox hc hx (weighed 0 slices_S32x576_o0_0_S32x64 ct Wn) (weighed 64 slices_S32x576_o0_64_S32x64 ct Wn) (weighed 128 slices_S32x576_o0_128_S32x64 ct Wn) (weighed 192 slices_S32x576_o0_192_S32x64 ct Wn) (weighed 256 slices_S32x576_o0_256_S32x64 ct Wn) (weighed 320 slices_S32x576_o0_320_S32x64 ct Wn) (weighed 384 slices_S32x576_o0_384_S32x64 ct Wn) (weighed 448 slices_S32x576_o0_448_S32x64 ct Wn) (weighed 512 slices_S32x576_o0_512_S32x64 ct Wn) (hot (rounds g 0)) (hot (rounds g 1)) (hot (rounds g 2)) (hot (rounds g 3)) (hot (rounds g 4)) (hot (rounds g 5)) (hot (rounds g 6)) (hot (rounds g 7)) (hot (rounds g 8)) (ix2 o p)
      = ∑ k : Fin 9, ∑ c, nwts Wn o k c * img x s c (8 * (best (sim (img x s) p.val) k.val).val) := by
  subst hoc hox
  refine (nearT_apply _ _ (by omega) (by omega) hc hx (fun k => weighed (64 * k.val) (nslices k) ct Wn) (fun k => hot (rounds g k.val)) o p).trans ?_
  refine Finset.sum_congr rfl fun k _ => ?_
  have hb : (fun i => g (ix2 i ⟨256 * s.val + p.val, by omega⟩)) = sim (img x s) p.val := funext fun m => hg m p
  simp only [hot_apply, hb, mul_ite, mul_one, mul_zero, Finset.sum_ite_eq', Finset.mem_univ, if_true]
  rw [weighed_apply _ _ (by omega)]
  exact Finset.sum_congr rfl fun c _ => congrArg (_ * ·) (hct _ c)

/-- The nearest-neighbour layer at a pixel: over the nine nearest candidates, the weights times the candidate's channels. -/
theorem nearsT_eq (g : FVec Ideal S32x2048 .f32) (x : FVec Ideal S64x2048 .f32) (ct : FVec Ideal S64x256 .f32) (Wn : FVec Ideal S32x576 .f32) (s : Fin 8)
    (hct : ∀ (m : Fin 32) (c : Fin 64), ct (ix2 c ⟨32 * s.val + m.val, by omega⟩) = img x s c (8 * m.val))
    (hg : ∀ (m : Fin 32) (p : Fin 256), g (ix2 m (spot s p)) = sim (img x s) p.val m) (o : Fin 32) (p : Fin 256) :
    nearsT g ct Wn (ix2 o (spot s p)) = ∑ k : Fin 9, ∑ c, nwts Wn o k c * img x s c (8 * (best (sim (img x s) p.val) k.val).val) := by
  unfold nearsT
  refine beside32 _ _ _ _ _ _ _ _ _ o s p _ ?_ ?_ ?_ ?_ ?_ ?_ ?_ ?_
  · rintro rfl; exact nearT_eq _ _ _ _ g x ct Wn 0 rfl rfl hct hg o p
  · rintro rfl; exact nearT_eq _ _ _ _ g x ct Wn 1 rfl rfl hct hg o p
  · rintro rfl; exact nearT_eq _ _ _ _ g x ct Wn 2 rfl rfl hct hg o p
  · rintro rfl; exact nearT_eq _ _ _ _ g x ct Wn 3 rfl rfl hct hg o p
  · rintro rfl; exact nearT_eq _ _ _ _ g x ct Wn 4 rfl rfl hct hg o p
  · rintro rfl; exact nearT_eq _ _ _ _ g x ct Wn 5 rfl rfl hct hg o p
  · rintro rfl; exact nearT_eq _ _ _ _ g x ct Wn 6 rfl rfl hct hg o p
  · rintro rfl; exact nearT_eq _ _ _ _ g x ct Wn 7 rfl rfl hct hg o p

/-- An entry of the two layers over one another: the convolution's channels first, then the neighbours' with their bias, or zero if negative. -/
theorem bothT_apply (A N : FVec Ideal S32x2048 .f32) (b : FVec Ideal S32x1 .f32) (o : Fin 64) (j : Fin 2048) :
    bothT A N b (ix2 o j) = if h : o.val < 32 then A (ix2 ⟨o.val, h⟩ j) else max (N (ix2 ⟨o.val - 32, by omega⟩ j) + b (ix2 ⟨o.val - 32, by omega⟩ 0)) 0 := by
  pointwise [bothT]

/-- An entry of the linear map: the weights times the channels, and the bias, or zero if that is negative. -/
theorem mixT_apply (ab : FVec Ideal S64x2048 .f32) (W : FVec Ideal S128x64 .f32) (b : FVec Ideal S128x1 .f32) (y : Fin 128) (j : Fin 2048) :
    mixT ab W b (ix2 y j) = max ((∑ o : Fin 64, W (ix2 y o) * ab (ix2 o j)) + b (ix2 y 0)) 0 := by
  pointwise [mixT]

/-- The kernel's result on eight images, at pixel `p` of image `s`, is the mathematics' block of that image, where the candidates
    are every eighth pixel of the image. -/
theorem outT_eq (x0 : FVec Ideal S64x2048 .f32) (x1 : FVec Ideal S256x64 .f32) (x2 : FVec Ideal S64x256 .f32) (x3 : FVec Ideal S32x576 .f32) (x4 : FVec Ideal S32x1 .f32)
    (x5 : FVec Ideal S32x576 .f32) (x6 : FVec Ideal S32x1 .f32) (x7 : FVec Ideal S128x64 .f32) (x8 : FVec Ideal S128x1 .f32) (s : Fin 8)
    (hcd : ∀ (m : Fin 32) (c : Fin 64), x1 (ix2 ⟨32 * s.val + m.val, by omega⟩ c) = img x0 s c (8 * m.val))
    (hct : ∀ (m : Fin 32) (c : Fin 64), x2 (ix2 c ⟨32 * s.val + m.val, by omega⟩) = img x0 s c (8 * m.val)) (y : Fin 128) (p : Fin 256) :
    outT x0 x1 x2 x3 x4 x5 x6 x7 x8 (ix2 y (spot s p))
      = block (wts x3) (fun o => x4 (ix2 o 0)) (nwts x5) (fun o => x6 (ix2 o 0)) (fun o : Fin (2 * 32) => x7 (ix2 y o)) (x8 (ix2 y 0)) (img x0 s) p.val := by
  unfold outT
  rw [mixT_apply]
  unfold block
  refine congrArg (fun z => max (z + x8 (ix2 y 0)) 0) (Finset.sum_congr rfl fun o _ => congrArg (x7 (ix2 y o) * ·) ?_)
  rw [bothT_apply]
  unfold both
  by_cases h : o.val < 32
  · rw [dif_pos h, dif_pos h, convT_eq]
  · rw [dif_neg h, dif_neg h, nearsT_eq (simsT x0 x1) x0 x2 x5 s hct (fun m q => simsT_eq x0 x1 s hcd m q)]
    rfl

end Cert.Kernel2Ideal.Body
-- ==== Proof.Whole2.lean ====
/- The branching block's kernel on the whole of its arrays: four grid points, each on eight images, write the block's result for
   all thirty-two images, whose columns are the images' pixels, 256 to an image. -/
module

public import proofs.«01_k».proof.Proof.Body2
public import proofs.«01_k».proof.Proof.Body2Near

@[expose] public section

noncomputable section

namespace Cert.Kernel2Ideal.Whole

open Cert.Kernel2Ideal Cert.Kernel2Ideal.Gen Cert.Kernel2Ideal.Value Cert.Kernel2Ideal.Body Idealize.ShloMosaic Idealize.ShloMosaic.TcCoe Idealize.SL.Sem Cert.Block

variable (m : (ℓ : Loc nD τ sig) → Buf (Elt Ideal) ℓ) (c : Dev nD)

/-! The arguments, as arrays. -/

/-- Argument 0: the images. -/
abbrev arg0 : Vec Ideal S64x8192 .f32 := m ((c : Thread nD τ).loc main_arg0)

/-- Argument 1: the convolution weights. -/
abbrev arg1 : Vec Ideal S32x64x3x3 .f32 := m ((c : Thread nD τ).loc main_arg1)

/-- Argument 2: the convolution bias. -/
abbrev arg2 : Vec Ideal S32 .f32 := m ((c : Thread nD τ).loc main_arg2)

/-- Argument 3: the neighbour weights. -/
abbrev arg3 : Vec Ideal S576x32 .f32 := m ((c : Thread nD τ).loc main_arg3)

/-- Argument 4: the neighbour bias. -/
abbrev arg4 : Vec Ideal S32 .f32 := m ((c : Thread nD τ).loc main_arg4)

/-- Argument 5: the linear weights. -/
abbrev arg5 : Vec Ideal S128x64x1x1 .f32 := m ((c : Thread nD τ).loc main_arg5)

/-- Argument 6: the linear bias. -/
abbrev arg6 : Vec Ideal S128 .f32 := m ((c : Thread nD τ).loc main_arg6)

/-- The images: for each channel, the pixels of all of them. -/
abbrev imgs : Vec Ideal S64x8192 .f32 := arg0 m c

/-- Every eighth pixel: the candidates, by channel. -/
def candT : Vec Ideal S64x1024 .f32 := Host.slice S64x1024 ![0, 0] ![1, 8] (imgs m c) slicesBy_S64x8192_S64x1024_0s1_0s8

/-- The array of candidates by channel, as the call is given it. -/
theorem candT_eq : V m c main_v4 = candT m c := by
  unfold V
  after_results
  rfl

/-- The candidates, one to a row. -/
def cand : Vec Ideal S1024x64 .f32 := transpose S1024x64 [1, 0] (candT m c) transposes_S64x1024_S1024x64_1_0

/-- The array of candidates by row, as the call is given it. -/
theorem cand_eq : V m c main_v5 = cand m c := by
  unfold V
  after_results
  rfl

/-- The convolution's weights as rows: tap by tap, the channels of a tap together. -/
def rowsC : Vec Ideal S32x576 .f32 :=
  shapeCast S32x576 (transpose S32x3x3x64 [0, 2, 3, 1] (arg1 m c) transposes_S32x64x3x3_S32x3x3x64_0_2_3_1) shapeCasts_S32x3x3x64_S32x576

/-- The convolution's weights, as the call is given them. -/
theorem rowsC_eq : V m c main_v1 = rowsC m c := by
  unfold V
  after_results
  rfl

/-- The neighbours' weights as rows. -/
def rowsN : Vec Ideal S32x576 .f32 := transpose S32x576 [1, 0] (arg3 m c) transposes_S576x32_S32x576_1_0

/-- The neighbours' weights, as the call is given them. -/
theorem rowsN_eq : V m c main_v2 = rowsN m c := by
  unfold V
  after_results
  rfl

/-- The linear map's weights as rows. -/
def rowsM : Vec Ideal S128x64 .f32 := shapeCast S128x64 (arg5 m c) shapeCasts_S128x64x1x1_S128x64

/-- The linear map's weights, as the call is given them. -/
theorem rowsM_eq : V m c main_v3 = rowsM m c := by
  unfold V
  after_results
  rfl

/-- The convolution's bias as a column. -/
def colC : Vec Ideal S32x1 .f32 := shapeCast S32x1 (arg2 m c) shapeCasts_S32_S32x1

/-- The convolution's bias, as the call is given it. -/
theorem colC_eq : V m c main_v6 = colC m c := by
  unfold V
  after_results
  rfl

/-- The neighbours' bias as a column. -/
def colN : Vec Ideal S32x1 .f32 := shapeCast S32x1 (arg4 m c) shapeCasts_S32_S32x1

/-- The neighbours' bias, as the call is given it. -/
theorem colN_eq : V m c main_v7 = colN m c := by
  unfold V
  after_results
  rfl

/-- The linear map's bias as a column. -/
def colM : Vec Ideal S128x1 .f32 := shapeCast S128x1 (arg6 m c) shapeCasts_S128_S128x1

/-- The linear map's bias, as the call is given it. -/
theorem colM_eq : V m c main_v8 = colM m c := by
  unfold V
  after_results
  rfl

/-- Candidate `r` by channel is pixel `8 r`. -/
theorem candT_apply (ch : Fin 64) (r : Fin 1024) : candT m c (ix2 ch r) = imgs m c (ix2 ch ⟨8 * r.val, by omega⟩) := by
  unfold candT
  generalize imgs m c = x
  pointwise

/-- Candidate `r` by row is pixel `8 r`. -/
theorem cand_apply (r : Fin 1024) (ch : Fin 64) : cand m c (ix2 r ch) = imgs m c (ix2 ch ⟨8 * r.val, by omega⟩) := by
  rw [← candT_apply]
  unfold cand
  generalize candT m c = x
  pointwise

/-- An entry of the convolution's rows is an entry of its weights. -/
theorem rowsC_apply (o : Fin 32) (ch : Fin 64) (i j : Fin 3) :
    rowsC m c (ix2 o ⟨(3 * i.val + j.val) * 64 + ch.val, by omega⟩) = arg1 m c (ix4 o ch i j) := by
  unfold rowsC
  generalize arg1 m c = x
  pointwise

/-- An entry of the neighbours' rows is an entry of their weights. -/
theorem rowsN_apply (o : Fin 32) (l : Fin 576) : rowsN m c (ix2 o l) = arg3 m c (ix2 l o) := by
  unfold rowsN
  generalize arg3 m c = x
  pointwise

/-- An entry of the linear map's rows is an entry of its weights. -/
theorem rowsM_apply (y : Fin 128) (o : Fin 64) : rowsM m c (ix2 y o) = arg5 m c (ix4 y o 0 0) := by
  unfold rowsM
  generalize arg5 m c = x
  pointwise

/-- An entry of the convolution's column is an entry of its bias. -/
theorem colC_apply (o : Fin 32) : colC m c (ix2 o 0) = arg2 m c (ix1 o) := by
  unfold colC
  generalize arg2 m c = x
  pointwise

/-- An entry of the neighbours' column is an entry of their bias. -/
theorem colN_apply (o : Fin 32) : colN m c (ix2 o 0) = arg4 m c (ix1 o) := by
  unfold colN
  generalize arg4 m c = x
  pointwise

/-- An entry of the linear map's column is an entry of its bias. -/
theorem colM_apply (y : Fin 128) : colM m c (ix2 y 0) = arg6 m c (ix1 y) := by
  unfold colM
  generalize arg6 m c = x
  pointwise

/-- Point `t` reads the pixels of eight images. -/
theorem iblk0 (t : Fin cfg0.N) (r : Fin 64) (l : Fin 2048) (h : 2048 * t.val + l.val < 8192) :
    (iblk m c 0 t : Vec Ideal S64x2048 .f32) (ix2 r l) = imgs m c (ix2 r ⟨2048 * t.val + l.val, h⟩) := by
  have hi : win0_0.index t 0 = 0 ∧ win0_0.index t 1 = t.val := (by decide +kernel : ∀ t : Fin grid0.N, win0_0.index t 0 = 0 ∧ win0_0.index t 1 = t.val) t
  unfold iblk
  rw [View.read_apply]
  show V m c main_arg0 _ = _
  rw [V_main_arg0]
  refine congrArg (imgs m c) (funext fun a => Fin.ext ?_)
  match a with
  | ⟨0, _⟩ => show win0_0.index t 0 * 64 + 1 * r.val = r.val; rw [hi.1]; omega
  | ⟨1, _⟩ => show win0_0.index t 1 * 2048 + 1 * l.val = 2048 * t.val + l.val; rw [hi.2]; omega

/-- Point `t` reads its images' candidates. -/
theorem iblk1 (t : Fin cfg0.N) (r : Fin 256) (l : Fin 64) (h : 256 * t.val + r.val < 1024) :
    (iblk m c 1 t : Vec Ideal S256x64 .f32) (ix2 r l) = cand m c (ix2 ⟨256 * t.val + r.val, h⟩ l) := by
  have hi : win0_1.index t 0 = t.val ∧ win0_1.index t 1 = 0 := (by decide +kernel : ∀ t : Fin grid0.N, win0_1.index t 0 = t.val ∧ win0_1.index t 1 = 0) t
  unfold iblk
  rw [View.read_apply]
  show V m c main_v5 _ = _
  rw [cand_eq]
  refine congrArg (cand m c) (funext fun a => Fin.ext ?_)
  match a with
  | ⟨0, _⟩ => show win0_1.index t 0 * 256 + 1 * r.val = 256 * t.val + r.val; rw [hi.1]; omega
  | ⟨1, _⟩ => show win0_1.index t 1 * 64 + 1 * l.val = l.val; rw [hi.2]; omega

/-- Point `t` reads its images' candidates by channel. -/
theorem iblk2 (t : Fin cfg0.N) (r : Fin 64) (l : Fin 256) (h : 256 * t.val + l.val < 1024) :
    (iblk m c 2 t : Vec Ideal S64x256 .f32) (ix2 r l) = candT m c (ix2 r ⟨256 * t.val + l.val, h⟩) := by
  have hi : win0_2.index t 0 = 0 ∧ win0_2.index t 1 = t.val := (by decide +kernel : ∀ t : Fin grid0.N, win0_2.index t 0 = 0 ∧ win0_2.index t 1 = t.val) t
  unfold iblk
  rw [View.read_apply]
  show V m c main_v4 _ = _
  rw [candT_eq]
  refine congrArg (candT m c) (funext fun a => Fin.ext ?_)
  match a with
  | ⟨0, _⟩ => show win0_2.index t 0 * 64 + 1 * r.val = r.val; rw [hi.1]; omega
  | ⟨1, _⟩ => show win0_2.index t 1 * 256 + 1 * l.val = 256 * t.val + l.val; rw [hi.2]; omega

/-- The convolution's weights, staged whole. -/
theorem iblk3 (t : Fin cfg0.N) (r : Fin 32) (l : Fin 576) :
    (iblk m c 3 t : Vec Ideal S32x576 .f32) (ix2 r l) = rowsC m c (ix2 r l) := by
  have hi : win0_3.index t 0 = 0 ∧ win0_3.index t 1 = 0 := (by decide +kernel : ∀ t : Fin grid0.N, win0_3.index t 0 = 0 ∧ win0_3.index t 1 = 0) t
  unfold iblk
  rw [View.read_apply]
  show V m c main_v1 _ = _
  rw [rowsC_eq]
  refine congrArg (rowsC m c) (funext fun a => Fin.ext ?_)
  match a with
  | ⟨0, _⟩ => show win0_3.index t 0 * 32 + 1 * r.val = r.val; rw [hi.1]; omega
  | ⟨1, _⟩ => show win0_3.index t 1 * 576 + 1 * l.val = l.val; rw [hi.2]; omega

/-- The convolution's bias, staged whole. -/
theorem iblk4 (t : Fin cfg0.N) (r : Fin 32) (l : Fin 1) :
    (iblk m c 4 t : Vec Ideal S32x1 .f32) (ix2 r l) = colC m c (ix2 r l) := by
  have hi : win0_4.index t 0 = 0 ∧ win0_4.index t 1 = 0 := (by decide +kernel : ∀ t : Fin grid0.N, win0_4.index t 0 = 0 ∧ win0_4.index t 1 = 0) t
  unfold iblk
  rw [View.read_apply]
  show V m c main_v6 _ = _
  rw [colC_eq]
  refine congrArg (colC m c) (funext fun a => Fin.ext ?_)
  match a with
  | ⟨0, _⟩ => show win0_4.index t 0 * 32 + 1 * r.val = r.val; rw [hi.1]; omega
  | ⟨1, _⟩ => show win0_4.index t 1 * 1 + 1 * l.val = l.val; rw [hi.2]; omega

/-- The neighbours' weights, staged whole. -/
theorem iblk5 (t : Fin cfg0.N) (r : Fin 32) (l : Fin 576) :
    (iblk m c 5 t : Vec Ideal S32x576 .f32) (ix2 r l) = rowsN m c (ix2 r l) := by
  have hi : win0_5.index t 0 = 0 ∧ win0_5.index t 1 = 0 := (by decide +kernel : ∀ t : Fin grid0.N, win0_5.index t 0 = 0 ∧ win0_5.index t 1 = 0) t
  unfold iblk
  rw [View.read_apply]
  show V m c main_v2 _ = _
  rw [rowsN_eq]
  refine congrArg (rowsN m c) (funext fun a => Fin.ext ?_)
  match a with
  | ⟨0, _⟩ => show win0_5.index t 0 * 32 + 1 * r.val = r.val; rw [hi.1]; omega
  | ⟨1, _⟩ => show win0_5.index t 1 * 576 + 1 * l.val = l.val; rw [hi.2]; omega

/-- The neighbours' bias, staged whole. -/
theorem iblk6 (t : Fin cfg0.N) (r : Fin 32) (l : Fin 1) :
    (iblk m c 6 t : Vec Ideal S32x1 .f32) (ix2 r l) = colN m c (ix2 r l) := by
  have hi : win0_6.index t 0 = 0 ∧ win0_6.index t 1 = 0 := (by decide +kernel : ∀ t : Fin grid0.N, win0_6.index t 0 = 0 ∧ win0_6.index t 1 = 0) t
  unfold iblk
  rw [View.read_apply]
  show V m c main_v7 _ = _
  rw [colN_eq]
  refine congrArg (colN m c) (funext fun a => Fin.ext ?_)
  match a with
  | ⟨0, _⟩ => show win0_6.index t 0 * 32 + 1 * r.val = r.val; rw [hi.1]; omega
  | ⟨1, _⟩ => show win0_6.index t 1 * 1 + 1 * l.val = l.val; rw [hi.2]; omega

/-- The linear map's weights, staged whole. -/
theorem iblk7 (t : Fin cfg0.N) (r : Fin 128) (l : Fin 64) :
    (iblk m c 7 t : Vec Ideal S128x64 .f32) (ix2 r l) = rowsM m c (ix2 r l) := by
  have hi : win0_7.index t 0 = 0 ∧ win0_7.index t 1 = 0 := (by decide +kernel : ∀ t : Fin grid0.N, win0_7.index t 0 = 0 ∧ win0_7.index t 1 = 0) t
  unfold iblk
  rw [View.read_apply]
  show V m c main_v3 _ = _
  rw [rowsM_eq]
  refine congrArg (rowsM m c) (funext fun a => Fin.ext ?_)
  match a with
  | ⟨0, _⟩ => show win0_7.index t 0 * 128 + 1 * r.val = r.val; rw [hi.1]; omega
  | ⟨1, _⟩ => show win0_7.index t 1 * 64 + 1 * l.val = l.val; rw [hi.2]; omega

/-- The linear map's bias, staged whole. -/
theorem iblk8 (t : Fin cfg0.N) (r : Fin 128) (l : Fin 1) :
    (iblk m c 8 t : Vec Ideal S128x1 .f32) (ix2 r l) = colM m c (ix2 r l) := by
  have hi : win0_8.index t 0 = 0 ∧ win0_8.index t 1 = 0 := (by decide +kernel : ∀ t : Fin grid0.N, win0_8.index t 0 = 0 ∧ win0_8.index t 1 = 0) t
  unfold iblk
  rw [View.read_apply]
  show V m c main_v8 _ = _
  rw [colM_eq]
  refine congrArg (colM m c) (funext fun a => Fin.ext ?_)
  match a with
  | ⟨0, _⟩ => show win0_8.index t 0 * 128 + 1 * r.val = r.val; rw [hi.1]; omega
  | ⟨1, _⟩ => show win0_8.index t 1 * 1 + 1 * l.val = l.val; rw [hi.2]; omega

/-- Image `b` of an array of thirty-two: for each channel, its pixels by number. -/
def image (x : Vec Ideal S64x8192 .f32) (b : Fin 32) : Fin 64 → Nat → EReal := fun ch => col fun p : Fin 256 => x (ix2 ch ⟨256 * b.val + p.val, by omega⟩)

/-- The result's array. -/
abbrev G : Vec Ideal S128x8192 .f32 := (dats m 0 c).arrAt 9 cfg0.N

/-- A column of the result, where it stands in the block of the point that writes it. -/
theorem G_spot (t : Fin cfg0.N) (y : Fin 128) (j : Fin 2048) (h : 2048 * t.val + j.val < 8192) :
    G m c (ix2 y ⟨2048 * t.val + j.val, h⟩)
      = out0_9 (iblk m c 0 t) (iblk m c 1 t) (iblk m c 2 t) (iblk m c 3 t) (iblk m c 4 t) (iblk m c 5 t) (iblk m c 6 t) (iblk m c 7 t) (iblk m c 8 t) (ix2 y j) := by
  have hf : (cfg0.win 9).flush t = true := (by decide +kernel : ∀ t : Fin grid0.N, win0_9.flush t = true) t
  have hi : win0_9.index t 0 = 0 ∧ win0_9.index t 1 = t.val := (by decide +kernel : ∀ t : Fin grid0.N, win0_9.index t 0 = 0 ∧ win0_9.index t 1 = t.val) t
  have hb := (blocks9 m c t hf).trans (flushed9 m c t)
  have e := congrFun hb (ix2 y j)
  rw [View.read_apply] at e
  refine Eq.trans (congrArg (G m c) (funext fun a => Fin.ext ?_)) e
  match a with
  | ⟨0, _⟩ => show y.val = win0_9.index t 0 * 128 + 1 * y.val; rw [hi.1]; omega
  | ⟨1, _⟩ => show 2048 * t.val + j.val = win0_9.index t 1 * 2048 + 1 * j.val; rw [hi.2]; omega

/-- Image `s` of grid point `t`'s block is image `8 t + s` of all. -/
theorem img_blk (t : Fin cfg0.N) (s : Fin 8) (b : Fin 32) (hb : b.val = 8 * t.val + s.val) : img (iblk m c 0 t) s = image (imgs m c) b := by
  unfold img image
  refine funext fun ch => congrArg col (funext fun p => ?_)
  rw [iblk0 m c t ch (spot s p) (by show 2048 * t.val + (256 * s.val + p.val) < 8192; omega)]
  refine congrArg (fun l => imgs m c (ix2 ch l)) (Fin.ext ?_)
  show 2048 * t.val + (256 * s.val + p.val) = 256 * b.val + p.val
  omega

/-- The result at pixel `q` of image `b`: the mathematics' block of that image, with the arguments' weights. -/
theorem result_apply (b : Fin 32) (q : Fin 256) (y : Fin 128) :
    G m c (ix2 y ⟨256 * b.val + q.val, by omega⟩)
      = block (fun (o : Fin 32) ch => tri fun i j => arg1 m c (ix4 o ch i j)) (fun o => arg2 m c (ix1 o))
          (fun o k ch => arg3 m c (ix2 ⟨64 * k.val + ch.val, by omega⟩ o)) (fun o => arg4 m c (ix1 o))
          (fun o : Fin (2 * 32) => arg5 m c (ix4 y o 0 0)) (arg6 m c (ix1 y)) (image (imgs m c) b) q.val := by
  have hN : cfg0.N = 4 := N_0
  have ht : b.val / 8 < cfg0.N := by omega
  have hg := G_spot m c ⟨b.val / 8, ht⟩ y (spot ⟨b.val % 8, by omega⟩ q) (by show 2048 * (b.val / 8) + (256 * (b.val % 8) + q.val) < 8192; omega)
  have e : (⟨256 * b.val + q.val, by omega⟩ : Fin 8192) = ⟨2048 * (b.val / 8) + (spot ⟨b.val % 8, by omega⟩ q).val, by show 2048 * (b.val / 8) + (256 * (b.val % 8) + q.val) < 8192; omega⟩ :=
    Fin.ext (by show 256 * b.val + q.val = 2048 * (b.val / 8) + (256 * (b.val % 8) + q.val); omega)
  rw [e]
  refine hg.trans ?_
  have hx := img_blk m c ⟨b.val / 8, ht⟩ ⟨b.val % 8, by omega⟩ b (by show b.val = 8 * (b.val / 8) + b.val % 8; omega)
  have h8 : ∀ (k : Fin 32) (ch : Fin 64), imgs m c (ix2 ch ⟨8 * (256 * (b.val / 8) + (32 * (b.val % 8) + k.val)), by omega⟩) = image (imgs m c) b ch (8 * k.val) := by
    intro k ch
    unfold image
    rw [col_eq _ _ (by omega)]
    refine congrArg (fun l => imgs m c (ix2 ch l)) (Fin.ext ?_)
    show 8 * (256 * (b.val / 8) + (32 * (b.val % 8) + k.val)) = 256 * b.val + 8 * k.val
    omega
  rw [out_eq, outT_eq _ _ _ _ _ _ _ _ _ ⟨b.val % 8, by omega⟩
    (fun k ch => (iblk1 m c ⟨b.val / 8, ht⟩ _ ch (by show 256 * (b.val / 8) + (32 * (b.val % 8) + k.val) < 1024; omega)).trans ((cand_apply m c _ _).trans ((h8 k ch).trans (by rw [hx]))))
    (fun k ch => (iblk2 m c ⟨b.val / 8, ht⟩ ch _ (by show 256 * (b.val / 8) + (32 * (b.val % 8) + k.val) < 1024; omega)).trans ((candT_apply m c _ _).trans ((h8 k ch).trans (by rw [hx])))), hx]
  have w3 : wts (iblk m c 3 ⟨b.val / 8, ht⟩) = fun (o : Fin 32) ch => tri fun i j => arg1 m c (ix4 o ch i j) := by
    unfold wts
    refine funext fun o => funext fun ch => congrArg tri (funext fun i => funext fun j => ?_)
    rw [iblk3, rowsC_apply]
  have w5 : nwts (iblk m c 5 ⟨b.val / 8, ht⟩) = fun (o : Fin 32) k ch => arg3 m c (ix2 ⟨64 * k.val + ch.val, by omega⟩ o) := by
    unfold nwts
    refine funext fun o => funext fun k => funext fun ch => ?_
    rw [iblk5, rowsN_apply]
  have w4 : ∀ o : Fin 32, (iblk m c 4 ⟨b.val / 8, ht⟩ : Vec Ideal S32x1 .f32) (ix2 o 0) = arg2 m c (ix1 o) := fun o => by rw [iblk4, colC_apply]
  have w6 : ∀ o : Fin 32, (iblk m c 6 ⟨b.val / 8, ht⟩ : Vec Ideal S32x1 .f32) (ix2 o 0) = arg4 m c (ix1 o) := fun o => by rw [iblk6, colN_apply]
  have w7 : ∀ o : Fin 64, (iblk m c 7 ⟨b.val / 8, ht⟩ : Vec Ideal S128x64 .f32) (ix2 y o) = arg5 m c (ix4 y o 0 0) := fun o => by rw [iblk7, rowsM_apply]
  have w8 : (iblk m c 8 ⟨b.val / 8, ht⟩ : Vec Ideal S128x1 .f32) (ix2 y 0) = arg6 m c (ix1 y) := by rw [iblk8, colM_apply]
  rw [w3, w5, w8, funext w4, funext w6, show (fun o : Fin (2 * 32) => (iblk m c 7 ⟨b.val / 8, ht⟩ : Vec Ideal S128x64 .f32) (ix2 y o)) = fun o : Fin (2 * 32) => arg5 m c (ix4 y o 0 0) from funext w7]

end Cert.Kernel2Ideal.Whole
-- ==== Proof.Ref2.lean ====
/- The branching block's reference, read as real numbers at one pixel of one image: the 3x3 convolution with its padding, the
   candidates sorted by nearness, the nine nearest gathered, and the linear map of both layers. -/
module

public import proofs.«01_k».proof.Proof.Block
public import proofs.«01_k».proof.Proof.Pick
public import proofs.«01_k».proof.Proof.Gen.Reference2Ideal.Read
public import Idealize.ShloMosaic.Lib.Pointwise
public import Idealize.ShloMosaic.Lib.ValueIdxRank6

@[expose] public section

noncomputable section

namespace Cert.Reference2Ideal.Layer

open Cert.Reference2Ideal Cert.Reference2Ideal.Gen Cert.Reference2Ideal.Read Idealize.ShloMosaic Idealize.ShloMosaic.TcCoe Idealize.ShloMosaic.PlanTiles Cert.Block

variable (x0 : (⟨S64x8192, .f32⟩ : BufTy).Contents (Elt Ideal))

/-- Image `b`: for each channel, its pixels by number. -/
def pix (b : Fin 32) : Fin 64 → Nat → EReal :=
  fun ch => col fun p : Fin 256 => val_main_v1 (F := Ideal) x0 (ix4 b ch ⟨p.val / 16, by omega⟩ ⟨p.val % 16, by omega⟩)

/-- Inside an image, its pixel is an entry of the reference's images. -/
theorem pix_eq (b : Fin 32) (ch : Fin 64) (p : Nat) (hp : p < 256) :
    pix x0 b ch p = val_main_v1 (F := Ideal) x0 (ix4 b ch ⟨p / 16, by omega⟩ ⟨p % 16, by omega⟩) := col_eq _ _ hp

/-- The images with their pixels in a row, one pixel's channels together. -/
theorem pixels (b : Fin 32) (p : Fin 256) (ch : Fin 64) : val_main_v37 (F := Ideal) x0 (ix3 b p ch) = pix x0 b ch p.val := by
  rw [pix_eq x0 b ch p.val p.isLt]
  unfold val_main_v37 val_main_v36
  generalize val_main_v1 (F := Ideal) x0 = y
  pointwise

/-- The candidates are every eighth pixel. -/
theorem cands (b m : Fin 32) (ch : Fin 64) : val_main_v38 (F := Ideal) x0 (ix3 b m ch) = pix x0 b ch (8 * m.val) := by
  rw [← pixels x0 b ⟨8 * m.val, by omega⟩ ch]
  unfold val_main_v38
  generalize val_main_v37 (F := Ideal) x0 = y
  pointwise

/-- The candidates' nearness to a pixel. -/
theorem sims (b : Fin 32) (p : Fin 256) (m : Fin 32) : val_main_v52 (F := Ideal) x0 (ix3 b p m) = sim (pix x0 b) p.val m := by
  have h1 : val_main_v40 (F := Ideal) x0 (ix2 b p) = ∑ c, pix x0 b c p.val * pix x0 b c p.val := by
    simp only [← pixels]
    unfold val_main_v40 val_main_v39 val_main_cst_1
    generalize val_main_v37 (F := Ideal) x0 = y
    pointwise
  have h2 : val_main_v43 (F := Ideal) x0 (ix2 b m) = ∑ c, pix x0 b c (8 * m.val) * pix x0 b c (8 * m.val) := by
    simp only [← cands]
    unfold val_main_v43 val_main_v42 val_main_cst_2
    generalize val_main_v38 (F := Ideal) x0 = y
    pointwise
  have h3 : val_main_v45 (F := Ideal) x0 (ix3 b p m) = ∑ c, pix x0 b c p.val * pix x0 b c (8 * m.val) := by
    simp only [← cands, ← pixels]
    unfold val_main_v45
    generalize val_main_v37 (F := Ideal) x0 = y
    generalize val_main_v38 (F := Ideal) x0 = z
    pointwise
  unfold sim
  rw [← h1, ← h2, ← h3]
  unfold val_main_v52 val_main_v51 val_main_v50 val_main_v49 val_main_v48 val_main_v47 val_main_v46 val_main_v44 val_main_v41 val_main_cst_3
  generalize val_main_v40 (F := Ideal) x0 = y
  generalize val_main_v43 (F := Ideal) x0 = z
  generalize val_main_v45 (F := Ideal) x0 = w
  pointwise
  rw [ofBits_two]

/-- A row of thirty-two sorted, the greatest first, of equals the earlier first: the position a place's value came from. -/
theorem sorted_apply (s : FVec Ideal S32x256x32 .f32) (b : Fin 32) (p : Fin 256) (k : Fin 32) :
    (Host.sort2 S32x256x32 2 (fun l r : Ideal .f32 × BitVec 32 => FloatOps.cmpfTotal .gt l.1 r.1) s
        (fun i => if hd : 2 < S32x256x32.rank then iotaInDim S32x256x32 32 ⟨2, hd⟩ i else 0#32)).2 (ix3 b p k)
      = BitVec.ofNat 32 (sortedFrom (greater fun m => s (ix3 b p m)) k).val := by
  have h : (fun k k' : Fin 32 => FloatOps.cmpfTotal (F := Ideal) (φ := .f32) .gt (s (ix3 b p k)) (s (ix3 b p k')) == 1#1) = greater fun m => s (ix3 b p m) := by
    funext i j
    show (BitVec.ofBool (decide (s (ix3 b p j) < s (ix3 b p i))) == 1#1) = decide (s (ix3 b p j) < s (ix3 b p i))
    by_cases h : s (ix3 b p j) < s (ix3 b p i)
    · rw [decide_eq_true h]; rfl
    · rw [decide_eq_false h]; rfl
  have ha : ∀ j : Fin 32, Shape.Idx.along (s := S32x256x32) (ix3 b p k) (2 : Fin 3) j = ix3 b p j := fun j => by
    funext a
    match a with
    | ⟨0, _⟩ => rfl
    | ⟨1, _⟩ => rfl
    | ⟨2, _⟩ => rfl
  have hw : ∀ j : Fin 32, iotaInDim S32x256x32 32 (2 : Fin 3) (Shape.Idx.along (s := S32x256x32) (ix3 b p k) (2 : Fin 3) j) = BitVec.ofNat 32 j.val := fun j => rfl
  unfold Host.sort2
  rw [dif_pos (show 2 < S32x256x32.rank by decide)]
  show iotaInDim S32x256x32 32 (2 : Fin 3) (Shape.Idx.along (s := S32x256x32) (ix3 b p k) (2 : Fin 3) (sortedFrom (fun i j : Fin 32 =>
    FloatOps.cmpfTotal (F := Ideal) (φ := .f32) .gt (s (Shape.Idx.along (s := S32x256x32) (ix3 b p k) (2 : Fin 3) i)) (s (Shape.Idx.along (s := S32x256x32) (ix3 b p k) (2 : Fin 3) j)) == 1#1) k)) = _
  refine (hw _).trans ?_
  refine congrArg (fun f : Fin 32 → Fin 32 → Bool => BitVec.ofNat 32 (sortedFrom f k).val) (Eq.trans ?_ h)
  funext i j
  exact congrArg₂ (fun a c : S32x256x32.Idx => FloatOps.cmpfTotal (F := Ideal) (φ := .f32) .gt (s a) (s c) == 1#1) (ha i) (ha j)

/-- The positions of the nine greatest of each row of thirty-two. -/
theorem topK_apply (s : FVec Ideal S32x256x32 .f32) (b : Fin 32) (p : Fin 256) (k : Fin 9) :
    (Host.topK S32x256x9 2 (FloatOps.cmpfTotal .gt) s sliceFits_S32x256x32_S32x256x9).2 (ix3 b p k)
      = BitVec.ofNat 32 (sortedFrom (greater fun m => s (ix3 b p m)) ⟨k.val, by omega⟩).val := by
  rw [← sorted_apply]
  unfold Host.topK
  refine congrArg (Host.sort2 S32x256x32 2 (fun l r : Ideal .f32 × BitVec 32 => FloatOps.cmpfTotal .gt l.1 r.1) s
        (fun i => if hd : 2 < S32x256x32.rank then iotaInDim S32x256x32 32 ⟨2, hd⟩ i else 0#32)).2 (funext fun a => Fin.ext ?_)
  match a with
  | ⟨0, _⟩ => exact Nat.zero_add _
  | ⟨1, _⟩ => exact Nat.zero_add _
  | ⟨2, _⟩ => exact Nat.zero_add _

/-- The gather takes, for each pixel and each of its nine places, the candidate the index names, all its channels. -/
theorem gather_apply (x : FVec Ideal S32x32x64 .f32) (idx : IVec S32x256x9x1 32) (b : Fin 32) (p : Fin 256) (k : Fin 9) (ch : Fin 64) (m : Fin 32)
    (hm : idx (ix4 b p k 0) = BitVec.ofNat 32 m.val) :
    Host.gather gather_S32x32x64_S32x256x9x1_S32x256x9x64_3_1_0_0_1_3_1164 x idx (ix4 b p k ch) = x (ix3 b m ch) := by
  unfold Host.gather
  refine congrArg x (funext fun a => Fin.ext ?_)
  match a with
  | ⟨0, _⟩ =>
    show 0 + b.val + 0 = b.val
    omega
  | ⟨1, _⟩ =>
    have hsi : gather_S32x32x64_S32x256x9x1_S32x256x9x64_3_1_0_0_1_3_1164.siIdx (ix4 b p k ch) ⟨0, by decide⟩ = ix4 b p k 0 := by
      funext a
      match a with
      | ⟨0, _⟩ => rfl
      | ⟨1, _⟩ => rfl
      | ⟨2, _⟩ => rfl
      | ⟨3, _⟩ => rfl
    show min (idx (gather_S32x32x64_S32x256x9x1_S32x256x9x64_3_1_0_0_1_3_1164.siIdx (ix4 b p k ch) ⟨0, by decide⟩)).toInt.toNat 31 + 0 + 0 = m.val
    rw [hsi, hm, toInt_small _ (by omega)]
    show min m.val 31 + 0 + 0 = m.val
    omega
  | ⟨2, _⟩ =>
    show 0 + 0 + ch.val = ch.val
    omega

/-- An index that is not negative stands for itself. -/
theorem wrap_word (m : Fin 32) : Scalar.select (IntOp.cmpi .slt (BitVec.ofNat 32 m.val) 0#32) (IntOp.addi (BitVec.ofNat 32 m.val) 32#32) (BitVec.ofNat 32 m.val)
    = BitVec.ofNat 32 m.val := by
  revert m
  decide

/-- The candidate a pixel's place takes: of the nearest ones in turn. -/
theorem place (b : Fin 32) (p : Fin 256) (k : Fin 9) (hs : ∀ m, sim (pix x0 b) p.val m ≠ ⊥) :
    val_main_v58 (F := Ideal) x0 (ix4 b p k 0) = BitVec.ofNat 32 (best (sim (pix x0 b) p.val) k.val).val := by
  have h : val_main_indices (F := Ideal) x0 (ix3 b p k) = BitVec.ofNat 32 (best (sim (pix x0 b) p.val) k.val).val := by
    unfold val_main_indices
    rw [topK_apply, show (fun m => val_main_v52 (F := Ideal) x0 (ix3 b p m)) = sim (pix x0 b) p.val from funext fun m => sims x0 b p m,
      (sorted_best _ hs k.val (by omega)).1]
  rw [← wrap_word, ← h]
  unfold val_main_v58 val_main_v57 val_main_v56 val_main_v55 val_main_v54 val_main_v53 val_main_c val_main_c_4
  generalize val_main_indices (F := Ideal) x0 = y
  pointwise

/-- The images with a border of zeros, at what a tap sees. -/
theorem padded (b : Fin 32) (ch : Fin 64) (p : Fin 256) (i j : Fin 3) :
    val_main_v2 (F := Ideal) x0 (ix4 b ch ⟨p.val / 16 + i.val, by omega⟩ ⟨p.val % 16 + j.val, by omega⟩) = tap (pix x0 b ch) i.val j.val p.val := by
  unfold val_main_v2 pad tap
  by_cases h : 1 ≤ p.val / 16 + i.val ∧ p.val / 16 + i.val < 17 ∧ 1 ≤ p.val % 16 + j.val ∧ p.val % 16 + j.val < 17
  · rw [if_pos h, pix_eq x0 b ch _ (by omega), dif_pos]
    · refine congrArg (val_main_v1 (F := Ideal) x0) (funext fun a => Fin.ext ?_)
      match a with
      | ⟨0, _⟩ => show (b.val - 0) / (0 + 1) = b.val; omega
      | ⟨1, _⟩ => show (ch.val - 0) / (0 + 1) = ch.val; omega
      | ⟨2, _⟩ => show (p.val / 16 + i.val - 1) / (0 + 1) = (16 * (p.val / 16 + i.val - 1) + (p.val % 16 + j.val - 1)) / 16; omega
      | ⟨3, _⟩ => show (p.val % 16 + j.val - 1) / (0 + 1) = (16 * (p.val / 16 + i.val - 1) + (p.val % 16 + j.val - 1)) % 16; omega
    · intro a
      match a with
      | ⟨0, _⟩ => show 0 ≤ b.val ∧ (b.val - 0) % (0 + 1) = 0 ∧ (b.val - 0) / (0 + 1) < 32; omega
      | ⟨1, _⟩ => show 0 ≤ ch.val ∧ (ch.val - 0) % (0 + 1) = 0 ∧ (ch.val - 0) / (0 + 1) < 64; omega
      | ⟨2, _⟩ => show 1 ≤ p.val / 16 + i.val ∧ (p.val / 16 + i.val - 1) % (0 + 1) = 0 ∧ (p.val / 16 + i.val - 1) / (0 + 1) < 16; omega
      | ⟨3, _⟩ => show 1 ≤ p.val % 16 + j.val ∧ (p.val % 16 + j.val - 1) % (0 + 1) = 0 ∧ (p.val % 16 + j.val - 1) / (0 + 1) < 16; omega
  · rw [if_neg h, dif_neg]
    · show Ideal.ofBits .f32 0#32 = 0
      simp [Ideal.ofBits, Ideal.ieee]
    · intro hin
      have h2 : 1 ≤ p.val / 16 + i.val ∧ (p.val / 16 + i.val - 1) % (0 + 1) = 0 ∧ (p.val / 16 + i.val - 1) / (0 + 1) < 16 := hin 2
      have h3 : 1 ≤ p.val % 16 + j.val ∧ (p.val % 16 + j.val - 1) % (0 + 1) = 0 ∧ (p.val % 16 + j.val - 1) / (0 + 1) < 16 := hin 3
      omega

variable (x1 : (⟨S32x64x3x3, .f32⟩ : BufTy).Contents (Elt Ideal)) (x2 : (⟨S32, .f32⟩ : BufTy).Contents (Elt Ideal)) (x3 : (⟨S576x32, .f32⟩ : BufTy).Contents (Elt Ideal)) (x4 : (⟨S32, .f32⟩ : BufTy).Contents (Elt Ideal)) (x5 : (⟨S128x64x1x1, .f32⟩ : BufTy).Contents (Elt Ideal)) (x6 : (⟨S128, .f32⟩ : BufTy).Contents (Elt Ideal))

/-- The convolution's weights for output channel `o`. -/
abbrev wts (o : Fin 32) : Fin 64 → Nat → Nat → EReal := fun ch => tri fun i j => x1 (ix4 o ch i j)

/-- One tap's part of the convolution. -/
theorem product (b : Fin 32) (p : Fin 256) (o : Fin 32) (i j : Fin 3) (h w : Fin 18) (hh : h.val = i.val + p.val / 16) (hw : w.val = j.val + p.val % 16) :
    val_main_v3 (F := Ideal) x0 x1 (ix6 b h w o i j) = tapSum (wts x1 o) (pix x0 b) i.val j.val p.val := by
  have hi : p.val / 16 + i.val < 18 := by omega
  have hj : p.val % 16 + j.val < 18 := by omega
  obtain rfl : h = ⟨p.val / 16 + i.val, hi⟩ := Fin.ext (by rw [hh, Nat.add_comm])
  obtain rfl : w = ⟨p.val % 16 + j.val, hj⟩ := Fin.ext (by rw [hw, Nat.add_comm])
  rw [val_main_v3_apply]
  unfold tapSum
  refine Finset.sum_congr rfl fun ch _ => ?_
  rw [show wts x1 o ch i.val j.val = x1 (ix4 o ch i j) from tri_eq _ i j, ← padded x0 b ch p i j, mul_comm]
  refine congrArg₂ (· * ·) (congrArg x1 (funext fun a => ?_)) (congrArg (val_main_v2 (F := Ideal) x0) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's first product at a pixel is that tap's part of the mathematics' convolution. -/
theorem tap0 (b : Fin 32) (p : Fin 256) (o : Fin 32) :
    val_main_v5 (F := Ideal) x0 x1 (ix4 b ⟨p.val / 16, by omega⟩ ⟨p.val % 16, by omega⟩ o) = tapSum (wts x1 o) (pix x0 b) 0 0 p.val := by
  rw [show tapSum (wts x1 o) (pix x0 b) 0 0 p.val = _ from (product x0 x1 b p o 0 0 ⟨0 + p.val / 16, by omega⟩ ⟨0 + p.val % 16, by omega⟩ rfl rfl).symm]
  unfold val_main_v5 val_main_v4
  generalize val_main_v3 (F := Ideal) x0 x1 = y
  pointwise

/-- The reference's second product at a pixel is that tap's part of the mathematics' convolution. -/
theorem tap1 (b : Fin 32) (p : Fin 256) (o : Fin 32) :
    val_main_v7 (F := Ideal) x0 x1 (ix4 b ⟨p.val / 16, by omega⟩ ⟨p.val % 16, by omega⟩ o) = tapSum (wts x1 o) (pix x0 b) 0 1 p.val := by
  rw [show tapSum (wts x1 o) (pix x0 b) 0 1 p.val = _ from (product x0 x1 b p o 0 1 ⟨0 + p.val / 16, by omega⟩ ⟨1 + p.val % 16, by omega⟩ rfl rfl).symm]
  unfold val_main_v7 val_main_v6
  generalize val_main_v3 (F := Ideal) x0 x1 = y
  pointwise

/-- The reference's third product at a pixel is that tap's part of the mathematics' convolution. -/
theorem tap2 (b : Fin 32) (p : Fin 256) (o : Fin 32) :
    val_main_v9 (F := Ideal) x0 x1 (ix4 b ⟨p.val / 16, by omega⟩ ⟨p.val % 16, by omega⟩ o) = tapSum (wts x1 o) (pix x0 b) 0 2 p.val := by
  rw [show tapSum (wts x1 o) (pix x0 b) 0 2 p.val = _ from (product x0 x1 b p o 0 2 ⟨0 + p.val / 16, by omega⟩ ⟨2 + p.val % 16, by omega⟩ rfl rfl).symm]
  unfold val_main_v9 val_main_v8
  generalize val_main_v3 (F := Ideal) x0 x1 = y
  pointwise

/-- The reference's fourth product at a pixel is that tap's part of the mathematics' convolution. -/
theorem tap3 (b : Fin 32) (p : Fin 256) (o : Fin 32) :
    val_main_v11 (F := Ideal) x0 x1 (ix4 b ⟨p.val / 16, by omega⟩ ⟨p.val % 16, by omega⟩ o) = tapSum (wts x1 o) (pix x0 b) 1 0 p.val := by
  rw [show tapSum (wts x1 o) (pix x0 b) 1 0 p.val = _ from (product x0 x1 b p o 1 0 ⟨1 + p.val / 16, by omega⟩ ⟨0 + p.val % 16, by omega⟩ rfl rfl).symm]
  unfold val_main_v11 val_main_v10
  generalize val_main_v3 (F := Ideal) x0 x1 = y
  pointwise

/-- The reference's fifth product at a pixel is that tap's part of the mathematics' convolution. -/
theorem tap4 (b : Fin 32) (p : Fin 256) (o : Fin 32) :
    val_main_v13 (F := Ideal) x0 x1 (ix4 b ⟨p.val / 16, by omega⟩ ⟨p.val % 16, by omega⟩ o) = tapSum (wts x1 o) (pix x0 b) 1 1 p.val := by
  rw [show tapSum (wts x1 o) (pix x0 b) 1 1 p.val = _ from (product x0 x1 b p o 1 1 ⟨1 + p.val / 16, by omega⟩ ⟨1 + p.val % 16, by omega⟩ rfl rfl).symm]
  unfold val_main_v13 val_main_v12
  generalize val_main_v3 (F := Ideal) x0 x1 = y
  pointwise

/-- The reference's sixth product at a pixel is that tap's part of the mathematics' convolution. -/
theorem tap5 (b : Fin 32) (p : Fin 256) (o : Fin 32) :
    val_main_v15 (F := Ideal) x0 x1 (ix4 b ⟨p.val / 16, by omega⟩ ⟨p.val % 16, by omega⟩ o) = tapSum (wts x1 o) (pix x0 b) 1 2 p.val := by
  rw [show tapSum (wts x1 o) (pix x0 b) 1 2 p.val = _ from (product x0 x1 b p o 1 2 ⟨1 + p.val / 16, by omega⟩ ⟨2 + p.val % 16, by omega⟩ rfl rfl).symm]
  unfold val_main_v15 val_main_v14
  generalize val_main_v3 (F := Ideal) x0 x1 = y
  pointwise

/-- The reference's seventh product at a pixel is that tap's part of the mathematics' convolution. -/
theorem tap6 (b : Fin 32) (p : Fin 256) (o : Fin 32) :
    val_main_v17 (F := Ideal) x0 x1 (ix4 b ⟨p.val / 16, by omega⟩ ⟨p.val % 16, by omega⟩ o) = tapSum (wts x1 o) (pix x0 b) 2 0 p.val := by
  rw [show tapSum (wts x1 o) (pix x0 b) 2 0 p.val = _ from (product x0 x1 b p o 2 0 ⟨2 + p.val / 16, by omega⟩ ⟨0 + p.val % 16, by omega⟩ rfl rfl).symm]
  unfold val_main_v17 val_main_v16
  generalize val_main_v3 (F := Ideal) x0 x1 = y
  pointwise

/-- The reference's eighth product at a pixel is that tap's part of the mathematics' convolution. -/
theorem tap7 (b : Fin 32) (p : Fin 256) (o : Fin 32) :
    val_main_v19 (F := Ideal) x0 x1 (ix4 b ⟨p.val / 16, by omega⟩ ⟨p.val % 16, by omega⟩ o) = tapSum (wts x1 o) (pix x0 b) 2 1 p.val := by
  rw [show tapSum (wts x1 o) (pix x0 b) 2 1 p.val = _ from (product x0 x1 b p o 2 1 ⟨2 + p.val / 16, by omega⟩ ⟨1 + p.val % 16, by omega⟩ rfl rfl).symm]
  unfold val_main_v19 val_main_v18
  generalize val_main_v3 (F := Ideal) x0 x1 = y
  pointwise

/-- The reference's ninth product at a pixel is that tap's part of the mathematics' convolution. -/
theorem tap8 (b : Fin 32) (p : Fin 256) (o : Fin 32) :
    val_main_v21 (F := Ideal) x0 x1 (ix4 b ⟨p.val / 16, by omega⟩ ⟨p.val % 16, by omega⟩ o) = tapSum (wts x1 o) (pix x0 b) 2 2 p.val := by
  rw [show tapSum (wts x1 o) (pix x0 b) 2 2 p.val = _ from (product x0 x1 b p o 2 2 ⟨2 + p.val / 16, by omega⟩ ⟨2 + p.val % 16, by omega⟩ rfl rfl).symm]
  unfold val_main_v21 val_main_v20
  generalize val_main_v3 (F := Ideal) x0 x1 = y
  pointwise

/-- The convolution layer's result. -/
theorem convs (b : Fin 32) (o : Fin 32) (p : Fin 256) :
    val_main_v35 (F := Ideal) x0 x1 x2 (ix4 b o ⟨p.val / 16, by omega⟩ ⟨p.val % 16, by omega⟩) = conv (wts x1 o) (x2 (ix1 o)) (pix x0 b) p.val := by
  unfold conv
  rw [← tap0, ← tap1, ← tap2, ← tap3, ← tap4, ← tap5, ← tap6, ← tap7, ← tap8]
  unfold val_main_v35 val_main_v34 val_main_v33 val_main_v32 val_main_v31 val_main_v30 val_main_v29 val_main_v28 val_main_v27 val_main_v26 val_main_v25 val_main_v24 val_main_v23 val_main_v22 val_main_cst_0
  generalize val_main_v5 (F := Ideal) x0 x1 = y0
  generalize val_main_v7 (F := Ideal) x0 x1 = y1
  generalize val_main_v9 (F := Ideal) x0 x1 = y2
  generalize val_main_v11 (F := Ideal) x0 x1 = y3
  generalize val_main_v13 (F := Ideal) x0 x1 = y4
  generalize val_main_v15 (F := Ideal) x0 x1 = y5
  generalize val_main_v17 (F := Ideal) x0 x1 = y6
  generalize val_main_v19 (F := Ideal) x0 x1 = y7
  generalize val_main_v21 (F := Ideal) x0 x1 = y8
  pointwise

/-- What the neighbour layer's nine places hold, channel by channel. -/
theorem taken (b : Fin 32) (p : Fin 256) (k : Fin 9) (ch : Fin 64) (hs : ∀ m, sim (pix x0 b) p.val m ≠ ⊥) :
    val_main_v60 (F := Ideal) x0 (ix3 b p ⟨k.val * 64 + ch.val, by omega⟩) = pix x0 b ch (8 * (best (sim (pix x0 b) p.val) k.val).val) := by
  rw [← cands, ← gather_apply (val_main_v38 (F := Ideal) x0) _ b p k ch _ (place x0 b p k hs)]
  unfold val_main_v60 val_main_v59
  generalize Host.gather gather_S32x32x64_S32x256x9x1_S32x256x9x64_3_1_0_0_1_3_1164 (val_main_v38 (F := Ideal) x0) (val_main_v58 (F := Ideal) x0) = y
  pointwise

/-- The neighbour layer's linear map. -/
theorem mapped (b : Fin 32) (p : Fin 256) (o : Fin 32) (hs : ∀ m, sim (pix x0 b) p.val m ≠ ⊥) :
    val_main_v61 (F := Ideal) x0 x3 (ix3 b p o)
      = ∑ k : Fin 9, ∑ ch : Fin 64, x3 (ix2 ⟨64 * k.val + ch.val, by omega⟩ o) * pix x0 b ch (8 * (best (sim (pix x0 b) p.val) k.val).val) := by
  rw [val_main_v61_apply, Fin.sum_univ_tiles 9 64 rfl]
  refine Finset.sum_congr rfl fun k _ => Finset.sum_congr rfl fun ch _ => ?_
  rw [← taken x0 b p k ch hs, mul_comm]
  refine congrArg₂ (· * ·) (congrArg x3 (funext fun a => ?_)) (congrArg (val_main_v60 (F := Ideal) x0) (funext fun a => ?_))
  · match a with
    | ⟨0, _⟩ => exact Fin.ext (by show k.val * 64 + ch.val = 64 * k.val + ch.val; omega)
    | ⟨1, _⟩ => rfl
  · match a with
    | ⟨0, _⟩ => rfl
    | ⟨1, _⟩ => rfl
    | ⟨2, _⟩ => rfl

/-- The neighbours' weights for output channel `o`. -/
abbrev nbrs (o : Fin 32) : Fin 9 → Fin 64 → EReal := fun k ch => x3 (ix2 ⟨64 * k.val + ch.val, by omega⟩ o)

/-- The neighbour layer's result. -/
theorem nears (b : Fin 32) (o : Fin 32) (p : Fin 256) (hs : ∀ m, sim (pix x0 b) p.val m ≠ ⊥) :
    val_main_v68 (F := Ideal) x0 x3 x4 (ix4 b o ⟨p.val / 16, by omega⟩ ⟨p.val % 16, by omega⟩) = near (nbrs x3 o) (x4 (ix1 o)) (pix x0 b) p.val := by
  unfold near
  rw [← mapped x0 x3 b p o hs]
  unfold val_main_v68 val_main_v67 val_main_v66 val_main_v65 val_main_v64 val_main_v63 val_main_v62 val_main_cst_5
  generalize val_main_v61 (F := Ideal) x0 x3 = y
  pointwise

/-- The two layers' results over one another. -/
theorem joined (b : Fin 32) (o : Fin (2 * 32)) (p : Fin 256) (hs : ∀ m, sim (pix x0 b) p.val m ≠ ⊥) :
    val_main_v69 (F := Ideal) x0 x1 x2 x3 x4 (ix4 b o ⟨p.val / 16, by omega⟩ ⟨p.val % 16, by omega⟩)
      = both (fun o => conv (wts x1 o) (x2 (ix1 o)) (pix x0 b) p.val) (fun o => near (nbrs x3 o) (x4 (ix1 o)) (pix x0 b) p.val) o := by
  have h1 := fun o => convs x0 x1 x2 b o p
  have h2 := fun o => nears x0 x3 x4 b o p hs
  unfold both
  by_cases h : o.val < 32
  · rw [dif_pos h]
    refine Eq.trans ?_ (h1 ⟨o.val, h⟩)
    unfold val_main_v69
    generalize val_main_v35 (F := Ideal) x0 x1 x2 = y
    generalize val_main_v68 (F := Ideal) x0 x3 x4 = z
    pointwise
    exact dif_pos h
  · rw [dif_neg h]
    refine Eq.trans ?_ (h2 ⟨o.val - 32, by omega⟩)
    unfold val_main_v69
    generalize val_main_v35 (F := Ideal) x0 x1 x2 = y
    generalize val_main_v68 (F := Ideal) x0 x3 x4 = z
    pointwise
    exact dif_neg h

/-- The block's linear map of both layers. -/
theorem mixed (b : Fin 32) (y : Fin 128) (p : Fin 256) (hs : ∀ m, sim (pix x0 b) p.val m ≠ ⊥) :
    val_main_v71 (F := Ideal) x0 x1 x2 x3 x4 x5 (ix4 b ⟨p.val / 16, by omega⟩ ⟨p.val % 16, by omega⟩ y)
      = ∑ o : Fin (2 * 32), x5 (ix4 y o 0 0)
          * both (fun o => conv (wts x1 o) (x2 (ix1 o)) (pix x0 b) p.val) (fun o => near (nbrs x3 o) (x4 (ix1 o)) (pix x0 b) p.val) o := by
  rw [val_main_v71_apply]
  show ∑ o : Fin (2 * 32), _ = _
  refine Finset.sum_congr rfl fun o _ => ?_
  rw [← joined x0 x1 x2 x3 x4 b o p hs, mul_comm]
  refine congrArg₂ (· * ·) ?_ (congrArg (val_main_v69 (F := Ideal) x0 x1 x2 x3 x4) (funext fun a => ?_))
  · unfold val_main_v70
    pointwise
    rfl
  · match a with
    | ⟨0, _⟩ => rfl
    | ⟨1, _⟩ => rfl
    | ⟨2, _⟩ => rfl
    | ⟨3, _⟩ => rfl

/-- The reference's result: the block of every image, whose pixels are 256 columns. -/
theorem result_apply (b : Fin 32) (y : Fin 128) (p : Fin 256) (hs : ∀ m, sim (pix x0 b) p.val m ≠ ⊥) :
    val_main_v79 (F := Ideal) x0 x1 x2 x3 x4 x5 x6 (ix2 y ⟨256 * b.val + p.val, by omega⟩)
      = block (wts x1) (fun o => x2 (ix1 o)) (nbrs x3) (fun o => x4 (ix1 o)) (fun o : Fin (2 * 32) => x5 (ix4 y o 0 0)) (x6 (ix1 y)) (pix x0 b) p.val := by
  unfold block
  rw [← mixed x0 x1 x2 x3 x4 x5 b y p hs]
  unfold val_main_v79 val_main_v78 val_main_v77 val_main_v76 val_main_v75 val_main_v74 val_main_v73 val_main_v72 val_main_cst_6
  generalize val_main_v71 (F := Ideal) x0 x1 x2 x3 x4 x5 = z
  have h1 : (256 * b.val + p.val) / 16 % 16 = p.val / 16 := by omega
  have h2 : (256 * b.val + p.val) % 16 = p.val % 16 := by omega
  pointwise
  simp only [h1, h2]

end Cert.Reference2Ideal.Layer
-- ==== Proof.Branch2.lean ====
/- The second branching block's kernel against its reference: where the pixels are real numbers, both compute the block of every
   image. -/
module

public import proofs.«01_k».proof.Defs
public import proofs.«01_k».proof.Proof.Finite
public import proofs.«01_k».proof.Proof.Whole2
public import proofs.«01_k».proof.Proof.Ref2

@[expose] public section

noncomputable section

/-- The precondition's side condition: a number broadcasts to the images' array. -/
theorem Cert.Pre_finite2.Gen.facts : Cert.Pre_finite2.Facts := ⟨by decide⟩

instance Cert.Pre_finite2.Gen.inst : Cert.Pre_finite2.Facts := Cert.Pre_finite2.Gen.facts

namespace Cert.Branch2

open Idealize.ShloMosaic Idealize.ShloMosaic.TcCoe Idealize.SL.Sem Cert.Block Cert.Reference2Ideal.Read

/-- The precondition says that every pixel is a real number. -/
theorem pixel_real (m : (ℓ : Loc Cert.Kernel2Ideal.nD Cert.Kernel2Ideal.τ Cert.Kernel2Ideal.sig) → Buf (Elt Ideal) ℓ) (h : Cert.Pre_Kernel2Ideal_finite2 m)
    (c : Dev Cert.Kernel2Ideal.nD) (i : Cert.Kernel2Ideal.S64x8192.Idx) : ∃ r : ℝ, Cert.Kernel2Ideal.Whole.arg0 m c i = r :=
  real_of_finite _ (congrFun (h c) i)

/-- The reference's image is the kernel's: both number the pixels of an image row by row. -/
theorem pix_image (x : Vec Ideal Cert.Kernel2Ideal.S64x8192 .f32) (b : Fin 32) : Cert.Reference2Ideal.Layer.pix x b = Cert.Kernel2Ideal.Whole.image x b := by
  unfold Cert.Reference2Ideal.Layer.pix Cert.Kernel2Ideal.Whole.image
  refine funext fun ch => congrArg col (funext fun p => ?_)
  unfold val_main_v1 val_main_v0
  pointwise
  refine congrArg (fun l => x (ix2 ch l)) (Fin.ext ?_)
  show b.val * 256 + p.val / 16 * 16 + p.val % 16 = 256 * b.val + p.val
  omega

/-- The reference's result on the kernel's arguments is what the kernel writes. -/
theorem results_eq (m : (ℓ : Loc Cert.Kernel2Ideal.nD Cert.Kernel2Ideal.τ Cert.Kernel2Ideal.sig) → Buf (Elt Ideal) ℓ) (hp : Cert.Pre_Kernel2Ideal_finite2 m)
    (c : Dev Cert.Kernel2Ideal.nD) :
    val_main_v79 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = Cert.Kernel2Ideal.Whole.G m c := by
  funext i
  rw [eq_ix2 i]
  obtain ⟨b, q, hbq⟩ : ∃ (b : Fin 32) (q : Fin 256), i 1 = (⟨256 * b.val + q.val, by omega⟩ : Fin 8192) := by
    have h1 : (i 1).val < 8192 := (i 1).isLt
    exact ⟨⟨(i 1).val / 256, by omega⟩, ⟨(i 1).val % 256, by omega⟩, Fin.ext (by show (i 1).val = 256 * ((i 1).val / 256) + (i 1).val % 256; omega)⟩
  rw [hbq]
  refine (Cert.Reference2Ideal.Layer.result_apply _ _ _ _ _ _ _ b (i 0) q fun k => sim_ne_bot _ (fun ch p => ?_) _ k).trans ?_
  · rw [pix_image]
    unfold Cert.Kernel2Ideal.Whole.image
    exact real_col _ (fun p => pixel_real m hp c _) _
  · rw [Cert.Kernel2Ideal.Whole.result_apply m c b q (i 0), pix_image]

end Cert.Branch2

open Idealize.ShloMosaic Idealize.ShloMosaic.TcCoe Idealize.SL.Sem Cert.Reference2Ideal.Read in
/-- The second block's kernel is its reference: where every pixel is a real number, both run, leave their arguments as they were,
    and give the same result. -/
theorem Cert.Proof.algebraic2 : Cert.algebraic_Kernel2Ideal_Reference2Ideal_pre_finite2 := by
  intro m ρ m' ρ' hp harg
  refine ⟨fun c => Cert.Kernel2Ideal.Whole.G m c, Cert.Kernel2Ideal.Value.run_blocks m ρ, ?_⟩
  refine (θ_run _ _ _).mono (fun r h c => ⟨(h c).1.trans ?_, (h c).2⟩) (Cert.Reference2Ideal.Value.run m' ρ')
  obtain ⟨h0, h1, h2, h3, h4, h5, h6⟩ := harg c
  refine (val_main_v79_eq m' c).trans ?_
  rw [h0, h1, h2, h3, h4, h5, h6]
  exact Cert.Branch2.results_eq m hp c

end
-- ==== Proof.Body1.lean ====
/- The words of the branching block's kernel as compositions of a few operations of its own: a masked, turned image as one
   tap of the 3x3 window sees it, a step of the convolution, the nearness of the candidates of one image, a round of the
   nearest-neighbour choice. The block has 12 channels in, 16 channels for each layer, 64 channels out, and eight images. -/
module

public import proofs.«01_k».proof.Proof.Gen.Kernel1Ideal.Value
public import Idealize.ShloMosaic.Lib.Pointwise
public import Idealize.ShloMosaic.Lib.Pipeline.Value

@[expose] public section

noncomputable section

namespace Cert.Kernel1Ideal.Body

open Cert.Kernel1Ideal Cert.Kernel1Ideal.Gen Idealize.ShloMosaic Idealize.ShloMosaic.TcCoe

variable {F : FTy → Type} [FloatOps F]

/-- The row of each column's pixel in its image. -/
def rowW : IVec S1x2048 32 := k0_pay3

/-- The column of each column's pixel in its image. -/
def colW : IVec S1x2048 32 := k0_pay4

/-- Where a tap `dh` rows down and `dw` columns on stays inside the image. -/
def inside (dh dw : BitVec 32) (h w : IVec S1x2048 32) : IVec S1x2048 1 :=
  andi (andi (andi (cmpi .sge (addi h (broadcast S1x2048 dh)) (broadcast S1x2048 0#32))
    (cmpi .slt (addi h (broadcast S1x2048 dh)) (broadcast S1x2048 16#32)))
    (cmpi .sge (addi w (broadcast S1x2048 dw)) (broadcast S1x2048 0#32)))
    (cmpi .slt (addi w (broadcast S1x2048 dw)) (broadcast S1x2048 16#32))

/-- The images turned by `r` columns. -/
def turned (r : BitVec 32) (x : FVec F S12x2048 .f32) : FVec F S12x2048 .f32 := dynamicRotate 1 r none x rotates_S12x2048_d1

/-- What a tap sees of the turned images: zero outside. -/
def seen (dh dw : BitVec 32) (x : FVec F S12x2048 .f32) : FVec F S12x2048 .f32 :=
  select (broadcastTo S12x2048 (shapeCast S1x2048 (inside dh dw rowW colW) shapeCasts_S1x2048_S1x2048) broadcasts_S1x2048_S12x2048)
    x (broadcast S12x2048 (Scalar.ofBits .f32 0x00000000#32))

/-- One tap's product added to what the convolution has so far. -/
def step (off : Nat) (hs : S16x108.Slices ![0, off] S16x12) (Wc : FVec F S16x108 .f32) (t : FVec F S12x2048 .f32) (acc : FVec F S16x2048 .f32) : FVec F S16x2048 .f32 :=
  addf acc (matmul dot_S16x12_S12x2048_S16x2048_1_0_0_1_n_n none (truncf .bf16 (extractStridedSlice S16x12 ![0, off] Wc hs) bitsLt_bf16_f32)
    (truncf .bf16 t bitsLt_bf16_f32) (constant S16x2048 .f32 0x00000000#32))

/-- The sum of the first `n` taps, for the nine. -/
def taps0 : FVec F S16x2048 .f32 := broadcast S16x2048 (Scalar.ofBits .f32 0x00000000#32)

/-- The sum of the first tap. -/
def taps1 (x : FVec F S12x2048 .f32) (Wc : FVec F S16x108 .f32) : FVec F S16x2048 .f32 :=
  step 0 slices_S16x108_o0_0_S16x12 Wc (seen 4294967295#32 4294967295#32 (turned 17#32 x)) taps0
/-- The sum of the first two taps. -/
def taps2 (x : FVec F S12x2048 .f32) (Wc : FVec F S16x108 .f32) : FVec F S16x2048 .f32 :=
  step 12 slices_S16x108_o0_12_S16x12 Wc (seen 4294967295#32 0#32 (turned 16#32 x)) (taps1 x Wc)
/-- The sum of the first three taps. -/
def taps3 (x : FVec F S12x2048 .f32) (Wc : FVec F S16x108 .f32) : FVec F S16x2048 .f32 :=
  step 24 slices_S16x108_o0_24_S16x12 Wc (seen 4294967295#32 1#32 (turned 15#32 x)) (taps2 x Wc)
/-- The sum of the first four taps. -/
def taps4 (x : FVec F S12x2048 .f32) (Wc : FVec F S16x108 .f32) : FVec F S16x2048 .f32 :=
  step 36 slices_S16x108_o0_36_S16x12 Wc (seen 0#32 4294967295#32 (turned 1#32 x)) (taps3 x Wc)
/-- The sum of the first five taps. -/
def taps5 (x : FVec F S12x2048 .f32) (Wc : FVec F S16x108 .f32) : FVec F S16x2048 .f32 :=
  step 48 slices_S16x108_o0_48_S16x12 Wc (seen 0#32 0#32 x) (taps4 x Wc)
/-- The sum of the first six taps. -/
def taps6 (x : FVec F S12x2048 .f32) (Wc : FVec F S16x108 .f32) : FVec F S16x2048 .f32 :=
  step 60 slices_S16x108_o0_60_S16x12 Wc (seen 0#32 1#32 (turned 2047#32 x)) (taps5 x Wc)
/-- The sum of the first seven taps. -/
def taps7 (x : FVec F S12x2048 .f32) (Wc : FVec F S16x108 .f32) : FVec F S16x2048 .f32 :=
  step 72 slices_S16x108_o0_72_S16x12 Wc (seen 1#32 4294967295#32 (turned 2033#32 x)) (taps6 x Wc)
/-- The sum of the first eight taps. -/
def taps8 (x : FVec F S12x2048 .f32) (Wc : FVec F S16x108 .f32) : FVec F S16x2048 .f32 :=
  step 84 slices_S16x108_o0_84_S16x12 Wc (seen 1#32 0#32 (turned 2032#32 x)) (taps7 x Wc)
/-- The sum of the first nine taps. -/
def taps9 (x : FVec F S12x2048 .f32) (Wc : FVec F S16x108 .f32) : FVec F S16x2048 .f32 :=
  step 96 slices_S16x108_o0_96_S16x12 Wc (seen 1#32 1#32 (turned 2031#32 x)) (taps8 x Wc)

/-- The convolution's result: all nine taps, the bias, the positive part. -/
def convT (x : FVec F S12x2048 .f32) (Wc : FVec F S16x108 .f32) (b : FVec F S16x1 .f32) : FVec F S16x2048 .f32 :=
  maximumf (addf (taps9 x (shapeCast S16x108 Wc shapeCasts_S16x108_S16x108)) (broadcastTo S16x2048 (shapeCast S16x1 b shapeCasts_S16x1_S16x1) broadcasts_S16x1_S16x2048))
    (broadcast S16x2048 (Scalar.ofBits .f32 0x00000000#32))

/-- The pixels' squares added over the channels. -/
def squares (x : FVec F S12x2048 .f32) : FVec F S1x2048 .f32 :=
  shapeCast S1x2048 (multiReduction .add [0] S2048 (mulf x x) 0x00000000#32 reduces_S12x2048_S2048 (.inl rfl) rfl) shapeCasts_S2048_S1x2048

/-- The nearness of the candidates of one image to its pixels. -/
def simT (oc ox : Nat) (hc : S256x12.Slices ![oc, 0] S32x12) (hx : S12x2048.Slices ![0, ox] S12x256) (hq : S1x2048.Slices ![0, ox] S1x256)
    (x : FVec F S12x2048 .f32) (q : FVec F S1x2048 .f32) (cd : FVec F S256x12 .f32) : FVec F S32x256 .f32 :=
  subf (broadcast S32x256 (Scalar.ofBits .f32 0x00000000#32))
    (addf (subf (broadcastTo S32x256 (extractStridedSlice S1x256 ![0, ox] q hq) broadcasts_S1x256_S32x256)
      (mulf (broadcast S32x256 (Scalar.ofBits .f32 0x40000000#32))
        (matmul dot_S32x12_S12x256_S32x256_1_0_0_1_n_n none (truncf .bf16 (extractStridedSlice S32x12 ![oc, 0] cd hc) bitsLt_bf16_f32)
          (truncf .bf16 (extractStridedSlice S12x256 ![0, ox] x hx) bitsLt_bf16_f32) (constant S32x256 .f32 0x00000000#32))))
      (broadcastTo S32x256 (shapeCast S32x1 (multiReduction .add [1] S32 (mulf (extractStridedSlice S32x12 ![oc, 0] cd hc) (extractStridedSlice S32x12 ![oc, 0] cd hc))
        0x00000000#32 reduces_S32x12_S32 (.inl rfl) rfl) shapeCasts_S32_S32x1) broadcasts_S32x1_S32x256))

/-- The nearness of every image's candidates to its pixels, image after image. -/
def simsT (x : FVec F S12x2048 .f32) (cd : FVec F S256x12 .f32) : FVec F S32x2048 .f32 :=
  concatenate S32x2048 1 [⟨S32x256, simT 0 0 slices_S256x12_o0_0_S32x12 slices_S12x2048_o0_0_S12x256 slices_S1x2048_o0_0_S1x256 x (squares x) (shapeCast S256x12 cd shapeCasts_S256x12_S256x12)⟩, ⟨S32x256, simT 32 256 slices_S256x12_o32_0_S32x12 slices_S12x2048_o0_256_S12x256 slices_S1x2048_o0_256_S1x256 x (squares x) (shapeCast S256x12 cd shapeCasts_S256x12_S256x12)⟩, ⟨S32x256, simT 64 512 slices_S256x12_o64_0_S32x12 slices_S12x2048_o0_512_S12x256 slices_S1x2048_o0_512_S1x256 x (squares x) (shapeCast S256x12 cd shapeCasts_S256x12_S256x12)⟩, ⟨S32x256, simT 96 768 slices_S256x12_o96_0_S32x12 slices_S12x2048_o0_768_S12x256 slices_S1x2048_o0_768_S1x256 x (squares x) (shapeCast S256x12 cd shapeCasts_S256x12_S256x12)⟩, ⟨S32x256, simT 128 1024 slices_S256x12_o128_0_S32x12 slices_S12x2048_o0_1024_S12x256 slices_S1x2048_o0_1024_S1x256 x (squares x) (shapeCast S256x12 cd shapeCasts_S256x12_S256x12)⟩, ⟨S32x256, simT 160 1280 slices_S256x12_o160_0_S32x12 slices_S12x2048_o0_1280_S12x256 slices_S1x2048_o0_1280_S1x256 x (squares x) (shapeCast S256x12 cd shapeCasts_S256x12_S256x12)⟩, ⟨S32x256, simT 192 1536 slices_S256x12_o192_0_S32x12 slices_S12x2048_o0_1536_S12x256 slices_S1x2048_o0_1536_S1x256 x (squares x) (shapeCast S256x12 cd shapeCasts_S256x12_S256x12)⟩, ⟨S32x256, simT 224 1792 slices_S256x12_o224_0_S32x12 slices_S12x2048_o0_1792_S12x256 slices_S1x2048_o0_1792_S1x256 x (squares x) (shapeCast S256x12 cd shapeCasts_S256x12_S256x12)⟩]
    concatenates_S32x256_S32x256_S32x256_S32x256_S32x256_S32x256_S32x256_S32x256_S32x2048_d1

/-- Each candidate's number. -/
def numW : IVec S32x2048 32 := iota .tc S32x2048 32 [0] iota_S32x2048_d0_w32

/-- Where the first greatest value of each column stands. -/
def chosen (s : FVec F S32x2048 .f32) : IVec S32x2048 1 :=
  cmpi .eq numW (broadcastTo S32x2048 (shapeCast S1x2048 (multiReductionI .minsi [0] S2048
    (select (cmpf .oeq s (broadcastTo S32x2048 (shapeCast S1x2048 (multiReduction .maximumf [0] S2048 s 0xFF800000#32 reduces_S32x2048_S2048 (.inl rfl) rfl)
      shapeCasts_S2048_S1x2048) broadcasts_S1x2048_S32x2048)) numW (broadcast S32x2048 32#32))
    2147483647#32 reduces_S32x2048_S2048 rfl) shapeCasts_S2048_S1x2048) broadcasts_S1x2048_S32x2048)

/-- The values with the chosen ones struck out. -/
def struck (s : FVec F S32x2048 .f32) : FVec F S32x2048 .f32 :=
  select (chosen s) (broadcast S32x2048 (Scalar.ofBits .f32 0xFF800000#32)) s

/-- One where a value is chosen, zero elsewhere. -/
def hot (s : FVec F S32x2048 .f32) : FVec F S32x2048 .f32 := sitofp .f32 (extui 32 (chosen s) natLt_1_32)

/-- The values after `k` rounds. -/
def rounds (s : FVec F S32x2048 .f32) : Nat → FVec F S32x2048 .f32
  | 0 => s
  | k + 1 => struck (rounds s k)

/-- The weights of the `k`-th nearest neighbour times every candidate. -/
def weighed (off : Nat) (hs : S16x108.Slices ![0, off] S16x12) (ct : FVec F S12x256 .f32) (Wn : FVec F S16x108 .f32) : FVec F S16x256 .f32 :=
  matmul dot_S16x12_S12x256_S16x256_1_0_0_1_n_n none (truncf .bf16 (extractStridedSlice S16x12 ![0, off] (shapeCast S16x108 Wn shapeCasts_S16x108_S16x108) hs) bitsLt_bf16_f32)
    (truncf .bf16 (shapeCast S12x256 ct shapeCasts_S12x256_S12x256) bitsLt_bf16_f32) (constant S16x256 .f32 0x00000000#32)

/-- The nearest-neighbour layer of one image: the weighed candidates where the nine rounds chose them. -/
def nearT (oc ox : Nat) (hc : S16x256.Slices ![0, oc] S16x32) (hx : S32x2048.Slices ![0, ox] S32x256)
    (w0 w1 w2 w3 w4 w5 w6 w7 w8 : FVec F S16x256 .f32) (h0 h1 h2 h3 h4 h5 h6 h7 h8 : FVec F S32x2048 .f32) : FVec F S16x256 .f32 :=
  matmul dot_S16x288_S288x256_S16x256_1_0_0_1_n_n (some .fp32)
    (concatenate S16x288 1 [⟨S16x32, extractStridedSlice S16x32 ![0, oc] w0 hc⟩, ⟨S16x32, extractStridedSlice S16x32 ![0, oc] w1 hc⟩, ⟨S16x32, extractStridedSlice S16x32 ![0, oc] w2 hc⟩, ⟨S16x32, extractStridedSlice S16x32 ![0, oc] w3 hc⟩, ⟨S16x32, extractStridedSlice S16x32 ![0, oc] w4 hc⟩, ⟨S16x32, extractStridedSlice S16x32 ![0, oc] w5 hc⟩, ⟨S16x32, extractStridedSlice S16x32 ![0, oc] w6 hc⟩, ⟨S16x32, extractStridedSlice S16x32 ![0, oc] w7 hc⟩, ⟨S16x32, extractStridedSlice S16x32 ![0, oc] w8 hc⟩]
      concatenates_S16x32_S16x32_S16x32_S16x32_S16x32_S16x32_S16x32_S16x32_S16x32_S16x288_d1)
    (concatenate S288x256 0 [⟨S32x256, extractStridedSlice S32x256 ![0, ox] h0 hx⟩, ⟨S32x256, extractStridedSlice S32x256 ![0, ox] h1 hx⟩, ⟨S32x256, extractStridedSlice S32x256 ![0, ox] h2 hx⟩, ⟨S32x256, extractStridedSlice S32x256 ![0, ox] h3 hx⟩, ⟨S32x256, extractStridedSlice S32x256 ![0, ox] h4 hx⟩, ⟨S32x256, extractStridedSlice S32x256 ![0, ox] h5 hx⟩, ⟨S32x256, extractStridedSlice S32x256 ![0, ox] h6 hx⟩, ⟨S32x256, extractStridedSlice S32x256 ![0, ox] h7 hx⟩, ⟨S32x256, extractStridedSlice S32x256 ![0, ox] h8 hx⟩]
      concatenates_S32x256_S32x256_S32x256_S32x256_S32x256_S32x256_S32x256_S32x256_S32x256_S288x256_d0)
    (constant S16x256 .f32 0x00000000#32)

/-- The nearest-neighbour layer of all eight images, from the nearness of their candidates. -/
def nearsT (s : FVec F S32x2048 .f32) (ct : FVec F S12x256 .f32) (Wn : FVec F S16x108 .f32) : FVec F S16x2048 .f32 :=
  concatenate S16x2048 1 [⟨S16x256, nearT 0 0 slices_S16x256_o0_0_S16x32 slices_S32x2048_o0_0_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 32 256 slices_S16x256_o0_32_S16x32 slices_S32x2048_o0_256_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 64 512 slices_S16x256_o0_64_S16x32 slices_S32x2048_o0_512_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 96 768 slices_S16x256_o0_96_S16x32 slices_S32x2048_o0_768_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 128 1024 slices_S16x256_o0_128_S16x32 slices_S32x2048_o0_1024_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 160 1280 slices_S16x256_o0_160_S16x32 slices_S32x2048_o0_1280_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 192 1536 slices_S16x256_o0_192_S16x32 slices_S32x2048_o0_1536_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩, ⟨S16x256, nearT 224 1792 slices_S16x256_o0_224_S16x32 slices_S32x2048_o0_1792_S32x256 (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds s 0)) (hot (rounds s 1)) (hot (rounds s 2)) (hot (rounds s 3)) (hot (rounds s 4)) (hot (rounds s 5)) (hot (rounds s 6)) (hot (rounds s 7)) (hot (rounds s 8))⟩]
    concatenates_S16x256_S16x256_S16x256_S16x256_S16x256_S16x256_S16x256_S16x256_S16x2048_d1

/-- The two layers over one another. -/
def bothT (A : FVec F S16x2048 .f32) (N : FVec F S16x2048 .f32) (b : FVec F S16x1 .f32) : FVec F S32x2048 .f32 :=
  concatenate S32x2048 0 [⟨S16x2048, A⟩, ⟨S16x2048, maximumf (addf N (broadcastTo S16x2048 (shapeCast S16x1 b shapeCasts_S16x1_S16x1) broadcasts_S16x1_S16x2048))
    (broadcast S16x2048 (Scalar.ofBits .f32 0x00000000#32))⟩] concatenates_S16x2048_S16x2048_S32x2048_d0

/-- The pixelwise linear map with its bias and its positive part. -/
def mixT (ab : FVec F S32x2048 .f32) (W : FVec F S64x32 .f32) (b : FVec F S64x1 .f32) : FVec F S64x2048 .f32 :=
  maximumf (addf (matmul dot_S64x32_S32x2048_S64x2048_1_0_0_1_n_n none (truncf .bf16 (shapeCast S64x32 W shapeCasts_S64x32_S64x32) bitsLt_bf16_f32)
    (truncf .bf16 ab bitsLt_bf16_f32) (constant S64x2048 .f32 0x00000000#32)) (broadcastTo S64x2048 (shapeCast S64x1 b shapeCasts_S64x1_S64x1) broadcasts_S64x1_S64x2048))
    (broadcast S64x2048 (Scalar.ofBits .f32 0x00000000#32))

/-- The block's result on eight images. -/
def outT (x0 : FVec F S12x2048 .f32) (x1 : FVec F S256x12 .f32) (x2 : FVec F S12x256 .f32) (x3 : FVec F S16x108 .f32) (x4 : FVec F S16x1 .f32)
    (x5 : FVec F S16x108 .f32) (x6 : FVec F S16x1 .f32) (x7 : FVec F S64x32 .f32) (x8 : FVec F S64x1 .f32) : FVec F S64x2048 .f32 :=
  mixT (bothT (convT x0 x3 x4) (nearsT (simsT x0 x1) x2 x5) x6) x7 x8

/-- The images pass through a change of shape to their own shape unchanged. -/
theorem cast_eq (x : FVec F S12x2048 .f32) : k0_pay2 x = x := by
  unfold k0_pay2; exact shapeCast_self x _
/-- The body's value after one tap of the convolution is their sum. -/
theorem taps1_eq (x : FVec F S12x2048 .f32) (Wc : FVec F S16x108 .f32) : k0_pay10 (F := F) k0_pay4 Wc k0_pay6 (k0_pay7 x) k0_pay8 k0_pay9 = taps1 x Wc := by
  unfold k0_pay7; rw [cast_eq]; rfl
/-- The body's value after three taps of the convolution is their sum. -/
theorem taps3_eq (x : FVec F S12x2048 .f32) (Wc : FVec F S16x108 .f32) : k0_pay13 (F := F) x k0_pay3 k0_pay4 Wc (taps1 x Wc) (k0_pay11 x) (Scalar.ofBits .f32 0x00000000#32) (k0_pay12 k0_pay3 k0_pay4) = taps3 x Wc := rfl
/-- The body's value after four taps of the convolution is their sum. -/
theorem taps4_eq (x : FVec F S12x2048 .f32) (Wc : FVec F S16x108 .f32) : k0_pay17 (F := F) k0_pay4 Wc (taps3 x Wc) (k0_pay14 x) (k0_pay15 k0_pay3) (k0_pay16 k0_pay3) = taps4 x Wc := rfl
/-- The body's value after six taps of the convolution is their sum. -/
theorem taps6_eq (x : FVec F S12x2048 .f32) (Wc : FVec F S16x108 .f32) : k0_pay20 (F := F) x k0_pay3 k0_pay4 Wc (taps4 x Wc) (k0_pay18 k0_pay3 k0_pay4) (k0_pay19 (F := F)) = taps6 x Wc := rfl
/-- The body's value after seven taps of the convolution is their sum. -/
theorem taps7_eq (x : FVec F S12x2048 .f32) (Wc : FVec F S16x108 .f32) : k0_pay25 (F := F) k0_pay4 Wc (taps6 x Wc) (k0_pay21 x) (k0_pay22 k0_pay3) (k0_pay23 k0_pay3) k0_pay24 = taps7 x Wc := rfl
/-- The body's last step of the convolution gives its result. -/
theorem conv_eq (x : FVec F S12x2048 .f32) (Wc : FVec F S16x108 .f32) (b : FVec F S16x1 .f32) :
    k0_pay29 (F := F) x k0_pay3 k0_pay4 (k0_pay5 Wc) (taps7 x (k0_pay5 Wc)) (k0_pay26 x) (k0_pay27 k0_pay3 k0_pay4) (k0_pay28 (F := F)) b = convT x Wc b := rfl
/-- The body's sum of squares is the sum of the pixels' squares. -/
theorem squares_eq (x : FVec F S12x2048 .f32) : k0_pay30 x = squares x := rfl
/-- The body's nearness of all images' candidates is the nearness defined above. -/
theorem sims_eq (x : FVec F S12x2048 .f32) (cd : FVec F S256x12 .f32) :
    k0_pay45 x (k0_pay30 x) (k0_pay31 cd) (k0_pay33 x (k0_pay30 x) cd) (k0_pay34 x (k0_pay30 x) cd) (k0_pay38 (k0_pay30 x) (k0_pay36 cd) (k0_pay37 x cd))
      (k0_pay39 x (k0_pay30 x) (k0_pay31 cd)) (k0_pay40 x (k0_pay30 x) (k0_pay31 cd)) (k0_pay42 (k0_pay31 cd)) (k0_pay43 (k0_pay31 cd)) (k0_pay44 x) = simsT x cd := rfl

section rounds
variable (s : FVec F S32x2048 .f32)
/-- The body's marks of the first round are the chosen entries of that round. -/
theorem c0 : k0_pay56 s numW = chosen (rounds s 0) := rfl
/-- The body's values after one round are those of the rounds. -/
theorem r1 : k0_pay58 s (chosen (rounds s 0)) = rounds s 1 := rfl
/-- The body's marks of the second round are the chosen entries of that round. -/
theorem c1 : k0_pay59 s numW (chosen (rounds s 0)) = chosen (rounds s 1) := rfl
/-- The body's values after two rounds are those of the rounds. -/
theorem r2 : k0_pay61 s numW (chosen (rounds s 0)) = rounds s 2 := by
  unfold k0_pay61; rw [c1, r1]; rfl
/-- The body's marks of the third round are the chosen entries of that round. -/
theorem c2 : k0_pay62 s numW (chosen (rounds s 0)) = chosen (rounds s 2) := by
  unfold k0_pay62; rw [r2]; rfl
/-- The body's values after three rounds are those of the rounds. -/
theorem r3 : k0_pay64 s numW (chosen (rounds s 0)) = rounds s 3 := by
  unfold k0_pay64; rw [c2, r2]; rfl
/-- The body's marks of the fourth round are the chosen entries of that round. -/
theorem c3 : k0_pay65 s numW (chosen (rounds s 0)) = chosen (rounds s 3) := by
  unfold k0_pay65; rw [r3]; rfl
/-- The body's values after four rounds are those of the rounds. -/
theorem r4 : k0_pay67 s numW (chosen (rounds s 0)) = rounds s 4 := by
  unfold k0_pay67; rw [c3, r3]; rfl
/-- The body's marks of the fifth round are the chosen entries of that round. -/
theorem c4 : k0_pay68 numW (rounds s 4) = chosen (rounds s 4) := rfl
/-- The body's values after five rounds are those of the rounds. -/
theorem r5 : k0_pay70 numW (rounds s 4) = rounds s 5 := by
  unfold k0_pay70; rw [c4]; rfl
/-- The body's marks of the sixth round are the chosen entries of that round. -/
theorem c5 : k0_pay71 numW (rounds s 4) = chosen (rounds s 5) := by
  unfold k0_pay71; rw [r5]; rfl
/-- The body's values after six rounds are those of the rounds. -/
theorem r6 : k0_pay73 numW (rounds s 4) = rounds s 6 := by
  unfold k0_pay73; rw [c5, r5]; rfl
/-- The body's marks of the seventh round are the chosen entries of that round. -/
theorem c6 : k0_pay74 numW (rounds s 4) = chosen (rounds s 6) := by
  unfold k0_pay74; rw [r6]; rfl
/-- The body's values after seven rounds are those of the rounds. -/
theorem r7 : k0_pay76 numW (rounds s 4) = rounds s 7 := by
  unfold k0_pay76; rw [c6, r6]; rfl
/-- The body's marks of the eighth round are the chosen entries of that round. -/
theorem c7 : k0_pay79 numW (k0_pay77 numW (rounds s 4)) k0_pay78 = chosen (rounds s 7) := by
  unfold k0_pay77; rw [r7]; rfl
/-- The body's first array of ones and zeros marks the first round's choice. -/
theorem h0 : k0_pay57 (F := F) (chosen (rounds s 0)) = hot (rounds s 0) := rfl
/-- The body's second array of ones and zeros marks the second round's choice. -/
theorem h1 : k0_pay60 s numW (chosen (rounds s 0)) = hot (rounds s 1) := by unfold k0_pay60; rw [c1]; rfl
/-- The body's third array of ones and zeros marks the third round's choice. -/
theorem h2 : k0_pay63 s numW (chosen (rounds s 0)) = hot (rounds s 2) := by unfold k0_pay63; rw [c2]; rfl
/-- The body's fourth array of ones and zeros marks the fourth round's choice. -/
theorem h3 : k0_pay66 s numW (chosen (rounds s 0)) = hot (rounds s 3) := by unfold k0_pay66; rw [c3]; rfl
/-- The body's fifth array of ones and zeros marks the fifth round's choice. -/
theorem h4 : k0_pay69 numW (rounds s 4) = hot (rounds s 4) := by unfold k0_pay69; rw [c4]; rfl
/-- The body's sixth array of ones and zeros marks the sixth round's choice. -/
theorem h5 : k0_pay72 numW (rounds s 4) = hot (rounds s 5) := by unfold k0_pay72; rw [c5]; rfl
/-- The body's seventh array of ones and zeros marks the seventh round's choice. -/
theorem h6 : k0_pay75 numW (rounds s 4) = hot (rounds s 6) := by unfold k0_pay75; rw [c6]; rfl
/-- The body's eighth array of ones and zeros marks the eighth round's choice. -/
theorem h7 : k0_pay80 (F := F) numW (k0_pay77 numW (rounds s 4)) k0_pay78 = hot (rounds s 7) := by unfold k0_pay80; rw [c7]; rfl
/-- The body's ninth array of ones and zeros marks the ninth round's choice. -/
theorem h8 : k0_pay81 numW (rounds s 7) (k0_pay77 numW (rounds s 4)) k0_pay78 = hot (rounds s 8) := by unfold k0_pay81; rw [c7]; rfl
end rounds

/-- The offsets written out are zero on each axis. -/
theorem hz : (![0, 0] : Fin 2 → Nat) = fun _ => 0 := funext fun a => by fin_cases a <;> rfl

section near
variable (w0 w1 w2 w3 w4 w5 w6 w7 w8 : FVec F S16x256 .f32) (g0 g1 g2 g3 g4 g5 g6 g7 g8 : FVec F S32x2048 .f32)
/-- The body's nearest-neighbour layer of the first image is that image's layer. -/
theorem n0 (v : FVec F S32x2048 .f32) (z : IVec S32x2048 1) (y : IVec S32x2048 32) : k0_pay82 numW w0 w1 w2 w3 w4 w5 w6 w7 w8 g0 g1 g2 g3 g4 g5 g6 v z y
    = nearT 0 0 slices_S16x256_o0_0_S16x32 slices_S32x2048_o0_0_S32x256 w0 w1 w2 w3 w4 w5 w6 w7 w8 g0 g1 g2 g3 g4 g5 g6 (k0_pay80 numW z y) (k0_pay81 numW v z y) := rfl
/-- The body's nearest-neighbour layer of the second image is that image's layer. -/
theorem n1 : k0_pay86 g2 g3 g4 g5 g6 g7 g8 (k0_pay83 w0 w1 w2 w3 w4 w5 w6 w7 w8) (k0_pay84 g0) (k0_pay85 g1) = nearT 32 256 slices_S16x256_o0_32_S16x32 slices_S32x2048_o0_256_S32x256 w0 w1 w2 w3 w4 w5 w6 w7 w8 g0 g1 g2 g3 g4 g5 g6 g7 g8 := rfl
/-- The body's nearest-neighbour layer of the third image is that image's layer. -/
theorem n2 : k0_pay87 w0 w1 w2 w3 w4 w5 w6 w7 w8 g0 g1 g2 g3 g4 g5 g6 g7 g8 = nearT 64 512 slices_S16x256_o0_64_S16x32 slices_S32x2048_o0_512_S32x256 w0 w1 w2 w3 w4 w5 w6 w7 w8 g0 g1 g2 g3 g4 g5 g6 g7 g8 := rfl
/-- The body's nearest-neighbour layer of the fourth image is that image's layer. -/
theorem n3 : k0_pay88 w0 w1 w2 w3 w4 w5 w6 w7 w8 g0 g1 g2 g3 g4 g5 g6 g7 g8 = nearT 96 768 slices_S16x256_o0_96_S16x32 slices_S32x2048_o0_768_S32x256 w0 w1 w2 w3 w4 w5 w6 w7 w8 g0 g1 g2 g3 g4 g5 g6 g7 g8 := rfl
/-- The body's nearest-neighbour layer of the fifth image is that image's layer. -/
theorem n4 : k0_pay95 w6 w7 w8 g0 g1 g2 g3 g4 g5 g6 g7 g8 (k0_pay89 w0) (k0_pay90 w1) (k0_pay91 w2) (k0_pay92 w3) (k0_pay93 w4) (k0_pay94 w5) = nearT 128 1024 slices_S16x256_o0_128_S16x32 slices_S32x2048_o0_1024_S32x256 w0 w1 w2 w3 w4 w5 w6 w7 w8 g0 g1 g2 g3 g4 g5 g6 g7 g8 := rfl
/-- The body's nearest-neighbour layer of the sixth image is that image's layer. -/
theorem n5 : k0_pay96 w0 w1 w2 w3 w4 w5 w6 w7 w8 g0 g1 g2 g3 g4 g5 g6 g7 g8 = nearT 160 1280 slices_S16x256_o0_160_S16x32 slices_S32x2048_o0_1280_S32x256 w0 w1 w2 w3 w4 w5 w6 w7 w8 g0 g1 g2 g3 g4 g5 g6 g7 g8 := rfl
/-- The body's nearest-neighbour layer of the seventh image is that image's layer. -/
theorem n6 : k0_pay97 w0 w1 w2 w3 w4 w5 w6 w7 w8 g0 g1 g2 g3 g4 g5 g6 g7 g8 = nearT 192 1536 slices_S16x256_o0_192_S16x32 slices_S32x2048_o0_1536_S32x256 w0 w1 w2 w3 w4 w5 w6 w7 w8 g0 g1 g2 g3 g4 g5 g6 g7 g8 := rfl
/-- The body's nearest-neighbour layer of the eighth image is that image's layer. -/
theorem n7 : k0_pay99 g0 g1 g2 g3 g4 g5 g6 g7 g8 (k0_pay98 w0 w1 w2 w3 w4 w5 w6 w7 w8) = nearT 224 1792 slices_S16x256_o0_224_S16x32 slices_S32x2048_o0_1792_S32x256 w0 w1 w2 w3 w4 w5 w6 w7 w8 g0 g1 g2 g3 g4 g5 g6 g7 g8 := rfl
end near

section out
variable (x0 : Vec F S12x2048 .f32) (x1 : Vec F S256x12 .f32) (x2 : Vec F S12x256 .f32) (x3 : Vec F S16x108 .f32) (x4 : Vec F S16x1 .f32)
  (x5 : Vec F S16x108 .f32) (x6 : Vec F S16x1 .f32) (x7 : Vec F S64x32 .f32) (x8 : Vec F S64x1 .f32)
/-- The body loads the images' block whole. -/
theorem a101 : k0_pay101 x0 x1 x2 x3 x4 x5 x6 x7 x8 = x0 := by
  unfold k0_pay101
  rw [View.ld_unit_zero (S := S12x2048) hz]
  exact cast_eq x0
/-- The body's candidate numbers are the candidates' numbers. -/
theorem a108 : k0_pay108 x0 x1 x2 x3 x4 x5 x6 x7 x8 = numW := rfl
/-- The body's nearness of the candidates, from its own blocks. -/
theorem a109 : k0_pay109 x0 x1 x2 x3 x4 x5 x6 x7 x8 = simsT x0 x1 := by
  unfold k0_pay109 k0_pay105 k0_pay106
  rw [a101, View.ld_unit_zero (S := S256x12) hz]
  exact sims_eq x0 x1
/-- The body's weighed candidates of the first neighbour, from its own blocks. -/
theorem a110 : k0_pay110 x0 x1 x2 x3 x4 x5 x6 x7 x8 = weighed 0 slices_S16x108_o0_0_S16x12 x2 x5 := by
  unfold k0_pay110 k0_pay107
  rw [View.ld_unit_zero (S := S12x256) hz, View.ld_unit_zero (S := S16x108) hz]
  rfl
/-- The body's weighed candidates of the second neighbour, from its own blocks. -/
theorem a111 : k0_pay111 x0 x1 x2 x3 x4 x5 x6 x7 x8 = weighed 12 slices_S16x108_o0_12_S16x12 x2 x5 := by
  unfold k0_pay111 k0_pay107
  rw [View.ld_unit_zero (S := S12x256) hz, View.ld_unit_zero (S := S16x108) hz]
  rfl
/-- The body's weighed candidates of the third neighbour, from its own blocks. -/
theorem a112 : k0_pay112 x0 x1 x2 x3 x4 x5 x6 x7 x8 = weighed 24 slices_S16x108_o0_24_S16x12 x2 x5 := by
  unfold k0_pay112 k0_pay107
  rw [View.ld_unit_zero (S := S12x256) hz, View.ld_unit_zero (S := S16x108) hz]
  rfl
/-- The body's weighed candidates of the fourth neighbour, from its own blocks. -/
theorem a113 : k0_pay113 x0 x1 x2 x3 x4 x5 x6 x7 x8 = weighed 36 slices_S16x108_o0_36_S16x12 x2 x5 := by
  unfold k0_pay113 k0_pay107
  rw [View.ld_unit_zero (S := S12x256) hz, View.ld_unit_zero (S := S16x108) hz]
  rfl
/-- The body's weighed candidates of the fifth neighbour, from its own blocks. -/
theorem a114 : k0_pay114 x0 x1 x2 x3 x4 x5 x6 x7 x8 = weighed 48 slices_S16x108_o0_48_S16x12 x2 x5 := by
  unfold k0_pay114 k0_pay107
  rw [View.ld_unit_zero (S := S12x256) hz, View.ld_unit_zero (S := S16x108) hz]
  rfl
/-- The body's weighed candidates of the sixth neighbour, from its own blocks. -/
theorem a115 : k0_pay115 x0 x1 x2 x3 x4 x5 x6 x7 x8 = weighed 60 slices_S16x108_o0_60_S16x12 x2 x5 := by
  unfold k0_pay115 k0_pay107
  rw [View.ld_unit_zero (S := S12x256) hz, View.ld_unit_zero (S := S16x108) hz]
  rfl
/-- The body's weighed candidates of the seventh neighbour, from its own blocks. -/
theorem a116 : k0_pay116 x0 x1 x2 x3 x4 x5 x6 x7 x8 = weighed 72 slices_S16x108_o0_72_S16x12 x2 x5 := by
  unfold k0_pay116 k0_pay107
  rw [View.ld_unit_zero (S := S12x256) hz, View.ld_unit_zero (S := S16x108) hz]
  rfl
/-- The body's weighed candidates of the eighth neighbour, from its own blocks. -/
theorem a117 : k0_pay117 x0 x1 x2 x3 x4 x5 x6 x7 x8 = weighed 84 slices_S16x108_o0_84_S16x12 x2 x5 := by
  unfold k0_pay117 k0_pay107
  rw [View.ld_unit_zero (S := S12x256) hz, View.ld_unit_zero (S := S16x108) hz]
  rfl
/-- The body's weighed candidates of the ninth neighbour, from its own blocks. -/
theorem a118 : k0_pay118 x0 x1 x2 x3 x4 x5 x6 x7 x8 = weighed 96 slices_S16x108_o0_96_S16x12 x2 x5 := by
  unfold k0_pay118 k0_pay107
  rw [View.ld_unit_zero (S := S12x256) hz, View.ld_unit_zero (S := S16x108) hz]
  rfl
/-- The first round's choice, from the body's own blocks. -/
theorem a119 : k0_pay119 x0 x1 x2 x3 x4 x5 x6 x7 x8 = chosen (rounds (simsT x0 x1) 0) := by
  unfold k0_pay119
  rw [a109, a108, c0]
/-- The first round's marks, from the body's own blocks. -/
theorem a120 : k0_pay120 x0 x1 x2 x3 x4 x5 x6 x7 x8 = hot (rounds (simsT x0 x1) 0) := by
  unfold k0_pay120
  rw [a119, h0]
/-- The second round's marks, from the body's own blocks. -/
theorem a121 : k0_pay121 x0 x1 x2 x3 x4 x5 x6 x7 x8 = hot (rounds (simsT x0 x1) 1) := by
  unfold k0_pay121
  rw [a119, a109, a108, h1]
/-- The third round's marks, from the body's own blocks. -/
theorem a122 : k0_pay122 x0 x1 x2 x3 x4 x5 x6 x7 x8 = hot (rounds (simsT x0 x1) 2) := by
  unfold k0_pay122
  rw [a119, a109, a108, h2]
/-- The fourth round's marks, from the body's own blocks. -/
theorem a123 : k0_pay123 x0 x1 x2 x3 x4 x5 x6 x7 x8 = hot (rounds (simsT x0 x1) 3) := by
  unfold k0_pay123
  rw [a119, a109, a108, h3]
/-- The values after four rounds, from the body's own blocks. -/
theorem a124 : k0_pay124 x0 x1 x2 x3 x4 x5 x6 x7 x8 = rounds (simsT x0 x1) 4 := by
  unfold k0_pay124
  rw [a119, a109, a108, r4]
/-- The fifth round's marks, from the body's own blocks. -/
theorem a125 : k0_pay125 x0 x1 x2 x3 x4 x5 x6 x7 x8 = hot (rounds (simsT x0 x1) 4) := by
  unfold k0_pay125
  rw [a124, a108, h4]
/-- The sixth round's marks, from the body's own blocks. -/
theorem a126 : k0_pay126 x0 x1 x2 x3 x4 x5 x6 x7 x8 = hot (rounds (simsT x0 x1) 5) := by
  unfold k0_pay126
  rw [a124, a108, h5]
/-- The seventh round's marks, from the body's own blocks. -/
theorem a127 : k0_pay127 x0 x1 x2 x3 x4 x5 x6 x7 x8 = hot (rounds (simsT x0 x1) 6) := by
  unfold k0_pay127
  rw [a124, a108, h6]
/-- The values after seven rounds, from the body's own blocks. -/
theorem a128 : k0_pay128 x0 x1 x2 x3 x4 x5 x6 x7 x8 = rounds (simsT x0 x1) 7 := by
  unfold k0_pay128
  rw [a124, a108, r7]
/-- The comparison the eighth round starts from, from the body's own blocks. -/
theorem a129 : k0_pay129 x0 x1 x2 x3 x4 x5 x6 x7 x8 = k0_pay77 numW (rounds (simsT x0 x1) 4) := by
  unfold k0_pay129
  rw [a124, a108]
/-- The constant the eighth round starts from, from the body's own blocks. -/
theorem a130 : k0_pay130 x0 x1 x2 x3 x4 x5 x6 x7 x8 = k0_pay78 := rfl
/-- The eighth round's marks, from the body's own blocks. -/
theorem a131 : k0_pay131 x0 x1 x2 x3 x4 x5 x6 x7 x8 = hot (rounds (simsT x0 x1) 7) := by
  unfold k0_pay131
  rw [a129, a130, a108, h7]
/-- The ninth round's marks, from the body's own blocks. -/
theorem a132 : k0_pay132 x0 x1 x2 x3 x4 x5 x6 x7 x8 = hot (rounds (simsT x0 x1) 8) := by
  unfold k0_pay132
  rw [a128, a129, a130, a108, h8]

/-- The body's chain of convolution steps, from its own blocks, gives the convolution's result. -/
theorem conv_out : k0_pay29 x0 (k0_pay102 x0 x1 x2 x3 x4 x5 x6 x7 x8) (k0_pay103 x0 x1 x2 x3 x4 x5 x6 x7 x8) (k0_pay104 x0 x1 x2 x3 x4 x5 x6 x7 x8) (k0_pay25 (k0_pay103 x0 x1 x2 x3 x4 x5 x6 x7 x8) (k0_pay104 x0 x1 x2 x3 x4 x5 x6 x7 x8) (k0_pay20 x0 (k0_pay102 x0 x1 x2 x3 x4 x5 x6 x7 x8) (k0_pay103 x0 x1 x2 x3 x4 x5 x6 x7 x8) (k0_pay104 x0 x1 x2 x3 x4 x5 x6 x7 x8) (k0_pay17 (k0_pay103 x0 x1 x2 x3 x4 x5 x6 x7 x8) (k0_pay104 x0 x1 x2 x3 x4 x5 x6 x7 x8) (k0_pay13 x0 (k0_pay102 x0 x1 x2 x3 x4 x5 x6 x7 x8) (k0_pay103 x0 x1 x2 x3 x4 x5 x6 x7 x8) (k0_pay104 x0 x1 x2 x3 x4 x5 x6 x7 x8) (k0_pay10 (k0_pay103 x0 x1 x2 x3 x4 x5 x6 x7 x8) (k0_pay104 x0 x1 x2 x3 x4 x5 x6 x7 x8) (k0_pay6 (F := F)) (k0_pay7 x0) k0_pay8 k0_pay9) (k0_pay11 x0) (Scalar.ofBits .f32 0x00000000#32) (k0_pay12 (k0_pay102 x0 x1 x2 x3 x4 x5 x6 x7 x8) (k0_pay103 x0 x1 x2 x3 x4 x5 x6 x7 x8))) (k0_pay14 x0) (k0_pay15 (k0_pay102 x0 x1 x2 x3 x4 x5 x6 x7 x8)) (k0_pay16 (k0_pay102 x0 x1 x2 x3 x4 x5 x6 x7 x8))) (k0_pay18 (k0_pay102 x0 x1 x2 x3 x4 x5 x6 x7 x8) (k0_pay103 x0 x1 x2 x3 x4 x5 x6 x7 x8)) (k0_pay19 (F := F))) (k0_pay21 x0) (k0_pay22 (k0_pay102 x0 x1 x2 x3 x4 x5 x6 x7 x8)) (k0_pay23 (k0_pay102 x0 x1 x2 x3 x4 x5 x6 x7 x8)) k0_pay24) (k0_pay26 x0) (k0_pay27 (k0_pay102 x0 x1 x2 x3 x4 x5 x6 x7 x8) (k0_pay103 x0 x1 x2 x3 x4 x5 x6 x7 x8)) (k0_pay28 (F := F)) x4
    = convT x0 x3 x4 := by
  unfold k0_pay102 k0_pay103 k0_pay104
  rw [View.ld_unit_zero (S := S16x108) hz, taps1_eq, taps3_eq, taps4_eq, taps6_eq, taps7_eq, conv_eq]

/-- What the kernel writes is the block's result on its blocks. -/
theorem out_eq : out0_9 x0 x1 x2 x3 x4 x5 x6 x7 x8 = outT x0 x1 x2 x3 x4 x5 x6 x7 x8 := by
  unfold out0_9
  rw [View.canon_unit_zero hz]
  simp only [View.ld_unit_zero (S := S12x2048) hz, View.ld_unit_zero (S := S256x12) hz, View.ld_unit_zero (S := S12x256) hz, View.ld_unit_zero (S := S16x108) hz, View.ld_unit_zero (S := S16x1) hz, View.ld_unit_zero (S := S64x32) hz, View.ld_unit_zero (S := S64x1) hz]
  rw [a101, conv_out, a108, n0, n1, n2, n3, n4, n5, n6, n7, a128, a129, a130, h7, h8, a110, a111, a112, a113, a114, a115, a116, a117, a118, a120, a121, a122, a123, a125, a126, a127, a131, a132]
  rfl
end out

end Cert.Kernel1Ideal.Body
-- ==== Proof.Body1Conv.lean ====
/- The convolution and the candidates' nearness of the branching block's kernel, read as real numbers at one pixel of one
   image: the kernel's columns are the pixels of eight images, 256 to an image. -/
module

public import proofs.«01_k».proof.Proof.Body1
public import proofs.«01_k».proof.Proof.Block
public import proofs.«01_k».proof.Proof.Pick

@[expose] public section

noncomputable section

namespace Cert.Kernel1Ideal.Body

open Cert.Kernel1Ideal Cert.Kernel1Ideal.Gen Idealize.ShloMosaic Idealize.ShloMosaic.TcCoe Cert.Block

/-- The column that holds pixel `p` of image `s`. -/
def spot (s : Fin 8) (p : Fin 256) : Fin 2048 := ⟨256 * s.val + p.val, by omega⟩

/-- Image `s` of the eight: for each channel, its pixels by number. -/
def img (x : FVec Ideal S12x2048 .f32) (s : Fin 8) : Fin 12 → Nat → EReal := fun c => col fun p : Fin 256 => x (ix2 c (spot s p))

/-- Inside an image, its pixel is an entry of the block. -/
theorem img_eq (x : FVec Ideal S12x2048 .f32) (s : Fin 8) (c : Fin 12) (p : Nat) (hp : p < 256) :
    img x s c p = x (ix2 c (spot s ⟨p, hp⟩)) := col_eq _ _ _

/-- The convolution's weights for output channel `o`, from their row: tap by tap, the channels of a tap together. -/
def wts (W : FVec Ideal S16x108 .f32) (o : Fin 16) : Fin 12 → Nat → Nat → EReal :=
  fun c => tri fun i j => W (ix2 o ⟨(3 * i.val + j.val) * 12 + c.val, by omega⟩)

/-- The row word of a column: sixteen pixels make a row, and sixteen rows an image. -/
theorem rowW_apply (j : Fin 2048) : rowW (ix2 0 j) = BitVec.ofNat 32 (j.val / 16 % 16) := by
  pointwise [rowW, k0_pay3]
  revert j
  decide +kernel

/-- The column word of a column: sixteen pixels make a row. -/
theorem colW_apply (j : Fin 2048) : colW (ix2 0 j) = BitVec.ofNat 32 (j.val % 16) := by
  pointwise [colW, k0_pay4]
  revert j
  decide +kernel

/-- The word that says a tap stays inside the image is one exactly when its row and its column do. -/
theorem inside_apply (i j : Fin 3) (s : Fin 8) (p : Fin 256) :
    inside (BitVec.ofNat 32 (i.val + 4294967295)) (BitVec.ofNat 32 (j.val + 4294967295)) rowW colW (ix2 0 (spot s p))
      = if 1 ≤ p.val / 16 + i.val ∧ p.val / 16 + i.val < 17 ∧ 1 ≤ p.val % 16 + j.val ∧ p.val % 16 + j.val < 17 then 1#1 else 0#1 := by
  have h1 : (spot s p).val / 16 % 16 = p.val / 16 := by show (256 * s.val + p.val) / 16 % 16 = _; omega
  have h2 : (spot s p).val % 16 = p.val % 16 := by show (256 * s.val + p.val) % 16 = _; omega
  pointwise [inside]
  rw [rowW_apply, colW_apply, h1, h2]
  exact inside_word i j ⟨p.val / 16, by omega⟩ ⟨p.val % 16, by omega⟩

/-- An entry of the turned images is the entry that many columns before, around the end. -/
theorem turned_apply (r : BitVec 32) (x : FVec Ideal S12x2048 .f32) (c : Fin 12) (j : Fin 2048) :
    turned r x (ix2 c j) = x (ix2 c ⟨(j.val + 2048 - r.toNat % 2048) % 2048, Nat.mod_lt _ (by norm_num)⟩) := by
  pointwise [turned]

/-- What a tap sees at an entry: the turned images' entry where the tap stays inside, else zero. -/
theorem seen_apply (dh dw : BitVec 32) (x : FVec Ideal S12x2048 .f32) (c : Fin 12) (j : Fin 2048) :
    seen dh dw x (ix2 c j) = Scalar.select (inside dh dw rowW colW (ix2 0 j)) (x (ix2 c j)) 0 := by
  pointwise [seen]

/-- What a tap of the window sees of the turned images is what the mathematics' tap sees of the image. -/
theorem seen_eq (x y : FVec Ideal S12x2048 .f32) (i j : Fin 3)
    (hy : ∀ (c : Fin 12) (l : Fin 2048), y (ix2 c l) = x (ix2 c ⟨(l.val + 16 * i.val + j.val + 2031) % 2048, Nat.mod_lt _ (by norm_num)⟩))
    (c : Fin 12) (s : Fin 8) (p : Fin 256) :
    seen (BitVec.ofNat 32 (i.val + 4294967295)) (BitVec.ofNat 32 (j.val + 4294967295)) y (ix2 c (spot s p)) = tap (img x s c) i.val j.val p.val := by
  rw [seen_apply, inside_apply, hy]
  unfold tap
  by_cases h : 1 ≤ p.val / 16 + i.val ∧ p.val / 16 + i.val < 17 ∧ 1 ≤ p.val % 16 + j.val ∧ p.val % 16 + j.val < 17
  · rw [if_pos h, if_pos h, img_eq x s c _ (by omega)]
    show x _ = x _
    congr 2
    apply Fin.ext
    show (256 * s.val + p.val + 16 * i.val + j.val + 2031) % 2048 = 256 * s.val + (16 * (p.val / 16 + i.val - 1) + (p.val % 16 + j.val - 1))
    omega
  · rw [if_neg h, if_neg h]
    rfl

/-- A step at an entry: what was there, and the tap's weights times what it sees, added over the channels. -/
theorem step_apply (off : Nat) (hs : S16x108.Slices ![0, off] S16x12) (hoff : off + 12 ≤ 108) (Wc : FVec Ideal S16x108 .f32) (t : FVec Ideal S12x2048 .f32) (acc : FVec Ideal S16x2048 .f32)
    (o : Fin 16) (j : Fin 2048) : step off hs Wc t acc (ix2 o j) = acc (ix2 o j) + ∑ c : Fin 12, Wc (ix2 o ⟨off + c.val, by omega⟩) * t (ix2 c j) := by
  pointwise [step]

/-- A step of the convolution adds one tap's part. -/
theorem step_eq (off : Nat) (hs : S16x108.Slices ![0, off] S16x12) (Wc : FVec Ideal S16x108 .f32) (x t : FVec Ideal S12x2048 .f32) (acc : FVec Ideal S16x2048 .f32)
    (o : Fin 16) (s : Fin 8) (p : Fin 256) (i j : Fin 3) (hoff : off = (3 * i.val + j.val) * 12) (ht : ∀ c, t (ix2 c (spot s p)) = tap (img x s c) i.val j.val p.val) :
    step off hs Wc t acc (ix2 o (spot s p)) = acc (ix2 o (spot s p)) + tapSum (wts Wc o) (img x s) i.val j.val p.val := by
  rw [step_apply off hs (by omega)]
  unfold tapSum
  refine congrArg _ (Finset.sum_congr rfl fun c _ => ?_)
  rw [ht]
  unfold wts
  rw [tri_eq]
  subst hoff
  rfl

section conv
variable (x : FVec Ideal S12x2048 .f32) (Wc : FVec Ideal S16x108 .f32) (o : Fin 16) (s : Fin 8) (p : Fin 256)

/-- Before the first tap the sum is zero. -/
theorem taps0_apply : (taps0 : FVec Ideal S16x2048 .f32) (ix2 o (spot s p)) = 0 := by
  pointwise [taps0]

/-- At a pixel, the first tap adds its part of the mathematics' convolution. -/
theorem taps1_apply : taps1 x Wc (ix2 o (spot s p)) = tapSum (wts Wc o) (img x s) 0 0 p.val := by
  unfold taps1
  refine (step_eq _ _ Wc x _ _ o s p 0 0 rfl fun c => seen_eq x _ 0 0 (fun c l => ?_) c s p).trans ?_
  · rw [turned_apply]
    refine congrArg (fun l => x (ix2 c l)) (Fin.ext ?_)
    show (l.val + 2048 - 17 % 2048) % 2048 = (l.val + 16 * 0 + 0 + 2031) % 2048
    omega
  · rw [taps0_apply, zero_add]; rfl

/-- At a pixel, the second tap adds its part of the mathematics' convolution. -/
theorem taps2_apply : taps2 x Wc (ix2 o (spot s p)) = taps1 x Wc (ix2 o (spot s p)) + tapSum (wts Wc o) (img x s) 0 1 p.val := by
  unfold taps2
  refine (step_eq _ _ Wc x _ _ o s p 0 1 rfl fun c => seen_eq x _ 0 1 (fun c l => ?_) c s p).trans ?_
  · rw [turned_apply]
    refine congrArg (fun l => x (ix2 c l)) (Fin.ext ?_)
    show (l.val + 2048 - 16 % 2048) % 2048 = (l.val + 16 * 0 + 1 + 2031) % 2048
    omega
  · rfl

/-- At a pixel, the third tap adds its part of the mathematics' convolution. -/
theorem taps3_apply : taps3 x Wc (ix2 o (spot s p)) = taps2 x Wc (ix2 o (spot s p)) + tapSum (wts Wc o) (img x s) 0 2 p.val := by
  unfold taps3
  refine (step_eq _ _ Wc x _ _ o s p 0 2 rfl fun c => seen_eq x _ 0 2 (fun c l => ?_) c s p).trans ?_
  · rw [turned_apply]
    refine congrArg (fun l => x (ix2 c l)) (Fin.ext ?_)
    show (l.val + 2048 - 15 % 2048) % 2048 = (l.val + 16 * 0 + 2 + 2031) % 2048
    omega
  · rfl

/-- At a pixel, the fourth tap adds its part of the mathematics' convolution. -/
theorem taps4_apply : taps4 x Wc (ix2 o (spot s p)) = taps3 x Wc (ix2 o (spot s p)) + tapSum (wts Wc o) (img x s) 1 0 p.val := by
  unfold taps4
  refine (step_eq _ _ Wc x _ _ o s p 1 0 rfl fun c => seen_eq x _ 1 0 (fun c l => ?_) c s p).trans ?_
  · rw [turned_apply]
    refine congrArg (fun l => x (ix2 c l)) (Fin.ext ?_)
    show (l.val + 2048 - 1 % 2048) % 2048 = (l.val + 16 * 1 + 0 + 2031) % 2048
    omega
  · rfl

/-- At a pixel, the fifth tap adds its part of the mathematics' convolution. -/
theorem taps5_apply : taps5 x Wc (ix2 o (spot s p)) = taps4 x Wc (ix2 o (spot s p)) + tapSum (wts Wc o) (img x s) 1 1 p.val := by
  unfold taps5
  refine (step_eq _ _ Wc x _ _ o s p 1 1 rfl fun c => seen_eq x _ 1 1 (fun c l => ?_) c s p).trans ?_
  · refine congrArg (fun l => x (ix2 c l)) (Fin.ext ?_)
    show l.val = (l.val + 16 * 1 + 1 + 2031) % 2048
    omega
  · rfl

/-- At a pixel, the sixth tap adds its part of the mathematics' convolution. -/
theorem taps6_apply : taps6 x Wc (ix2 o (spot s p)) = taps5 x Wc (ix2 o (spot s p)) + tapSum (wts Wc o) (img x s) 1 2 p.val := by
  unfold taps6
  refine (step_eq _ _ Wc x _ _ o s p 1 2 rfl fun c => seen_eq x _ 1 2 (fun c l => ?_) c s p).trans ?_
  · rw [turned_apply]
    refine congrArg (fun l => x (ix2 c l)) (Fin.ext ?_)
    show (l.val + 2048 - 2047 % 2048) % 2048 = (l.val + 16 * 1 + 2 + 2031) % 2048
    omega
  · rfl

/-- At a pixel, the seventh tap adds its part of the mathematics' convolution. -/
theorem taps7_apply : taps7 x Wc (ix2 o (spot s p)) = taps6 x Wc (ix2 o (spot s p)) + tapSum (wts Wc o) (img x s) 2 0 p.val := by
  unfold taps7
  refine (step_eq _ _ Wc x _ _ o s p 2 0 rfl fun c => seen_eq x _ 2 0 (fun c l => ?_) c s p).trans ?_
  · rw [turned_apply]
    refine congrArg (fun l => x (ix2 c l)) (Fin.ext ?_)
    show (l.val + 2048 - 2033 % 2048) % 2048 = (l.val + 16 * 2 + 0 + 2031) % 2048
    omega
  · rfl

/-- At a pixel, the eighth tap adds its part of the mathematics' convolution. -/
theorem taps8_apply : taps8 x Wc (ix2 o (spot s p)) = taps7 x Wc (ix2 o (spot s p)) + tapSum (wts Wc o) (img x s) 2 1 p.val := by
  unfold taps8
  refine (step_eq _ _ Wc x _ _ o s p 2 1 rfl fun c => seen_eq x _ 2 1 (fun c l => ?_) c s p).trans ?_
  · rw [turned_apply]
    refine congrArg (fun l => x (ix2 c l)) (Fin.ext ?_)
    show (l.val + 2048 - 2032 % 2048) % 2048 = (l.val + 16 * 2 + 1 + 2031) % 2048
    omega
  · rfl

/-- At a pixel, the ninth tap adds its part of the mathematics' convolution. -/
theorem taps9_apply : taps9 x Wc (ix2 o (spot s p)) = taps8 x Wc (ix2 o (spot s p)) + tapSum (wts Wc o) (img x s) 2 2 p.val := by
  unfold taps9
  refine (step_eq _ _ Wc x _ _ o s p 2 2 rfl fun c => seen_eq x _ 2 2 (fun c l => ?_) c s p).trans ?_
  · rw [turned_apply]
    refine congrArg (fun l => x (ix2 c l)) (Fin.ext ?_)
    show (l.val + 2048 - 2031 % 2048) % 2048 = (l.val + 16 * 2 + 2 + 2031) % 2048
    omega
  · rfl

/-- The convolution at an entry: the nine taps' sum and the bias, or zero if that is negative. -/
theorem convT_apply (b : FVec Ideal S16x1 .f32) :
    convT x Wc b (ix2 o (spot s p)) = max (taps9 x Wc (ix2 o (spot s p)) + b (ix2 o 0)) 0 := by
  unfold convT
  rw [shapeCast_self, shapeCast_self]
  pointwise

/-- The kernel's convolution is the mathematics' at every pixel. -/
theorem convT_eq (b : FVec Ideal S16x1 .f32) : convT x Wc b (ix2 o (spot s p)) = conv (wts Wc o) (b (ix2 o 0)) (img x s) p.val := by
  rw [convT_apply, taps9_apply, taps8_apply, taps7_apply, taps6_apply, taps5_apply, taps4_apply, taps3_apply, taps2_apply, taps1_apply]
  rfl
end conv

/-- A pixel's squares added over the channels. -/
theorem squares_apply (x : FVec Ideal S12x2048 .f32) (j : Fin 2048) : squares x (ix2 0 j) = ∑ c : Fin 12, x (ix2 c j) * x (ix2 c j) := by
  pointwise [squares]

/-- The nearness of one image's candidate to one pixel, written out. -/
theorem simT_apply (oc ox : Nat) (hoc : oc + 32 ≤ 256) (hox : ox + 256 ≤ 2048) (hc : S256x12.Slices ![oc, 0] S32x12) (hx : S12x2048.Slices ![0, ox] S12x256) (hq : S1x2048.Slices ![0, ox] S1x256)
    (x : FVec Ideal S12x2048 .f32) (q : FVec Ideal S1x2048 .f32) (cd : FVec Ideal S256x12 .f32) (m : Fin 32) (p : Fin 256) :
    simT oc ox hc hx hq x q cd (ix2 m p) = 0 - (q (ix2 0 ⟨ox + p.val, by omega⟩)
      - Ideal.ofBits FTy.f32 1073741824#32 * ∑ c : Fin 12, cd (ix2 ⟨oc + m.val, by omega⟩ c) * x (ix2 c ⟨ox + p.val, by omega⟩)
      + ∑ c : Fin 12, cd (ix2 ⟨oc + m.val, by omega⟩ c) * cd (ix2 ⟨oc + m.val, by omega⟩ c)) := by
  pointwise [simT]

/-- The candidates' nearness that the kernel computes is the mathematics'. -/
theorem simT_eq (oc ox : Nat) (hc : S256x12.Slices ![oc, 0] S32x12) (hx : S12x2048.Slices ![0, ox] S12x256) (hq : S1x2048.Slices ![0, ox] S1x256)
    (x : FVec Ideal S12x2048 .f32) (cd : FVec Ideal S256x12 .f32) (s : Fin 8) (hoc : oc = 32 * s.val) (hox : ox = 256 * s.val)
    (hcd : ∀ (m : Fin 32) (c : Fin 12), cd (ix2 ⟨32 * s.val + m.val, by omega⟩ c) = img x s c (8 * m.val)) (m : Fin 32) (p : Fin 256) :
    simT oc ox hc hx hq x (squares x) cd (ix2 m p) = sim (img x s) p.val m := by
  subst hoc hox
  rw [simT_apply _ _ (by omega) (by omega), ofBits_two, zero_sub, squares_apply]
  unfold sim
  have hq : ∀ c : Fin 12, x (ix2 c ⟨256 * s.val + p.val, by omega⟩) = img x s c p.val := fun c => (img_eq x s c p.val p.isLt).symm
  simp only [hq, hcd]
  simp only [mul_comm (img x s _ (8 * m.val)) (img x s _ p.val)]

/-- Eight blocks of 256 columns beside one another, read at one column. -/
theorem beside16 (x0 x1 x2 x3 x4 x5 x6 x7 : FVec Ideal S16x256 .f32)
    (h : Shape.Concatenates [S16x256, S16x256, S16x256, S16x256, S16x256, S16x256, S16x256, S16x256] S16x2048 1)
    (o : Fin 16) (s : Fin 8) (p : Fin 256) (v : EReal)
    (h0 : s = 0 → x0 (ix2 o p) = v)
    (h1 : s = 1 → x1 (ix2 o p) = v)
    (h2 : s = 2 → x2 (ix2 o p) = v)
    (h3 : s = 3 → x3 (ix2 o p) = v)
    (h4 : s = 4 → x4 (ix2 o p) = v)
    (h5 : s = 5 → x5 (ix2 o p) = v)
    (h6 : s = 6 → x6 (ix2 o p) = v)
    (h7 : s = 7 → x7 (ix2 o p) = v)
    : concatenate S16x2048 1 [⟨S16x256, x0⟩, ⟨S16x256, x1⟩, ⟨S16x256, x2⟩, ⟨S16x256, x3⟩, ⟨S16x256, x4⟩, ⟨S16x256, x5⟩, ⟨S16x256, x6⟩, ⟨S16x256, x7⟩] h (ix2 o (spot s p)) = v := by
  pointwise
  have e : (spot s p).val = 256 * s.val + p.val := rfl
  have hs := s.isLt
  have hp := p.isLt
  by_cases a0 : (spot s p).val < 256
  · rw [dif_pos a0, ← h0 (Fin.ext (by show s.val = 0; omega))]
    refine congrArg (fun l => x0 (ix2 o l)) (Fin.ext ?_)
    show (spot s p).val = p.val
    omega
  rw [dif_neg a0]
  by_cases a1 : (spot s p).val - 256 < 256
  · rw [dif_pos a1, ← h1 (Fin.ext (by show s.val = 1; omega))]
    refine congrArg (fun l => x1 (ix2 o l)) (Fin.ext ?_)
    show (spot s p).val - 256 = p.val
    omega
  rw [dif_neg a1]
  by_cases a2 : (spot s p).val - 256 - 256 < 256
  · rw [dif_pos a2, ← h2 (Fin.ext (by show s.val = 2; omega))]
    refine congrArg (fun l => x2 (ix2 o l)) (Fin.ext ?_)
    show (spot s p).val - 256 - 256 = p.val
    omega
  rw [dif_neg a2]
  by_cases a3 : (spot s p).val - 256 - 256 - 256 < 256
  · rw [dif_pos a3, ← h3 (Fin.ext (by show s.val = 3; omega))]
    refine congrArg (fun l => x3 (ix2 o l)) (Fin.ext ?_)
    show (spot s p).val - 256 - 256 - 256 = p.val
    omega
  rw [dif_neg a3]
  by_cases a4 : (spot s p).val - 256 - 256 - 256 - 256 < 256
  · rw [dif_pos a4, ← h4 (Fin.ext (by show s.val = 4; omega))]
    refine congrArg (fun l => x4 (ix2 o l)) (Fin.ext ?_)
    show (spot s p).val - 256 - 256 - 256 - 256 = p.val
    omega
  rw [dif_neg a4]
  by_cases a5 : (spot s p).val - 256 - 256 - 256 - 256 - 256 < 256
  · rw [dif_pos a5, ← h5 (Fin.ext (by show s.val = 5; omega))]
    refine congrArg (fun l => x5 (ix2 o l)) (Fin.ext ?_)
    show (spot s p).val - 256 - 256 - 256 - 256 - 256 = p.val
    omega
  rw [dif_neg a5]
  by_cases a6 : (spot s p).val - 256 - 256 - 256 - 256 - 256 - 256 < 256
  · rw [dif_pos a6, ← h6 (Fin.ext (by show s.val = 6; omega))]
    refine congrArg (fun l => x6 (ix2 o l)) (Fin.ext ?_)
    show (spot s p).val - 256 - 256 - 256 - 256 - 256 - 256 = p.val
    omega
  rw [dif_neg a6]
  · rw [← h7 (Fin.ext (by show s.val = 7; omega))]
    refine congrArg (fun l => x7 (ix2 o l)) (Fin.ext ?_)
    show (spot s p).val - 256 - 256 - 256 - 256 - 256 - 256 - 256 = p.val
    omega
/-- Eight blocks of 256 columns beside one another, read at one column. -/
theorem beside32 (x0 x1 x2 x3 x4 x5 x6 x7 : FVec Ideal S32x256 .f32)
    (h : Shape.Concatenates [S32x256, S32x256, S32x256, S32x256, S32x256, S32x256, S32x256, S32x256] S32x2048 1)
    (o : Fin 32) (s : Fin 8) (p : Fin 256) (v : EReal)
    (h0 : s = 0 → x0 (ix2 o p) = v)
    (h1 : s = 1 → x1 (ix2 o p) = v)
    (h2 : s = 2 → x2 (ix2 o p) = v)
    (h3 : s = 3 → x3 (ix2 o p) = v)
    (h4 : s = 4 → x4 (ix2 o p) = v)
    (h5 : s = 5 → x5 (ix2 o p) = v)
    (h6 : s = 6 → x6 (ix2 o p) = v)
    (h7 : s = 7 → x7 (ix2 o p) = v)
    : concatenate S32x2048 1 [⟨S32x256, x0⟩, ⟨S32x256, x1⟩, ⟨S32x256, x2⟩, ⟨S32x256, x3⟩, ⟨S32x256, x4⟩, ⟨S32x256, x5⟩, ⟨S32x256, x6⟩, ⟨S32x256, x7⟩] h (ix2 o (spot s p)) = v := by
  pointwise
  have e : (spot s p).val = 256 * s.val + p.val := rfl
  have hs := s.isLt
  have hp := p.isLt
  by_cases a0 : (spot s p).val < 256
  · rw [dif_pos a0, ← h0 (Fin.ext (by show s.val = 0; omega))]
    refine congrArg (fun l => x0 (ix2 o l)) (Fin.ext ?_)
    show (spot s p).val = p.val
    omega
  rw [dif_neg a0]
  by_cases a1 : (spot s p).val - 256 < 256
  · rw [dif_pos a1, ← h1 (Fin.ext (by show s.val = 1; omega))]
    refine congrArg (fun l => x1 (ix2 o l)) (Fin.ext ?_)
    show (spot s p).val - 256 = p.val
    omega
  rw [dif_neg a1]
  by_cases a2 : (spot s p).val - 256 - 256 < 256
  · rw [dif_pos a2, ← h2 (Fin.ext (by show s.val = 2; omega))]
    refine congrArg (fun l => x2 (ix2 o l)) (Fin.ext ?_)
    show (spot s p).val - 256 - 256 = p.val
    omega
  rw [dif_neg a2]
  by_cases a3 : (spot s p).val - 256 - 256 - 256 < 256
  · rw [dif_pos a3, ← h3 (Fin.ext (by show s.val = 3; omega))]
    refine congrArg (fun l => x3 (ix2 o l)) (Fin.ext ?_)
    show (spot s p).val - 256 - 256 - 256 = p.val
    omega
  rw [dif_neg a3]
  by_cases a4 : (spot s p).val - 256 - 256 - 256 - 256 < 256
  · rw [dif_pos a4, ← h4 (Fin.ext (by show s.val = 4; omega))]
    refine congrArg (fun l => x4 (ix2 o l)) (Fin.ext ?_)
    show (spot s p).val - 256 - 256 - 256 - 256 = p.val
    omega
  rw [dif_neg a4]
  by_cases a5 : (spot s p).val - 256 - 256 - 256 - 256 - 256 < 256
  · rw [dif_pos a5, ← h5 (Fin.ext (by show s.val = 5; omega))]
    refine congrArg (fun l => x5 (ix2 o l)) (Fin.ext ?_)
    show (spot s p).val - 256 - 256 - 256 - 256 - 256 = p.val
    omega
  rw [dif_neg a5]
  by_cases a6 : (spot s p).val - 256 - 256 - 256 - 256 - 256 - 256 < 256
  · rw [dif_pos a6, ← h6 (Fin.ext (by show s.val = 6; omega))]
    refine congrArg (fun l => x6 (ix2 o l)) (Fin.ext ?_)
    show (spot s p).val - 256 - 256 - 256 - 256 - 256 - 256 = p.val
    omega
  rw [dif_neg a6]
  · rw [← h7 (Fin.ext (by show s.val = 7; omega))]
    refine congrArg (fun l => x7 (ix2 o l)) (Fin.ext ?_)
    show (spot s p).val - 256 - 256 - 256 - 256 - 256 - 256 - 256 = p.val
    omega

/-- The nearness the kernel computes is the mathematics' nearness, where the candidates are every eighth pixel. -/
theorem simsT_eq (x : FVec Ideal S12x2048 .f32) (cd : FVec Ideal S256x12 .f32) (s : Fin 8)
    (hcd : ∀ (m : Fin 32) (c : Fin 12), cd (ix2 ⟨32 * s.val + m.val, by omega⟩ c) = img x s c (8 * m.val)) (m : Fin 32) (p : Fin 256) :
    simsT x cd (ix2 m (spot s p)) = sim (img x s) p.val m := by
  unfold simsT
  rw [shapeCast_self]
  refine beside32 _ _ _ _ _ _ _ _ _ m s p _ ?_ ?_ ?_ ?_ ?_ ?_ ?_ ?_
  · rintro rfl; exact simT_eq _ _ _ _ _ x cd 0 rfl rfl hcd m p
  · rintro rfl; exact simT_eq _ _ _ _ _ x cd 1 rfl rfl hcd m p
  · rintro rfl; exact simT_eq _ _ _ _ _ x cd 2 rfl rfl hcd m p
  · rintro rfl; exact simT_eq _ _ _ _ _ x cd 3 rfl rfl hcd m p
  · rintro rfl; exact simT_eq _ _ _ _ _ x cd 4 rfl rfl hcd m p
  · rintro rfl; exact simT_eq _ _ _ _ _ x cd 5 rfl rfl hcd m p
  · rintro rfl; exact simT_eq _ _ _ _ _ x cd 6 rfl rfl hcd m p
  · rintro rfl; exact simT_eq _ _ _ _ _ x cd 7 rfl rfl hcd m p

end Cert.Kernel1Ideal.Body
-- ==== Proof.Body1Near.lean ====
/- The nearest-neighbour layer of the branching block's kernel and its last linear map, read as real numbers at one pixel of one
   image, and with them the block's whole result. -/
module

public import proofs.«01_k».proof.Proof.Body1Conv

@[expose] public section

noncomputable section

namespace Cert.Kernel1Ideal.Body

open Cert.Kernel1Ideal Cert.Kernel1Ideal.Gen Idealize.ShloMosaic Idealize.ShloMosaic.TcCoe Cert.Block

/-- The mark of a round stands at the first greatest value of each column and nowhere else. -/
theorem chosen_apply (s : FVec Ideal S32x2048 .f32) (m : Fin 32) (j : Fin 2048) :
    chosen s (ix2 m j) = if m = first (fun k => s (ix2 k j)) then 1#1 else 0#1 := by
  pointwise [chosen, numW]
  rw [ofBits_least]
  exact pick_word (fun k => s (ix2 k j)) m

/-- An entry after a round: the least value where it was chosen, else as it was. -/
theorem struck_apply (s : FVec Ideal S32x2048 .f32) (m : Fin 32) (j : Fin 2048) :
    struck s (ix2 m j) = Scalar.select (chosen s (ix2 m j)) (Ideal.ofBits .f32 0xFF800000#32) (s (ix2 m j)) := by
  pointwise [struck]

/-- What is left after `k` rounds is what the mathematics leaves. -/
theorem rounds_apply (s : FVec Ideal S32x2048 .f32) (j : Fin 2048) (k : Nat) : ∀ m : Fin 32, rounds s k (ix2 m j) = left (fun i => s (ix2 i j)) k m := by
  induction k with
  | zero => exact fun _ => rfl
  | succ k ih =>
    intro m
    show struck (rounds s k) (ix2 m j) = strike (left (fun i => s (ix2 i j)) k) m
    rw [struck_apply, chosen_apply, ofBits_least, ih m, show (fun i => rounds s k (ix2 i j)) = left (fun i => s (ix2 i j)) k from funext ih]
    unfold strike
    by_cases h : m = first (left (fun i => s (ix2 i j)) k)
    · rw [if_pos h, if_pos h]; rfl
    · rw [if_neg h, if_neg h]; rfl

/-- The number of a mark: one where it stands, zero elsewhere. -/
theorem hot_word (s : FVec Ideal S32x2048 .f32) (m : Fin 32) (j : Fin 2048) :
    hot s (ix2 m j) = if chosen s (ix2 m j) = 1#1 then 1 else 0 := by
  show ((((chosen s (ix2 m j)).setWidth 32).toInt : ℝ) : EReal) = _
  rcases BitVec.eq_zero_or_eq_one (chosen s (ix2 m j)) with h | h <;> rw [h] <;> simp

/-- The `k`-th round marks the `k`-th nearest candidate alone. -/
theorem hot_apply (s : FVec Ideal S32x2048 .f32) (j : Fin 2048) (k : Nat) (m : Fin 32) :
    hot (rounds s k) (ix2 m j) = if m = best (fun i => s (ix2 i j)) k then 1 else 0 := by
  rw [hot_word, chosen_apply, show (fun i => rounds s k (ix2 i j)) = left (fun i => s (ix2 i j)) k from funext (rounds_apply s j k)]
  unfold best
  by_cases h : m = first (left (fun i => s (ix2 i j)) k)
  · rw [if_pos h, if_pos h, if_pos rfl]
  · rw [if_neg h, if_neg h, if_neg (by decide)]

/-- A weighed candidate: the weights times the candidate, added over the channels. -/
theorem weighed_apply (off : Nat) (hs : S16x108.Slices ![0, off] S16x12) (hoff : off + 12 ≤ 108) (ct : FVec Ideal S12x256 .f32) (Wn : FVec Ideal S16x108 .f32) (o : Fin 16) (l : Fin 256) :
    weighed off hs ct Wn (ix2 o l) = ∑ c : Fin 12, Wn (ix2 o ⟨off + c.val, by omega⟩) * ct (ix2 c l) := by
  pointwise [weighed]

/-- Position `m` of block `k` of nine blocks of 32. -/
def tile (k : Fin 9) (m : Fin 32) : Fin 288 := ⟨k.val * 32 + m.val, by omega⟩

/-- Nine blocks of 32 columns beside one another, read at column `m` of block `k`. -/
theorem nine_beside (x0 x1 x2 x3 x4 x5 x6 x7 x8 : FVec Ideal S16x32 .f32)
    (h : Shape.Concatenates [S16x32, S16x32, S16x32, S16x32, S16x32, S16x32, S16x32, S16x32, S16x32] S16x288 1) (o : Fin 16) (k : Fin 9) (m : Fin 32) (v : EReal)
    (h0 : k = 0 → x0 (ix2 o m) = v)
    (h1 : k = 1 → x1 (ix2 o m) = v)
    (h2 : k = 2 → x2 (ix2 o m) = v)
    (h3 : k = 3 → x3 (ix2 o m) = v)
    (h4 : k = 4 → x4 (ix2 o m) = v)
    (h5 : k = 5 → x5 (ix2 o m) = v)
    (h6 : k = 6 → x6 (ix2 o m) = v)
    (h7 : k = 7 → x7 (ix2 o m) = v)
    (h8 : k = 8 → x8 (ix2 o m) = v)
    : concatenate S16x288 1 [⟨S16x32, x0⟩, ⟨S16x32, x1⟩, ⟨S16x32, x2⟩, ⟨S16x32, x3⟩, ⟨S16x32, x4⟩, ⟨S16x32, x5⟩, ⟨S16x32, x6⟩, ⟨S16x32, x7⟩, ⟨S16x32, x8⟩] h (ix2 o (tile k m)) = v := by
  pointwise
  have e : (tile k m).val = k.val * 32 + m.val := rfl
  have hk := k.isLt
  have hm := m.isLt
  by_cases a0 : (tile k m).val < 32
  · rw [dif_pos a0, ← h0 (Fin.ext (by show k.val = 0; omega))]
    refine congrArg (fun l => x0 (ix2 o l)) (Fin.ext ?_)
    show (tile k m).val = m.val
    omega
  rw [dif_neg a0]
  by_cases a1 : (tile k m).val - 32 < 32
  · rw [dif_pos a1, ← h1 (Fin.ext (by show k.val = 1; omega))]
    refine congrArg (fun l => x1 (ix2 o l)) (Fin.ext ?_)
    show (tile k m).val - 32 = m.val
    omega
  rw [dif_neg a1]
  by_cases a2 : (tile k m).val - 32 - 32 < 32
  · rw [dif_pos a2, ← h2 (Fin.ext (by show k.val = 2; omega))]
    refine congrArg (fun l => x2 (ix2 o l)) (Fin.ext ?_)
    show (tile k m).val - 32 - 32 = m.val
    omega
  rw [dif_neg a2]
  by_cases a3 : (tile k m).val - 32 - 32 - 32 < 32
  · rw [dif_pos a3, ← h3 (Fin.ext (by show k.val = 3; omega))]
    refine congrArg (fun l => x3 (ix2 o l)) (Fin.ext ?_)
    show (tile k m).val - 32 - 32 - 32 = m.val
    omega
  rw [dif_neg a3]
  by_cases a4 : (tile k m).val - 32 - 32 - 32 - 32 < 32
  · rw [dif_pos a4, ← h4 (Fin.ext (by show k.val = 4; omega))]
    refine congrArg (fun l => x4 (ix2 o l)) (Fin.ext ?_)
    show (tile k m).val - 32 - 32 - 32 - 32 = m.val
    omega
  rw [dif_neg a4]
  by_cases a5 : (tile k m).val - 32 - 32 - 32 - 32 - 32 < 32
  · rw [dif_pos a5, ← h5 (Fin.ext (by show k.val = 5; omega))]
    refine congrArg (fun l => x5 (ix2 o l)) (Fin.ext ?_)
    show (tile k m).val - 32 - 32 - 32 - 32 - 32 = m.val
    omega
  rw [dif_neg a5]
  by_cases a6 : (tile k m).val - 32 - 32 - 32 - 32 - 32 - 32 < 32
  · rw [dif_pos a6, ← h6 (Fin.ext (by show k.val = 6; omega))]
    refine congrArg (fun l => x6 (ix2 o l)) (Fin.ext ?_)
    show (tile k m).val - 32 - 32 - 32 - 32 - 32 - 32 = m.val
    omega
  rw [dif_neg a6]
  by_cases a7 : (tile k m).val - 32 - 32 - 32 - 32 - 32 - 32 - 32 < 32
  · rw [dif_pos a7, ← h7 (Fin.ext (by show k.val = 7; omega))]
    refine congrArg (fun l => x7 (ix2 o l)) (Fin.ext ?_)
    show (tile k m).val - 32 - 32 - 32 - 32 - 32 - 32 - 32 = m.val
    omega
  rw [dif_neg a7]
  · rw [← h8 (Fin.ext (by show k.val = 8; omega))]
    refine congrArg (fun l => x8 (ix2 o l)) (Fin.ext ?_)
    show (tile k m).val - 32 - 32 - 32 - 32 - 32 - 32 - 32 - 32 = m.val
    omega

/-- Nine blocks of 32 rows over one another, read at row `m` of block `k`. -/
theorem nine_over (x0 x1 x2 x3 x4 x5 x6 x7 x8 : FVec Ideal S32x256 .f32)
    (h : Shape.Concatenates [S32x256, S32x256, S32x256, S32x256, S32x256, S32x256, S32x256, S32x256, S32x256] S288x256 0) (p : Fin 256) (k : Fin 9) (m : Fin 32) (v : EReal)
    (h0 : k = 0 → x0 (ix2 m p) = v)
    (h1 : k = 1 → x1 (ix2 m p) = v)
    (h2 : k = 2 → x2 (ix2 m p) = v)
    (h3 : k = 3 → x3 (ix2 m p) = v)
    (h4 : k = 4 → x4 (ix2 m p) = v)
    (h5 : k = 5 → x5 (ix2 m p) = v)
    (h6 : k = 6 → x6 (ix2 m p) = v)
    (h7 : k = 7 → x7 (ix2 m p) = v)
    (h8 : k = 8 → x8 (ix2 m p) = v)
    : concatenate S288x256 0 [⟨S32x256, x0⟩, ⟨S32x256, x1⟩, ⟨S32x256, x2⟩, ⟨S32x256, x3⟩, ⟨S32x256, x4⟩, ⟨S32x256, x5⟩, ⟨S32x256, x6⟩, ⟨S32x256, x7⟩, ⟨S32x256, x8⟩] h (ix2 (tile k m) p) = v := by
  pointwise
  have e : (tile k m).val = k.val * 32 + m.val := rfl
  have hk := k.isLt
  have hm := m.isLt
  by_cases a0 : (tile k m).val < 32
  · rw [dif_pos a0, ← h0 (Fin.ext (by show k.val = 0; omega))]
    refine congrArg (fun l => x0 (ix2 l p)) (Fin.ext ?_)
    show (tile k m).val = m.val
    omega
  rw [dif_neg a0]
  by_cases a1 : (tile k m).val - 32 < 32
  · rw [dif_pos a1, ← h1 (Fin.ext (by show k.val = 1; omega))]
    refine congrArg (fun l => x1 (ix2 l p)) (Fin.ext ?_)
    show (tile k m).val - 32 = m.val
    omega
  rw [dif_neg a1]
  by_cases a2 : (tile k m).val - 32 - 32 < 32
  · rw [dif_pos a2, ← h2 (Fin.ext (by show k.val = 2; omega))]
    refine congrArg (fun l => x2 (ix2 l p)) (Fin.ext ?_)
    show (tile k m).val - 32 - 32 = m.val
    omega
  rw [dif_neg a2]
  by_cases a3 : (tile k m).val - 32 - 32 - 32 < 32
  · rw [dif_pos a3, ← h3 (Fin.ext (by show k.val = 3; omega))]
    refine congrArg (fun l => x3 (ix2 l p)) (Fin.ext ?_)
    show (tile k m).val - 32 - 32 - 32 = m.val
    omega
  rw [dif_neg a3]
  by_cases a4 : (tile k m).val - 32 - 32 - 32 - 32 < 32
  · rw [dif_pos a4, ← h4 (Fin.ext (by show k.val = 4; omega))]
    refine congrArg (fun l => x4 (ix2 l p)) (Fin.ext ?_)
    show (tile k m).val - 32 - 32 - 32 - 32 = m.val
    omega
  rw [dif_neg a4]
  by_cases a5 : (tile k m).val - 32 - 32 - 32 - 32 - 32 < 32
  · rw [dif_pos a5, ← h5 (Fin.ext (by show k.val = 5; omega))]
    refine congrArg (fun l => x5 (ix2 l p)) (Fin.ext ?_)
    show (tile k m).val - 32 - 32 - 32 - 32 - 32 = m.val
    omega
  rw [dif_neg a5]
  by_cases a6 : (tile k m).val - 32 - 32 - 32 - 32 - 32 - 32 < 32
  · rw [dif_pos a6, ← h6 (Fin.ext (by show k.val = 6; omega))]
    refine congrArg (fun l => x6 (ix2 l p)) (Fin.ext ?_)
    show (tile k m).val - 32 - 32 - 32 - 32 - 32 - 32 = m.val
    omega
  rw [dif_neg a6]
  by_cases a7 : (tile k m).val - 32 - 32 - 32 - 32 - 32 - 32 - 32 < 32
  · rw [dif_pos a7, ← h7 (Fin.ext (by show k.val = 7; omega))]
    refine congrArg (fun l => x7 (ix2 l p)) (Fin.ext ?_)
    show (tile k m).val - 32 - 32 - 32 - 32 - 32 - 32 - 32 = m.val
    omega
  rw [dif_neg a7]
  · rw [← h8 (Fin.ext (by show k.val = 8; omega))]
    refine congrArg (fun l => x8 (ix2 l p)) (Fin.ext ?_)
    show (tile k m).val - 32 - 32 - 32 - 32 - 32 - 32 - 32 - 32 = m.val
    omega

/-- An entry of the product of the weighed candidates with the marks. -/
theorem product_apply (L : FVec Ideal S16x288 .f32) (R : FVec Ideal S288x256 .f32) (o : Fin 16) (p : Fin 256) :
    matmul dot_S16x288_S288x256_S16x256_1_0_0_1_n_n (some .fp32) L R (constant S16x256 .f32 0x00000000#32) (ix2 o p) = ∑ l : Fin 288, L (ix2 o l) * R (ix2 l p) := by
  pointwise

/-- An entry of one image's part of the weighed candidates. -/
theorem cut_left (oc : Nat) (hoc : oc + 32 ≤ 256) (hc : S16x256.Slices ![0, oc] S16x32) (w : FVec Ideal S16x256 .f32) (o : Fin 16) (m : Fin 32) :
    extractStridedSlice S16x32 ![0, oc] w hc (ix2 o m) = w (ix2 o ⟨oc + m.val, by omega⟩) := by
  pointwise

/-- An entry of one image's part of the marks. -/
theorem cut_right (ox : Nat) (hox : ox + 256 ≤ 2048) (hx : S32x2048.Slices ![0, ox] S32x256) (h : FVec Ideal S32x2048 .f32) (m : Fin 32) (p : Fin 256) :
    extractStridedSlice S32x256 ![0, ox] h hx (ix2 m p) = h (ix2 m ⟨ox + p.val, by omega⟩) := by
  pointwise

/-- The neighbours' layer of one image: over the nine rounds and the candidates, the weighed candidate where the round marks it. -/
theorem nearT_apply (oc ox : Nat) (hoc : oc + 32 ≤ 256) (hox : ox + 256 ≤ 2048) (hc : S16x256.Slices ![0, oc] S16x32) (hx : S32x2048.Slices ![0, ox] S32x256)
    (W : Fin 9 → FVec Ideal S16x256 .f32) (H : Fin 9 → FVec Ideal S32x2048 .f32) (o : Fin 16) (p : Fin 256) :
    nearT oc ox hc hx (W 0) (W 1) (W 2) (W 3) (W 4) (W 5) (W 6) (W 7) (W 8) (H 0) (H 1) (H 2) (H 3) (H 4) (H 5) (H 6) (H 7) (H 8) (ix2 o p)
      = ∑ k : Fin 9, ∑ m : Fin 32, W k (ix2 o ⟨oc + m.val, by omega⟩) * H k (ix2 m ⟨ox + p.val, by omega⟩) := by
  unfold nearT
  rw [product_apply, Fin.sum_univ_tiles 9 32 rfl]
  refine Finset.sum_congr rfl fun k _ => Finset.sum_congr rfl fun m _ => congrArg₂ (· * ·) ?_ ?_
  · exact nine_beside _ _ _ _ _ _ _ _ _ _ o k m _ (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m) (fun e => by rw [e]; exact cut_left oc hoc hc _ o m)
  · exact nine_over _ _ _ _ _ _ _ _ _ _ p k m _ (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p) (fun e => by rw [e]; exact cut_right ox hox hx _ m p)

/-- The neighbours' weights for output channel `o`, from their row: neighbour by neighbour, the channels of one together. -/
def nwts (W : FVec Ideal S16x108 .f32) (o : Fin 16) : Fin 9 → Fin 12 → EReal :=
  fun k c => W (ix2 o ⟨12 * k.val + c.val, by omega⟩)

/-- Each neighbour's weights lie within the weights' rows. -/
theorem nslices (k : Fin 9) : S16x108.Slices ![0, 12 * k.val] S16x12 := by
  fin_cases k
  · exact slices_S16x108_o0_0_S16x12
  · exact slices_S16x108_o0_12_S16x12
  · exact slices_S16x108_o0_24_S16x12
  · exact slices_S16x108_o0_36_S16x12
  · exact slices_S16x108_o0_48_S16x12
  · exact slices_S16x108_o0_60_S16x12
  · exact slices_S16x108_o0_72_S16x12
  · exact slices_S16x108_o0_84_S16x12
  · exact slices_S16x108_o0_96_S16x12

/-- The neighbours' layer of image `s`: the candidates the rounds chose, with the weights of their rounds. -/
theorem nearT_eq (oc ox : Nat) (hc : S16x256.Slices ![0, oc] S16x32) (hx : S32x2048.Slices ![0, ox] S32x256)
    (g : FVec Ideal S32x2048 .f32) (x : FVec Ideal S12x2048 .f32) (ct : FVec Ideal S12x256 .f32) (Wn : FVec Ideal S16x108 .f32) (s : Fin 8) (hoc : oc = 32 * s.val) (hox : ox = 256 * s.val)
    (hct : ∀ (m : Fin 32) (c : Fin 12), ct (ix2 c ⟨32 * s.val + m.val, by omega⟩) = img x s c (8 * m.val))
    (hg : ∀ (m : Fin 32) (p : Fin 256), g (ix2 m (spot s p)) = sim (img x s) p.val m) (o : Fin 16) (p : Fin 256) :
    nearT oc ox hc hx (weighed 0 slices_S16x108_o0_0_S16x12 ct Wn) (weighed 12 slices_S16x108_o0_12_S16x12 ct Wn) (weighed 24 slices_S16x108_o0_24_S16x12 ct Wn) (weighed 36 slices_S16x108_o0_36_S16x12 ct Wn) (weighed 48 slices_S16x108_o0_48_S16x12 ct Wn) (weighed 60 slices_S16x108_o0_60_S16x12 ct Wn) (weighed 72 slices_S16x108_o0_72_S16x12 ct Wn) (weighed 84 slices_S16x108_o0_84_S16x12 ct Wn) (weighed 96 slices_S16x108_o0_96_S16x12 ct Wn) (hot (rounds g 0)) (hot (rounds g 1)) (hot (rounds g 2)) (hot (rounds g 3)) (hot (rounds g 4)) (hot (rounds g 5)) (hot (rounds g 6)) (hot (rounds g 7)) (hot (rounds g 8)) (ix2 o p)
      = ∑ k : Fin 9, ∑ c, nwts Wn o k c * img x s c (8 * (best (sim (img x s) p.val) k.val).val) := by
  subst hoc hox
  refine (nearT_apply _ _ (by omega) (by omega) hc hx (fun k => weighed (12 * k.val) (nslices k) ct Wn) (fun k => hot (rounds g k.val)) o p).trans ?_
  refine Finset.sum_congr rfl fun k _ => ?_
  have hb : (fun i => g (ix2 i ⟨256 * s.val + p.val, by omega⟩)) = sim (img x s) p.val := funext fun m => hg m p
  simp only [hot_apply, hb, mul_ite, mul_one, mul_zero, Finset.sum_ite_eq', Finset.mem_univ, if_true]
  rw [weighed_apply _ _ (by omega)]
  exact Finset.sum_congr rfl fun c _ => congrArg (_ * ·) (hct _ c)

/-- The nearest-neighbour layer at a pixel: over the nine nearest candidates, the weights times the candidate's channels. -/
theorem nearsT_eq (g : FVec Ideal S32x2048 .f32) (x : FVec Ideal S12x2048 .f32) (ct : FVec Ideal S12x256 .f32) (Wn : FVec Ideal S16x108 .f32) (s : Fin 8)
    (hct : ∀ (m : Fin 32) (c : Fin 12), ct (ix2 c ⟨32 * s.val + m.val, by omega⟩) = img x s c (8 * m.val))
    (hg : ∀ (m : Fin 32) (p : Fin 256), g (ix2 m (spot s p)) = sim (img x s) p.val m) (o : Fin 16) (p : Fin 256) :
    nearsT g ct Wn (ix2 o (spot s p)) = ∑ k : Fin 9, ∑ c, nwts Wn o k c * img x s c (8 * (best (sim (img x s) p.val) k.val).val) := by
  unfold nearsT
  refine beside16 _ _ _ _ _ _ _ _ _ o s p _ ?_ ?_ ?_ ?_ ?_ ?_ ?_ ?_
  · rintro rfl; exact nearT_eq _ _ _ _ g x ct Wn 0 rfl rfl hct hg o p
  · rintro rfl; exact nearT_eq _ _ _ _ g x ct Wn 1 rfl rfl hct hg o p
  · rintro rfl; exact nearT_eq _ _ _ _ g x ct Wn 2 rfl rfl hct hg o p
  · rintro rfl; exact nearT_eq _ _ _ _ g x ct Wn 3 rfl rfl hct hg o p
  · rintro rfl; exact nearT_eq _ _ _ _ g x ct Wn 4 rfl rfl hct hg o p
  · rintro rfl; exact nearT_eq _ _ _ _ g x ct Wn 5 rfl rfl hct hg o p
  · rintro rfl; exact nearT_eq _ _ _ _ g x ct Wn 6 rfl rfl hct hg o p
  · rintro rfl; exact nearT_eq _ _ _ _ g x ct Wn 7 rfl rfl hct hg o p

/-- An entry of the two layers over one another: the convolution's channels first, then the neighbours' with their bias, or zero if negative. -/
theorem bothT_apply (A N : FVec Ideal S16x2048 .f32) (b : FVec Ideal S16x1 .f32) (o : Fin 32) (j : Fin 2048) :
    bothT A N b (ix2 o j) = if h : o.val < 16 then A (ix2 ⟨o.val, h⟩ j) else max (N (ix2 ⟨o.val - 16, by omega⟩ j) + b (ix2 ⟨o.val - 16, by omega⟩ 0)) 0 := by
  pointwise [bothT]

/-- An entry of the linear map: the weights times the channels, and the bias, or zero if that is negative. -/
theorem mixT_apply (ab : FVec Ideal S32x2048 .f32) (W : FVec Ideal S64x32 .f32) (b : FVec Ideal S64x1 .f32) (y : Fin 64) (j : Fin 2048) :
    mixT ab W b (ix2 y j) = max ((∑ o : Fin 32, W (ix2 y o) * ab (ix2 o j)) + b (ix2 y 0)) 0 := by
  pointwise [mixT]

/-- The kernel's result on eight images, at pixel `p` of image `s`, is the mathematics' block of that image, where the candidates
    are every eighth pixel of the image. -/
theorem outT_eq (x0 : FVec Ideal S12x2048 .f32) (x1 : FVec Ideal S256x12 .f32) (x2 : FVec Ideal S12x256 .f32) (x3 : FVec Ideal S16x108 .f32) (x4 : FVec Ideal S16x1 .f32)
    (x5 : FVec Ideal S16x108 .f32) (x6 : FVec Ideal S16x1 .f32) (x7 : FVec Ideal S64x32 .f32) (x8 : FVec Ideal S64x1 .f32) (s : Fin 8)
    (hcd : ∀ (m : Fin 32) (c : Fin 12), x1 (ix2 ⟨32 * s.val + m.val, by omega⟩ c) = img x0 s c (8 * m.val))
    (hct : ∀ (m : Fin 32) (c : Fin 12), x2 (ix2 c ⟨32 * s.val + m.val, by omega⟩) = img x0 s c (8 * m.val)) (y : Fin 64) (p : Fin 256) :
    outT x0 x1 x2 x3 x4 x5 x6 x7 x8 (ix2 y (spot s p))
      = block (wts x3) (fun o => x4 (ix2 o 0)) (nwts x5) (fun o => x6 (ix2 o 0)) (fun o : Fin (2 * 16) => x7 (ix2 y o)) (x8 (ix2 y 0)) (img x0 s) p.val := by
  unfold outT
  rw [mixT_apply]
  unfold block
  refine congrArg (fun z => max (z + x8 (ix2 y 0)) 0) (Finset.sum_congr rfl fun o _ => congrArg (x7 (ix2 y o) * ·) ?_)
  rw [bothT_apply]
  unfold both
  by_cases h : o.val < 16
  · rw [dif_pos h, dif_pos h, convT_eq]
  · rw [dif_neg h, dif_neg h, nearsT_eq (simsT x0 x1) x0 x2 x5 s hct (fun m q => simsT_eq x0 x1 s hcd m q)]
    rfl

end Cert.Kernel1Ideal.Body
-- ==== Proof.Whole1.lean ====
/- The branching block's kernel on the whole of its arrays: four grid points, each on eight images, write the block's result for
   all thirty-two images, whose columns are the images' pixels, 256 to an image. -/
module

public import proofs.«01_k».proof.Proof.Body1
public import proofs.«01_k».proof.Proof.Body1Near

@[expose] public section

noncomputable section

namespace Cert.Kernel1Ideal.Whole

open Cert.Kernel1Ideal Cert.Kernel1Ideal.Gen Cert.Kernel1Ideal.Value Cert.Kernel1Ideal.Body Idealize.ShloMosaic Idealize.ShloMosaic.TcCoe Idealize.SL.Sem Cert.Block

variable (m : (ℓ : Loc nD τ sig) → Buf (Elt Ideal) ℓ) (c : Dev nD)

/-! The arguments, as arrays. -/

/-- Argument 0: the images. -/
abbrev arg0 : Vec Ideal S32x3x32x32 .f32 := m ((c : Thread nD τ).loc main_arg0)

/-- Argument 1: the convolution weights. -/
abbrev arg1 : Vec Ideal S16x12x3x3 .f32 := m ((c : Thread nD τ).loc main_arg1)

/-- Argument 2: the convolution bias. -/
abbrev arg2 : Vec Ideal S16 .f32 := m ((c : Thread nD τ).loc main_arg2)

/-- Argument 3: the neighbour weights. -/
abbrev arg3 : Vec Ideal S108x16 .f32 := m ((c : Thread nD τ).loc main_arg3)

/-- Argument 4: the neighbour bias. -/
abbrev arg4 : Vec Ideal S16 .f32 := m ((c : Thread nD τ).loc main_arg4)

/-- Argument 5: the linear weights. -/
abbrev arg5 : Vec Ideal S64x32x1x1 .f32 := m ((c : Thread nD τ).loc main_arg5)

/-- Argument 6: the linear bias. -/
abbrev arg6 : Vec Ideal S64 .f32 := m ((c : Thread nD τ).loc main_arg6)

/-- The images with each two by two square of pixels made four channels: for each channel, the pixels of all of them. -/
def imgs : Vec Ideal S12x8192 .f32 :=
  shapeCast S12x8192 (transpose S12x32x256 [1, 0, 2] (shapeCast S32x12x256 (shapeCast S32x12x16x16 (transpose S32x3x2x2x16x16 [0, 1, 3, 5, 2, 4]
    (shapeCast S32x3x16x2x16x2 (arg0 m c) shapeCasts_S32x3x32x32_S32x3x16x2x16x2) transposes_S32x3x16x2x16x2_S32x3x2x2x16x16_0_1_3_5_2_4)
    shapeCasts_S32x3x2x2x16x16_S32x12x16x16) shapeCasts_S32x12x16x16_S32x12x256) transposes_S32x12x256_S12x32x256_1_0_2) shapeCasts_S12x32x256_S12x8192

/-- The array the first call argument holds is the images as pixels in columns. -/
theorem imgs_eq : V m c main_v5 = imgs m c := by
  unfold V
  after_results
  rfl

/-- Every eighth pixel: the candidates, by channel. -/
def candT : Vec Ideal S12x1024 .f32 := Host.slice S12x1024 ![0, 0] ![1, 8] (imgs m c) slicesBy_S12x8192_S12x1024_0s1_0s8

/-- The array of candidates by channel, as the call is given it. -/
theorem candT_eq : V m c main_v10 = candT m c := by
  unfold V
  after_results
  rfl

/-- The candidates, one to a row. -/
def cand : Vec Ideal S1024x12 .f32 := transpose S1024x12 [1, 0] (candT m c) transposes_S12x1024_S1024x12_1_0

/-- The array of candidates by row, as the call is given it. -/
theorem cand_eq : V m c main_v11 = cand m c := by
  unfold V
  after_results
  rfl

/-- The convolution's weights as rows: tap by tap, the channels of a tap together. -/
def rowsC : Vec Ideal S16x108 .f32 :=
  shapeCast S16x108 (transpose S16x3x3x12 [0, 2, 3, 1] (arg1 m c) transposes_S16x12x3x3_S16x3x3x12_0_2_3_1) shapeCasts_S16x3x3x12_S16x108

/-- The convolution's weights, as the call is given them. -/
theorem rowsC_eq : V m c main_v7 = rowsC m c := by
  unfold V
  after_results
  rfl

/-- The neighbours' weights as rows. -/
def rowsN : Vec Ideal S16x108 .f32 := transpose S16x108 [1, 0] (arg3 m c) transposes_S108x16_S16x108_1_0

/-- The neighbours' weights, as the call is given them. -/
theorem rowsN_eq : V m c main_v8 = rowsN m c := by
  unfold V
  after_results
  rfl

/-- The linear map's weights as rows. -/
def rowsM : Vec Ideal S64x32 .f32 := shapeCast S64x32 (arg5 m c) shapeCasts_S64x32x1x1_S64x32

/-- The linear map's weights, as the call is given them. -/
theorem rowsM_eq : V m c main_v9 = rowsM m c := by
  unfold V
  after_results
  rfl

/-- The convolution's bias as a column. -/
def colC : Vec Ideal S16x1 .f32 := shapeCast S16x1 (arg2 m c) shapeCasts_S16_S16x1

/-- The convolution's bias, as the call is given it. -/
theorem colC_eq : V m c main_v12 = colC m c := by
  unfold V
  after_results
  rfl

/-- The neighbours' bias as a column. -/
def colN : Vec Ideal S16x1 .f32 := shapeCast S16x1 (arg4 m c) shapeCasts_S16_S16x1

/-- The neighbours' bias, as the call is given it. -/
theorem colN_eq : V m c main_v13 = colN m c := by
  unfold V
  after_results
  rfl

/-- The linear map's bias as a column. -/
def colM : Vec Ideal S64x1 .f32 := shapeCast S64x1 (arg6 m c) shapeCasts_S64_S64x1

/-- The linear map's bias, as the call is given it. -/
theorem colM_eq : V m c main_v14 = colM m c := by
  unfold V
  after_results
  rfl

/-- Candidate `r` by channel is pixel `8 r`. -/
theorem candT_apply (ch : Fin 12) (r : Fin 1024) : candT m c (ix2 ch r) = imgs m c (ix2 ch ⟨8 * r.val, by omega⟩) := by
  unfold candT
  generalize imgs m c = x
  pointwise

/-- Candidate `r` by row is pixel `8 r`. -/
theorem cand_apply (r : Fin 1024) (ch : Fin 12) : cand m c (ix2 r ch) = imgs m c (ix2 ch ⟨8 * r.val, by omega⟩) := by
  rw [← candT_apply]
  unfold cand
  generalize candT m c = x
  pointwise

/-- An entry of the convolution's rows is an entry of its weights. -/
theorem rowsC_apply (o : Fin 16) (ch : Fin 12) (i j : Fin 3) :
    rowsC m c (ix2 o ⟨(3 * i.val + j.val) * 12 + ch.val, by omega⟩) = arg1 m c (ix4 o ch i j) := by
  unfold rowsC
  generalize arg1 m c = x
  pointwise

/-- An entry of the neighbours' rows is an entry of their weights. -/
theorem rowsN_apply (o : Fin 16) (l : Fin 108) : rowsN m c (ix2 o l) = arg3 m c (ix2 l o) := by
  unfold rowsN
  generalize arg3 m c = x
  pointwise

/-- An entry of the linear map's rows is an entry of its weights. -/
theorem rowsM_apply (y : Fin 64) (o : Fin 32) : rowsM m c (ix2 y o) = arg5 m c (ix4 y o 0 0) := by
  unfold rowsM
  generalize arg5 m c = x
  pointwise

/-- An entry of the convolution's column is an entry of its bias. -/
theorem colC_apply (o : Fin 16) : colC m c (ix2 o 0) = arg2 m c (ix1 o) := by
  unfold colC
  generalize arg2 m c = x
  pointwise

/-- An entry of the neighbours' column is an entry of their bias. -/
theorem colN_apply (o : Fin 16) : colN m c (ix2 o 0) = arg4 m c (ix1 o) := by
  unfold colN
  generalize arg4 m c = x
  pointwise

/-- An entry of the linear map's column is an entry of its bias. -/
theorem colM_apply (y : Fin 64) : colM m c (ix2 y 0) = arg6 m c (ix1 y) := by
  unfold colM
  generalize arg6 m c = x
  pointwise

/-- Point `t` reads the pixels of eight images. -/
theorem iblk0 (t : Fin cfg0.N) (r : Fin 12) (l : Fin 2048) (h : 2048 * t.val + l.val < 8192) :
    (iblk m c 0 t : Vec Ideal S12x2048 .f32) (ix2 r l) = imgs m c (ix2 r ⟨2048 * t.val + l.val, h⟩) := by
  have hi : win0_0.index t 0 = 0 ∧ win0_0.index t 1 = t.val := (by decide +kernel : ∀ t : Fin grid0.N, win0_0.index t 0 = 0 ∧ win0_0.index t 1 = t.val) t
  unfold iblk
  rw [View.read_apply]
  show V m c main_v5 _ = _
  rw [imgs_eq]
  refine congrArg (imgs m c) (funext fun a => Fin.ext ?_)
  match a with
  | ⟨0, _⟩ => show win0_0.index t 0 * 12 + 1 * r.val = r.val; rw [hi.1]; omega
  | ⟨1, _⟩ => show win0_0.index t 1 * 2048 + 1 * l.val = 2048 * t.val + l.val; rw [hi.2]; omega

/-- Point `t` reads its images' candidates. -/
theorem iblk1 (t : Fin cfg0.N) (r : Fin 256) (l : Fin 12) (h : 256 * t.val + r.val < 1024) :
    (iblk m c 1 t : Vec Ideal S256x12 .f32) (ix2 r l) = cand m c (ix2 ⟨256 * t.val + r.val, h⟩ l) := by
  have hi : win0_1.index t 0 = t.val ∧ win0_1.index t 1 = 0 := (by decide +kernel : ∀ t : Fin grid0.N, win0_1.index t 0 = t.val ∧ win0_1.index t 1 = 0) t
  unfold iblk
  rw [View.read_apply]
  show V m c main_v11 _ = _
  rw [cand_eq]
  refine congrArg (cand m c) (funext fun a => Fin.ext ?_)
  match a with
  | ⟨0, _⟩ => show win0_1.index t 0 * 256 + 1 * r.val = 256 * t.val + r.val; rw [hi.1]; omega
  | ⟨1, _⟩ => show win0_1.index t 1 * 12 + 1 * l.val = l.val; rw [hi.2]; omega

/-- Point `t` reads its images' candidates by channel. -/
theorem iblk2 (t : Fin cfg0.N) (r : Fin 12) (l : Fin 256) (h : 256 * t.val + l.val < 1024) :
    (iblk m c 2 t : Vec Ideal S12x256 .f32) (ix2 r l) = candT m c (ix2 r ⟨256 * t.val + l.val, h⟩) := by
  have hi : win0_2.index t 0 = 0 ∧ win0_2.index t 1 = t.val := (by decide +kernel : ∀ t : Fin grid0.N, win0_2.index t 0 = 0 ∧ win0_2.index t 1 = t.val) t
  unfold iblk
  rw [View.read_apply]
  show V m c main_v10 _ = _
  rw [candT_eq]
  refine congrArg (candT m c) (funext fun a => Fin.ext ?_)
  match a with
  | ⟨0, _⟩ => show win0_2.index t 0 * 12 + 1 * r.val = r.val; rw [hi.1]; omega
  | ⟨1, _⟩ => show win0_2.index t 1 * 256 + 1 * l.val = 256 * t.val + l.val; rw [hi.2]; omega

/-- The convolution's weights, staged whole. -/
theorem iblk3 (t : Fin cfg0.N) (r : Fin 16) (l : Fin 108) :
    (iblk m c 3 t : Vec Ideal S16x108 .f32) (ix2 r l) = rowsC m c (ix2 r l) := by
  have hi : win0_3.index t 0 = 0 ∧ win0_3.index t 1 = 0 := (by decide +kernel : ∀ t : Fin grid0.N, win0_3.index t 0 = 0 ∧ win0_3.index t 1 = 0) t
  unfold iblk
  rw [View.read_apply]
  show V m c main_v7 _ = _
  rw [rowsC_eq]
  refine congrArg (rowsC m c) (funext fun a => Fin.ext ?_)
  match a with
  | ⟨0, _⟩ => show win0_3.index t 0 * 16 + 1 * r.val = r.val; rw [hi.1]; omega
  | ⟨1, _⟩ => show win0_3.index t 1 * 108 + 1 * l.val = l.val; rw [hi.2]; omega

/-- The convolution's bias, staged whole. -/
theorem iblk4 (t : Fin cfg0.N) (r : Fin 16) (l : Fin 1) :
    (iblk m c 4 t : Vec Ideal S16x1 .f32) (ix2 r l) = colC m c (ix2 r l) := by
  have hi : win0_4.index t 0 = 0 ∧ win0_4.index t 1 = 0 := (by decide +kernel : ∀ t : Fin grid0.N, win0_4.index t 0 = 0 ∧ win0_4.index t 1 = 0) t
  unfold iblk
  rw [View.read_apply]
  show V m c main_v12 _ = _
  rw [colC_eq]
  refine congrArg (colC m c) (funext fun a => Fin.ext ?_)
  match a with
  | ⟨0, _⟩ => show win0_4.index t 0 * 16 + 1 * r.val = r.val; rw [hi.1]; omega
  | ⟨1, _⟩ => show win0_4.index t 1 * 1 + 1 * l.val = l.val; rw [hi.2]; omega

/-- The neighbours' weights, staged whole. -/
theorem iblk5 (t : Fin cfg0.N) (r : Fin 16) (l : Fin 108) :
    (iblk m c 5 t : Vec Ideal S16x108 .f32) (ix2 r l) = rowsN m c (ix2 r l) := by
  have hi : win0_5.index t 0 = 0 ∧ win0_5.index t 1 = 0 := (by decide +kernel : ∀ t : Fin grid0.N, win0_5.index t 0 = 0 ∧ win0_5.index t 1 = 0) t
  unfold iblk
  rw [View.read_apply]
  show V m c main_v8 _ = _
  rw [rowsN_eq]
  refine congrArg (rowsN m c) (funext fun a => Fin.ext ?_)
  match a with
  | ⟨0, _⟩ => show win0_5.index t 0 * 16 + 1 * r.val = r.val; rw [hi.1]; omega
  | ⟨1, _⟩ => show win0_5.index t 1 * 108 + 1 * l.val = l.val; rw [hi.2]; omega

/-- The neighbours' bias, staged whole. -/
theorem iblk6 (t : Fin cfg0.N) (r : Fin 16) (l : Fin 1) :
    (iblk m c 6 t : Vec Ideal S16x1 .f32) (ix2 r l) = colN m c (ix2 r l) := by
  have hi : win0_6.index t 0 = 0 ∧ win0_6.index t 1 = 0 := (by decide +kernel : ∀ t : Fin grid0.N, win0_6.index t 0 = 0 ∧ win0_6.index t 1 = 0) t
  unfold iblk
  rw [View.read_apply]
  show V m c main_v13 _ = _
  rw [colN_eq]
  refine congrArg (colN m c) (funext fun a => Fin.ext ?_)
  match a with
  | ⟨0, _⟩ => show win0_6.index t 0 * 16 + 1 * r.val = r.val; rw [hi.1]; omega
  | ⟨1, _⟩ => show win0_6.index t 1 * 1 + 1 * l.val = l.val; rw [hi.2]; omega

/-- The linear map's weights, staged whole. -/
theorem iblk7 (t : Fin cfg0.N) (r : Fin 64) (l : Fin 32) :
    (iblk m c 7 t : Vec Ideal S64x32 .f32) (ix2 r l) = rowsM m c (ix2 r l) := by
  have hi : win0_7.index t 0 = 0 ∧ win0_7.index t 1 = 0 := (by decide +kernel : ∀ t : Fin grid0.N, win0_7.index t 0 = 0 ∧ win0_7.index t 1 = 0) t
  unfold iblk
  rw [View.read_apply]
  show V m c main_v9 _ = _
  rw [rowsM_eq]
  refine congrArg (rowsM m c) (funext fun a => Fin.ext ?_)
  match a with
  | ⟨0, _⟩ => show win0_7.index t 0 * 64 + 1 * r.val = r.val; rw [hi.1]; omega
  | ⟨1, _⟩ => show win0_7.index t 1 * 32 + 1 * l.val = l.val; rw [hi.2]; omega

/-- The linear map's bias, staged whole. -/
theorem iblk8 (t : Fin cfg0.N) (r : Fin 64) (l : Fin 1) :
    (iblk m c 8 t : Vec Ideal S64x1 .f32) (ix2 r l) = colM m c (ix2 r l) := by
  have hi : win0_8.index t 0 = 0 ∧ win0_8.index t 1 = 0 := (by decide +kernel : ∀ t : Fin grid0.N, win0_8.index t 0 = 0 ∧ win0_8.index t 1 = 0) t
  unfold iblk
  rw [View.read_apply]
  show V m c main_v14 _ = _
  rw [colM_eq]
  refine congrArg (colM m c) (funext fun a => Fin.ext ?_)
  match a with
  | ⟨0, _⟩ => show win0_8.index t 0 * 64 + 1 * r.val = r.val; rw [hi.1]; omega
  | ⟨1, _⟩ => show win0_8.index t 1 * 1 + 1 * l.val = l.val; rw [hi.2]; omega

/-- Image `b` of an array of thirty-two: for each channel, its pixels by number. -/
def image (x : Vec Ideal S12x8192 .f32) (b : Fin 32) : Fin 12 → Nat → EReal := fun ch => col fun p : Fin 256 => x (ix2 ch ⟨256 * b.val + p.val, by omega⟩)

/-- The result's array. -/
abbrev G : Vec Ideal S64x8192 .f32 := (dats m 0 c).arrAt 9 cfg0.N

/-- A column of the result, where it stands in the block of the point that writes it. -/
theorem G_spot (t : Fin cfg0.N) (y : Fin 64) (j : Fin 2048) (h : 2048 * t.val + j.val < 8192) :
    G m c (ix2 y ⟨2048 * t.val + j.val, h⟩)
      = out0_9 (iblk m c 0 t) (iblk m c 1 t) (iblk m c 2 t) (iblk m c 3 t) (iblk m c 4 t) (iblk m c 5 t) (iblk m c 6 t) (iblk m c 7 t) (iblk m c 8 t) (ix2 y j) := by
  have hf : (cfg0.win 9).flush t = true := (by decide +kernel : ∀ t : Fin grid0.N, win0_9.flush t = true) t
  have hi : win0_9.index t 0 = 0 ∧ win0_9.index t 1 = t.val := (by decide +kernel : ∀ t : Fin grid0.N, win0_9.index t 0 = 0 ∧ win0_9.index t 1 = t.val) t
  have hb := (blocks9 m c t hf).trans (flushed9 m c t)
  have e := congrFun hb (ix2 y j)
  rw [View.read_apply] at e
  refine Eq.trans (congrArg (G m c) (funext fun a => Fin.ext ?_)) e
  match a with
  | ⟨0, _⟩ => show y.val = win0_9.index t 0 * 64 + 1 * y.val; rw [hi.1]; omega
  | ⟨1, _⟩ => show 2048 * t.val + j.val = win0_9.index t 1 * 2048 + 1 * j.val; rw [hi.2]; omega

/-- Image `s` of grid point `t`'s block is image `8 t + s` of all. -/
theorem img_blk (t : Fin cfg0.N) (s : Fin 8) (b : Fin 32) (hb : b.val = 8 * t.val + s.val) : img (iblk m c 0 t) s = image (imgs m c) b := by
  unfold img image
  refine funext fun ch => congrArg col (funext fun p => ?_)
  rw [iblk0 m c t ch (spot s p) (by show 2048 * t.val + (256 * s.val + p.val) < 8192; omega)]
  refine congrArg (fun l => imgs m c (ix2 ch l)) (Fin.ext ?_)
  show 2048 * t.val + (256 * s.val + p.val) = 256 * b.val + p.val
  omega

/-- The result at pixel `q` of image `b`: the mathematics' block of that image, with the arguments' weights. -/
theorem result_apply (b : Fin 32) (q : Fin 256) (y : Fin 64) :
    G m c (ix2 y ⟨256 * b.val + q.val, by omega⟩)
      = block (fun (o : Fin 16) ch => tri fun i j => arg1 m c (ix4 o ch i j)) (fun o => arg2 m c (ix1 o))
          (fun o k ch => arg3 m c (ix2 ⟨12 * k.val + ch.val, by omega⟩ o)) (fun o => arg4 m c (ix1 o))
          (fun o : Fin (2 * 16) => arg5 m c (ix4 y o 0 0)) (arg6 m c (ix1 y)) (image (imgs m c) b) q.val := by
  have hN : cfg0.N = 4 := N_0
  have ht : b.val / 8 < cfg0.N := by omega
  have hg := G_spot m c ⟨b.val / 8, ht⟩ y (spot ⟨b.val % 8, by omega⟩ q) (by show 2048 * (b.val / 8) + (256 * (b.val % 8) + q.val) < 8192; omega)
  have e : (⟨256 * b.val + q.val, by omega⟩ : Fin 8192) = ⟨2048 * (b.val / 8) + (spot ⟨b.val % 8, by omega⟩ q).val, by show 2048 * (b.val / 8) + (256 * (b.val % 8) + q.val) < 8192; omega⟩ :=
    Fin.ext (by show 256 * b.val + q.val = 2048 * (b.val / 8) + (256 * (b.val % 8) + q.val); omega)
  rw [e]
  refine hg.trans ?_
  have hx := img_blk m c ⟨b.val / 8, ht⟩ ⟨b.val % 8, by omega⟩ b (by show b.val = 8 * (b.val / 8) + b.val % 8; omega)
  have h8 : ∀ (k : Fin 32) (ch : Fin 12), imgs m c (ix2 ch ⟨8 * (256 * (b.val / 8) + (32 * (b.val % 8) + k.val)), by omega⟩) = image (imgs m c) b ch (8 * k.val) := by
    intro k ch
    unfold image
    rw [col_eq _ _ (by omega)]
    refine congrArg (fun l => imgs m c (ix2 ch l)) (Fin.ext ?_)
    show 8 * (256 * (b.val / 8) + (32 * (b.val % 8) + k.val)) = 256 * b.val + 8 * k.val
    omega
  rw [out_eq, outT_eq _ _ _ _ _ _ _ _ _ ⟨b.val % 8, by omega⟩
    (fun k ch => (iblk1 m c ⟨b.val / 8, ht⟩ _ ch (by show 256 * (b.val / 8) + (32 * (b.val % 8) + k.val) < 1024; omega)).trans ((cand_apply m c _ _).trans ((h8 k ch).trans (by rw [hx]))))
    (fun k ch => (iblk2 m c ⟨b.val / 8, ht⟩ ch _ (by show 256 * (b.val / 8) + (32 * (b.val % 8) + k.val) < 1024; omega)).trans ((candT_apply m c _ _).trans ((h8 k ch).trans (by rw [hx])))), hx]
  have w3 : wts (iblk m c 3 ⟨b.val / 8, ht⟩) = fun (o : Fin 16) ch => tri fun i j => arg1 m c (ix4 o ch i j) := by
    unfold wts
    refine funext fun o => funext fun ch => congrArg tri (funext fun i => funext fun j => ?_)
    rw [iblk3, rowsC_apply]
  have w5 : nwts (iblk m c 5 ⟨b.val / 8, ht⟩) = fun (o : Fin 16) k ch => arg3 m c (ix2 ⟨12 * k.val + ch.val, by omega⟩ o) := by
    unfold nwts
    refine funext fun o => funext fun k => funext fun ch => ?_
    rw [iblk5, rowsN_apply]
  have w4 : ∀ o : Fin 16, (iblk m c 4 ⟨b.val / 8, ht⟩ : Vec Ideal S16x1 .f32) (ix2 o 0) = arg2 m c (ix1 o) := fun o => by rw [iblk4, colC_apply]
  have w6 : ∀ o : Fin 16, (iblk m c 6 ⟨b.val / 8, ht⟩ : Vec Ideal S16x1 .f32) (ix2 o 0) = arg4 m c (ix1 o) := fun o => by rw [iblk6, colN_apply]
  have w7 : ∀ o : Fin 32, (iblk m c 7 ⟨b.val / 8, ht⟩ : Vec Ideal S64x32 .f32) (ix2 y o) = arg5 m c (ix4 y o 0 0) := fun o => by rw [iblk7, rowsM_apply]
  have w8 : (iblk m c 8 ⟨b.val / 8, ht⟩ : Vec Ideal S64x1 .f32) (ix2 y 0) = arg6 m c (ix1 y) := by rw [iblk8, colM_apply]
  rw [w3, w5, w8, funext w4, funext w6, show (fun o : Fin (2 * 16) => (iblk m c 7 ⟨b.val / 8, ht⟩ : Vec Ideal S64x32 .f32) (ix2 y o)) = fun o : Fin (2 * 16) => arg5 m c (ix4 y o 0 0) from funext w7]

end Cert.Kernel1Ideal.Whole
-- ==== Proof.Ref1.lean ====
/- The branching block's reference, read as real numbers at one pixel of one image: the 3x3 convolution with its padding, the
   candidates sorted by nearness, the nine nearest gathered, and the linear map of both layers. -/
module

public import proofs.«01_k».proof.Proof.Block
public import proofs.«01_k».proof.Proof.Pick
public import proofs.«01_k».proof.Proof.Gen.Reference1Ideal.Read
public import Idealize.ShloMosaic.Lib.Pointwise
public import Idealize.ShloMosaic.Lib.ValueIdxRank6

@[expose] public section

noncomputable section

namespace Cert.Reference1Ideal.Layer

open Cert.Reference1Ideal Cert.Reference1Ideal.Gen Cert.Reference1Ideal.Read Idealize.ShloMosaic Idealize.ShloMosaic.TcCoe Idealize.ShloMosaic.PlanTiles Cert.Block

variable (x0 : (⟨S32x3x32x32, .f32⟩ : BufTy).Contents (Elt Ideal))

/-- Image `b`: for each channel, its pixels by number. -/
def pix (b : Fin 32) : Fin 12 → Nat → EReal :=
  fun ch => col fun p : Fin 256 => val_main_v2 (F := Ideal) x0 (ix4 b ch ⟨p.val / 16, by omega⟩ ⟨p.val % 16, by omega⟩)

/-- Inside an image, its pixel is an entry of the reference's images. -/
theorem pix_eq (b : Fin 32) (ch : Fin 12) (p : Nat) (hp : p < 256) :
    pix x0 b ch p = val_main_v2 (F := Ideal) x0 (ix4 b ch ⟨p / 16, by omega⟩ ⟨p % 16, by omega⟩) := col_eq _ _ hp

/-- The images with their pixels in a row, one pixel's channels together. -/
theorem pixels (b : Fin 32) (p : Fin 256) (ch : Fin 12) : val_main_v38 (F := Ideal) x0 (ix3 b p ch) = pix x0 b ch p.val := by
  rw [pix_eq x0 b ch p.val p.isLt]
  unfold val_main_v38 val_main_v37
  generalize val_main_v2 (F := Ideal) x0 = y
  pointwise

/-- The candidates are every eighth pixel. -/
theorem cands (b m : Fin 32) (ch : Fin 12) : val_main_v39 (F := Ideal) x0 (ix3 b m ch) = pix x0 b ch (8 * m.val) := by
  rw [← pixels x0 b ⟨8 * m.val, by omega⟩ ch]
  unfold val_main_v39
  generalize val_main_v38 (F := Ideal) x0 = y
  pointwise

/-- The candidates' nearness to a pixel. -/
theorem sims (b : Fin 32) (p : Fin 256) (m : Fin 32) : val_main_v53 (F := Ideal) x0 (ix3 b p m) = sim (pix x0 b) p.val m := by
  have h1 : val_main_v41 (F := Ideal) x0 (ix2 b p) = ∑ c, pix x0 b c p.val * pix x0 b c p.val := by
    simp only [← pixels]
    unfold val_main_v41 val_main_v40 val_main_cst_1
    generalize val_main_v38 (F := Ideal) x0 = y
    pointwise
  have h2 : val_main_v44 (F := Ideal) x0 (ix2 b m) = ∑ c, pix x0 b c (8 * m.val) * pix x0 b c (8 * m.val) := by
    simp only [← cands]
    unfold val_main_v44 val_main_v43 val_main_cst_2
    generalize val_main_v39 (F := Ideal) x0 = y
    pointwise
  have h3 : val_main_v46 (F := Ideal) x0 (ix3 b p m) = ∑ c, pix x0 b c p.val * pix x0 b c (8 * m.val) := by
    simp only [← cands, ← pixels]
    unfold val_main_v46
    generalize val_main_v38 (F := Ideal) x0 = y
    generalize val_main_v39 (F := Ideal) x0 = z
    pointwise
  unfold sim
  rw [← h1, ← h2, ← h3]
  unfold val_main_v53 val_main_v52 val_main_v51 val_main_v50 val_main_v49 val_main_v48 val_main_v47 val_main_v45 val_main_v42 val_main_cst_3
  generalize val_main_v41 (F := Ideal) x0 = y
  generalize val_main_v44 (F := Ideal) x0 = z
  generalize val_main_v46 (F := Ideal) x0 = w
  pointwise
  rw [ofBits_two]

/-- A row of thirty-two sorted, the greatest first, of equals the earlier first: the position a place's value came from. -/
theorem sorted_apply (s : FVec Ideal S32x256x32 .f32) (b : Fin 32) (p : Fin 256) (k : Fin 32) :
    (Host.sort2 S32x256x32 2 (fun l r : Ideal .f32 × BitVec 32 => FloatOps.cmpfTotal .gt l.1 r.1) s
        (fun i => if hd : 2 < S32x256x32.rank then iotaInDim S32x256x32 32 ⟨2, hd⟩ i else 0#32)).2 (ix3 b p k)
      = BitVec.ofNat 32 (sortedFrom (greater fun m => s (ix3 b p m)) k).val := by
  have h : (fun k k' : Fin 32 => FloatOps.cmpfTotal (F := Ideal) (φ := .f32) .gt (s (ix3 b p k)) (s (ix3 b p k')) == 1#1) = greater fun m => s (ix3 b p m) := by
    funext i j
    show (BitVec.ofBool (decide (s (ix3 b p j) < s (ix3 b p i))) == 1#1) = decide (s (ix3 b p j) < s (ix3 b p i))
    by_cases h : s (ix3 b p j) < s (ix3 b p i)
    · rw [decide_eq_true h]; rfl
    · rw [decide_eq_false h]; rfl
  have ha : ∀ j : Fin 32, Shape.Idx.along (s := S32x256x32) (ix3 b p k) (2 : Fin 3) j = ix3 b p j := fun j => by
    funext a
    match a with
    | ⟨0, _⟩ => rfl
    | ⟨1, _⟩ => rfl
    | ⟨2, _⟩ => rfl
  have hw : ∀ j : Fin 32, iotaInDim S32x256x32 32 (2 : Fin 3) (Shape.Idx.along (s := S32x256x32) (ix3 b p k) (2 : Fin 3) j) = BitVec.ofNat 32 j.val := fun j => rfl
  unfold Host.sort2
  rw [dif_pos (show 2 < S32x256x32.rank by decide)]
  show iotaInDim S32x256x32 32 (2 : Fin 3) (Shape.Idx.along (s := S32x256x32) (ix3 b p k) (2 : Fin 3) (sortedFrom (fun i j : Fin 32 =>
    FloatOps.cmpfTotal (F := Ideal) (φ := .f32) .gt (s (Shape.Idx.along (s := S32x256x32) (ix3 b p k) (2 : Fin 3) i)) (s (Shape.Idx.along (s := S32x256x32) (ix3 b p k) (2 : Fin 3) j)) == 1#1) k)) = _
  refine (hw _).trans ?_
  refine congrArg (fun f : Fin 32 → Fin 32 → Bool => BitVec.ofNat 32 (sortedFrom f k).val) (Eq.trans ?_ h)
  funext i j
  exact congrArg₂ (fun a c : S32x256x32.Idx => FloatOps.cmpfTotal (F := Ideal) (φ := .f32) .gt (s a) (s c) == 1#1) (ha i) (ha j)

/-- The positions of the nine greatest of each row of thirty-two. -/
theorem topK_apply (s : FVec Ideal S32x256x32 .f32) (b : Fin 32) (p : Fin 256) (k : Fin 9) :
    (Host.topK S32x256x9 2 (FloatOps.cmpfTotal .gt) s sliceFits_S32x256x32_S32x256x9).2 (ix3 b p k)
      = BitVec.ofNat 32 (sortedFrom (greater fun m => s (ix3 b p m)) ⟨k.val, by omega⟩).val := by
  rw [← sorted_apply]
  unfold Host.topK
  refine congrArg (Host.sort2 S32x256x32 2 (fun l r : Ideal .f32 × BitVec 32 => FloatOps.cmpfTotal .gt l.1 r.1) s
        (fun i => if hd : 2 < S32x256x32.rank then iotaInDim S32x256x32 32 ⟨2, hd⟩ i else 0#32)).2 (funext fun a => Fin.ext ?_)
  match a with
  | ⟨0, _⟩ => exact Nat.zero_add _
  | ⟨1, _⟩ => exact Nat.zero_add _
  | ⟨2, _⟩ => exact Nat.zero_add _

/-- The gather takes, for each pixel and each of its nine places, the candidate the index names, all its channels. -/
theorem gather_apply (x : FVec Ideal S32x32x12 .f32) (idx : IVec S32x256x9x1 32) (b : Fin 32) (p : Fin 256) (k : Fin 9) (ch : Fin 12) (m : Fin 32)
    (hm : idx (ix4 b p k 0) = BitVec.ofNat 32 m.val) :
    Host.gather gather_S32x32x12_S32x256x9x1_S32x256x9x12_3_1_0_0_1_3_1112 x idx (ix4 b p k ch) = x (ix3 b m ch) := by
  unfold Host.gather
  refine congrArg x (funext fun a => Fin.ext ?_)
  match a with
  | ⟨0, _⟩ =>
    show 0 + b.val + 0 = b.val
    omega
  | ⟨1, _⟩ =>
    have hsi : gather_S32x32x12_S32x256x9x1_S32x256x9x12_3_1_0_0_1_3_1112.siIdx (ix4 b p k ch) ⟨0, by decide⟩ = ix4 b p k 0 := by
      funext a
      match a with
      | ⟨0, _⟩ => rfl
      | ⟨1, _⟩ => rfl
      | ⟨2, _⟩ => rfl
      | ⟨3, _⟩ => rfl
    show min (idx (gather_S32x32x12_S32x256x9x1_S32x256x9x12_3_1_0_0_1_3_1112.siIdx (ix4 b p k ch) ⟨0, by decide⟩)).toInt.toNat 31 + 0 + 0 = m.val
    rw [hsi, hm, toInt_small _ (by omega)]
    show min m.val 31 + 0 + 0 = m.val
    omega
  | ⟨2, _⟩ =>
    show 0 + 0 + ch.val = ch.val
    omega

/-- An index that is not negative stands for itself. -/
theorem wrap_word (m : Fin 32) : Scalar.select (IntOp.cmpi .slt (BitVec.ofNat 32 m.val) 0#32) (IntOp.addi (BitVec.ofNat 32 m.val) 32#32) (BitVec.ofNat 32 m.val)
    = BitVec.ofNat 32 m.val := by
  revert m
  decide

/-- The candidate a pixel's place takes: of the nearest ones in turn. -/
theorem place (b : Fin 32) (p : Fin 256) (k : Fin 9) (hs : ∀ m, sim (pix x0 b) p.val m ≠ ⊥) :
    val_main_v59 (F := Ideal) x0 (ix4 b p k 0) = BitVec.ofNat 32 (best (sim (pix x0 b) p.val) k.val).val := by
  have h : val_main_indices (F := Ideal) x0 (ix3 b p k) = BitVec.ofNat 32 (best (sim (pix x0 b) p.val) k.val).val := by
    unfold val_main_indices
    rw [topK_apply, show (fun m => val_main_v53 (F := Ideal) x0 (ix3 b p m)) = sim (pix x0 b) p.val from funext fun m => sims x0 b p m,
      (sorted_best _ hs k.val (by omega)).1]
  rw [← wrap_word, ← h]
  unfold val_main_v59 val_main_v58 val_main_v57 val_main_v56 val_main_v55 val_main_v54 val_main_c val_main_c_4
  generalize val_main_indices (F := Ideal) x0 = y
  pointwise

/-- The images with a border of zeros, at what a tap sees. -/
theorem padded (b : Fin 32) (ch : Fin 12) (p : Fin 256) (i j : Fin 3) :
    val_main_v3 (F := Ideal) x0 (ix4 b ch ⟨p.val / 16 + i.val, by omega⟩ ⟨p.val % 16 + j.val, by omega⟩) = tap (pix x0 b ch) i.val j.val p.val := by
  unfold val_main_v3 pad tap
  by_cases h : 1 ≤ p.val / 16 + i.val ∧ p.val / 16 + i.val < 17 ∧ 1 ≤ p.val % 16 + j.val ∧ p.val % 16 + j.val < 17
  · rw [if_pos h, pix_eq x0 b ch _ (by omega), dif_pos]
    · refine congrArg (val_main_v2 (F := Ideal) x0) (funext fun a => Fin.ext ?_)
      match a with
      | ⟨0, _⟩ => show (b.val - 0) / (0 + 1) = b.val; omega
      | ⟨1, _⟩ => show (ch.val - 0) / (0 + 1) = ch.val; omega
      | ⟨2, _⟩ => show (p.val / 16 + i.val - 1) / (0 + 1) = (16 * (p.val / 16 + i.val - 1) + (p.val % 16 + j.val - 1)) / 16; omega
      | ⟨3, _⟩ => show (p.val % 16 + j.val - 1) / (0 + 1) = (16 * (p.val / 16 + i.val - 1) + (p.val % 16 + j.val - 1)) % 16; omega
    · intro a
      match a with
      | ⟨0, _⟩ => show 0 ≤ b.val ∧ (b.val - 0) % (0 + 1) = 0 ∧ (b.val - 0) / (0 + 1) < 32; omega
      | ⟨1, _⟩ => show 0 ≤ ch.val ∧ (ch.val - 0) % (0 + 1) = 0 ∧ (ch.val - 0) / (0 + 1) < 12; omega
      | ⟨2, _⟩ => show 1 ≤ p.val / 16 + i.val ∧ (p.val / 16 + i.val - 1) % (0 + 1) = 0 ∧ (p.val / 16 + i.val - 1) / (0 + 1) < 16; omega
      | ⟨3, _⟩ => show 1 ≤ p.val % 16 + j.val ∧ (p.val % 16 + j.val - 1) % (0 + 1) = 0 ∧ (p.val % 16 + j.val - 1) / (0 + 1) < 16; omega
  · rw [if_neg h, dif_neg]
    · show Ideal.ofBits .f32 0#32 = 0
      simp [Ideal.ofBits, Ideal.ieee]
    · intro hin
      have h2 : 1 ≤ p.val / 16 + i.val ∧ (p.val / 16 + i.val - 1) % (0 + 1) = 0 ∧ (p.val / 16 + i.val - 1) / (0 + 1) < 16 := hin 2
      have h3 : 1 ≤ p.val % 16 + j.val ∧ (p.val % 16 + j.val - 1) % (0 + 1) = 0 ∧ (p.val % 16 + j.val - 1) / (0 + 1) < 16 := hin 3
      omega

variable (x1 : (⟨S16x12x3x3, .f32⟩ : BufTy).Contents (Elt Ideal)) (x2 : (⟨S16, .f32⟩ : BufTy).Contents (Elt Ideal)) (x3 : (⟨S108x16, .f32⟩ : BufTy).Contents (Elt Ideal)) (x4 : (⟨S16, .f32⟩ : BufTy).Contents (Elt Ideal)) (x5 : (⟨S64x32x1x1, .f32⟩ : BufTy).Contents (Elt Ideal)) (x6 : (⟨S64, .f32⟩ : BufTy).Contents (Elt Ideal))

/-- The convolution's weights for output channel `o`. -/
abbrev wts (o : Fin 16) : Fin 12 → Nat → Nat → EReal := fun ch => tri fun i j => x1 (ix4 o ch i j)

/-- One tap's part of the convolution. -/
theorem product (b : Fin 32) (p : Fin 256) (o : Fin 16) (i j : Fin 3) (h w : Fin 18) (hh : h.val = i.val + p.val / 16) (hw : w.val = j.val + p.val % 16) :
    val_main_v4 (F := Ideal) x0 x1 (ix6 b h w o i j) = tapSum (wts x1 o) (pix x0 b) i.val j.val p.val := by
  have hi : p.val / 16 + i.val < 18 := by omega
  have hj : p.val % 16 + j.val < 18 := by omega
  obtain rfl : h = ⟨p.val / 16 + i.val, hi⟩ := Fin.ext (by rw [hh, Nat.add_comm])
  obtain rfl : w = ⟨p.val % 16 + j.val, hj⟩ := Fin.ext (by rw [hw, Nat.add_comm])
  rw [val_main_v4_apply]
  unfold tapSum
  refine Finset.sum_congr rfl fun ch _ => ?_
  rw [show wts x1 o ch i.val j.val = x1 (ix4 o ch i j) from tri_eq _ i j, ← padded x0 b ch p i j, mul_comm]
  refine congrArg₂ (· * ·) (congrArg x1 (funext fun a => ?_)) (congrArg (val_main_v3 (F := Ideal) x0) (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's first product at a pixel is that tap's part of the mathematics' convolution. -/
theorem tap0 (b : Fin 32) (p : Fin 256) (o : Fin 16) :
    val_main_v6 (F := Ideal) x0 x1 (ix4 b ⟨p.val / 16, by omega⟩ ⟨p.val % 16, by omega⟩ o) = tapSum (wts x1 o) (pix x0 b) 0 0 p.val := by
  rw [show tapSum (wts x1 o) (pix x0 b) 0 0 p.val = _ from (product x0 x1 b p o 0 0 ⟨0 + p.val / 16, by omega⟩ ⟨0 + p.val % 16, by omega⟩ rfl rfl).symm]
  unfold val_main_v6 val_main_v5
  generalize val_main_v4 (F := Ideal) x0 x1 = y
  pointwise

/-- The reference's second product at a pixel is that tap's part of the mathematics' convolution. -/
theorem tap1 (b : Fin 32) (p : Fin 256) (o : Fin 16) :
    val_main_v8 (F := Ideal) x0 x1 (ix4 b ⟨p.val / 16, by omega⟩ ⟨p.val % 16, by omega⟩ o) = tapSum (wts x1 o) (pix x0 b) 0 1 p.val := by
  rw [show tapSum (wts x1 o) (pix x0 b) 0 1 p.val = _ from (product x0 x1 b p o 0 1 ⟨0 + p.val / 16, by omega⟩ ⟨1 + p.val % 16, by omega⟩ rfl rfl).symm]
  unfold val_main_v8 val_main_v7
  generalize val_main_v4 (F := Ideal) x0 x1 = y
  pointwise

/-- The reference's third product at a pixel is that tap's part of the mathematics' convolution. -/
theorem tap2 (b : Fin 32) (p : Fin 256) (o : Fin 16) :
    val_main_v10 (F := Ideal) x0 x1 (ix4 b ⟨p.val / 16, by omega⟩ ⟨p.val % 16, by omega⟩ o) = tapSum (wts x1 o) (pix x0 b) 0 2 p.val := by
  rw [show tapSum (wts x1 o) (pix x0 b) 0 2 p.val = _ from (product x0 x1 b p o 0 2 ⟨0 + p.val / 16, by omega⟩ ⟨2 + p.val % 16, by omega⟩ rfl rfl).symm]
  unfold val_main_v10 val_main_v9
  generalize val_main_v4 (F := Ideal) x0 x1 = y
  pointwise

/-- The reference's fourth product at a pixel is that tap's part of the mathematics' convolution. -/
theorem tap3 (b : Fin 32) (p : Fin 256) (o : Fin 16) :
    val_main_v12 (F := Ideal) x0 x1 (ix4 b ⟨p.val / 16, by omega⟩ ⟨p.val % 16, by omega⟩ o) = tapSum (wts x1 o) (pix x0 b) 1 0 p.val := by
  rw [show tapSum (wts x1 o) (pix x0 b) 1 0 p.val = _ from (product x0 x1 b p o 1 0 ⟨1 + p.val / 16, by omega⟩ ⟨0 + p.val % 16, by omega⟩ rfl rfl).symm]
  unfold val_main_v12 val_main_v11
  generalize val_main_v4 (F := Ideal) x0 x1 = y
  pointwise

/-- The reference's fifth product at a pixel is that tap's part of the mathematics' convolution. -/
theorem tap4 (b : Fin 32) (p : Fin 256) (o : Fin 16) :
    val_main_v14 (F := Ideal) x0 x1 (ix4 b ⟨p.val / 16, by omega⟩ ⟨p.val % 16, by omega⟩ o) = tapSum (wts x1 o) (pix x0 b) 1 1 p.val := by
  rw [show tapSum (wts x1 o) (pix x0 b) 1 1 p.val = _ from (product x0 x1 b p o 1 1 ⟨1 + p.val / 16, by omega⟩ ⟨1 + p.val % 16, by omega⟩ rfl rfl).symm]
  unfold val_main_v14 val_main_v13
  generalize val_main_v4 (F := Ideal) x0 x1 = y
  pointwise

/-- The reference's sixth product at a pixel is that tap's part of the mathematics' convolution. -/
theorem tap5 (b : Fin 32) (p : Fin 256) (o : Fin 16) :
    val_main_v16 (F := Ideal) x0 x1 (ix4 b ⟨p.val / 16, by omega⟩ ⟨p.val % 16, by omega⟩ o) = tapSum (wts x1 o) (pix x0 b) 1 2 p.val := by
  rw [show tapSum (wts x1 o) (pix x0 b) 1 2 p.val = _ from (product x0 x1 b p o 1 2 ⟨1 + p.val / 16, by omega⟩ ⟨2 + p.val % 16, by omega⟩ rfl rfl).symm]
  unfold val_main_v16 val_main_v15
  generalize val_main_v4 (F := Ideal) x0 x1 = y
  pointwise

/-- The reference's seventh product at a pixel is that tap's part of the mathematics' convolution. -/
theorem tap6 (b : Fin 32) (p : Fin 256) (o : Fin 16) :
    val_main_v18 (F := Ideal) x0 x1 (ix4 b ⟨p.val / 16, by omega⟩ ⟨p.val % 16, by omega⟩ o) = tapSum (wts x1 o) (pix x0 b) 2 0 p.val := by
  rw [show tapSum (wts x1 o) (pix x0 b) 2 0 p.val = _ from (product x0 x1 b p o 2 0 ⟨2 + p.val / 16, by omega⟩ ⟨0 + p.val % 16, by omega⟩ rfl rfl).symm]
  unfold val_main_v18 val_main_v17
  generalize val_main_v4 (F := Ideal) x0 x1 = y
  pointwise

/-- The reference's eighth product at a pixel is that tap's part of the mathematics' convolution. -/
theorem tap7 (b : Fin 32) (p : Fin 256) (o : Fin 16) :
    val_main_v20 (F := Ideal) x0 x1 (ix4 b ⟨p.val / 16, by omega⟩ ⟨p.val % 16, by omega⟩ o) = tapSum (wts x1 o) (pix x0 b) 2 1 p.val := by
  rw [show tapSum (wts x1 o) (pix x0 b) 2 1 p.val = _ from (product x0 x1 b p o 2 1 ⟨2 + p.val / 16, by omega⟩ ⟨1 + p.val % 16, by omega⟩ rfl rfl).symm]
  unfold val_main_v20 val_main_v19
  generalize val_main_v4 (F := Ideal) x0 x1 = y
  pointwise

/-- The reference's ninth product at a pixel is that tap's part of the mathematics' convolution. -/
theorem tap8 (b : Fin 32) (p : Fin 256) (o : Fin 16) :
    val_main_v22 (F := Ideal) x0 x1 (ix4 b ⟨p.val / 16, by omega⟩ ⟨p.val % 16, by omega⟩ o) = tapSum (wts x1 o) (pix x0 b) 2 2 p.val := by
  rw [show tapSum (wts x1 o) (pix x0 b) 2 2 p.val = _ from (product x0 x1 b p o 2 2 ⟨2 + p.val / 16, by omega⟩ ⟨2 + p.val % 16, by omega⟩ rfl rfl).symm]
  unfold val_main_v22 val_main_v21
  generalize val_main_v4 (F := Ideal) x0 x1 = y
  pointwise

/-- The convolution layer's result. -/
theorem convs (b : Fin 32) (o : Fin 16) (p : Fin 256) :
    val_main_v36 (F := Ideal) x0 x1 x2 (ix4 b o ⟨p.val / 16, by omega⟩ ⟨p.val % 16, by omega⟩) = conv (wts x1 o) (x2 (ix1 o)) (pix x0 b) p.val := by
  unfold conv
  rw [← tap0, ← tap1, ← tap2, ← tap3, ← tap4, ← tap5, ← tap6, ← tap7, ← tap8]
  unfold val_main_v36 val_main_v35 val_main_v34 val_main_v33 val_main_v32 val_main_v31 val_main_v30 val_main_v29 val_main_v28 val_main_v27 val_main_v26 val_main_v25 val_main_v24 val_main_v23 val_main_cst_0
  generalize val_main_v6 (F := Ideal) x0 x1 = y0
  generalize val_main_v8 (F := Ideal) x0 x1 = y1
  generalize val_main_v10 (F := Ideal) x0 x1 = y2
  generalize val_main_v12 (F := Ideal) x0 x1 = y3
  generalize val_main_v14 (F := Ideal) x0 x1 = y4
  generalize val_main_v16 (F := Ideal) x0 x1 = y5
  generalize val_main_v18 (F := Ideal) x0 x1 = y6
  generalize val_main_v20 (F := Ideal) x0 x1 = y7
  generalize val_main_v22 (F := Ideal) x0 x1 = y8
  pointwise

/-- What the neighbour layer's nine places hold, channel by channel. -/
theorem taken (b : Fin 32) (p : Fin 256) (k : Fin 9) (ch : Fin 12) (hs : ∀ m, sim (pix x0 b) p.val m ≠ ⊥) :
    val_main_v61 (F := Ideal) x0 (ix3 b p ⟨k.val * 12 + ch.val, by omega⟩) = pix x0 b ch (8 * (best (sim (pix x0 b) p.val) k.val).val) := by
  rw [← cands, ← gather_apply (val_main_v39 (F := Ideal) x0) _ b p k ch _ (place x0 b p k hs)]
  unfold val_main_v61 val_main_v60
  generalize Host.gather gather_S32x32x12_S32x256x9x1_S32x256x9x12_3_1_0_0_1_3_1112 (val_main_v39 (F := Ideal) x0) (val_main_v59 (F := Ideal) x0) = y
  pointwise

/-- The neighbour layer's linear map. -/
theorem mapped (b : Fin 32) (p : Fin 256) (o : Fin 16) (hs : ∀ m, sim (pix x0 b) p.val m ≠ ⊥) :
    val_main_v62 (F := Ideal) x0 x3 (ix3 b p o)
      = ∑ k : Fin 9, ∑ ch : Fin 12, x3 (ix2 ⟨12 * k.val + ch.val, by omega⟩ o) * pix x0 b ch (8 * (best (sim (pix x0 b) p.val) k.val).val) := by
  rw [val_main_v62_apply, Fin.sum_univ_tiles 9 12 rfl]
  refine Finset.sum_congr rfl fun k _ => Finset.sum_congr rfl fun ch _ => ?_
  rw [← taken x0 b p k ch hs, mul_comm]
  refine congrArg₂ (· * ·) (congrArg x3 (funext fun a => ?_)) (congrArg (val_main_v61 (F := Ideal) x0) (funext fun a => ?_))
  · match a with
    | ⟨0, _⟩ => exact Fin.ext (by show k.val * 12 + ch.val = 12 * k.val + ch.val; omega)
    | ⟨1, _⟩ => rfl
  · match a with
    | ⟨0, _⟩ => rfl
    | ⟨1, _⟩ => rfl
    | ⟨2, _⟩ => rfl

/-- The neighbours' weights for output channel `o`. -/
abbrev nbrs (o : Fin 16) : Fin 9 → Fin 12 → EReal := fun k ch => x3 (ix2 ⟨12 * k.val + ch.val, by omega⟩ o)

/-- The neighbour layer's result. -/
theorem nears (b : Fin 32) (o : Fin 16) (p : Fin 256) (hs : ∀ m, sim (pix x0 b) p.val m ≠ ⊥) :
    val_main_v69 (F := Ideal) x0 x3 x4 (ix4 b o ⟨p.val / 16, by omega⟩ ⟨p.val % 16, by omega⟩) = near (nbrs x3 o) (x4 (ix1 o)) (pix x0 b) p.val := by
  unfold near
  rw [← mapped x0 x3 b p o hs]
  unfold val_main_v69 val_main_v68 val_main_v67 val_main_v66 val_main_v65 val_main_v64 val_main_v63 val_main_cst_5
  generalize val_main_v62 (F := Ideal) x0 x3 = y
  pointwise

/-- The two layers' results over one another. -/
theorem joined (b : Fin 32) (o : Fin (2 * 16)) (p : Fin 256) (hs : ∀ m, sim (pix x0 b) p.val m ≠ ⊥) :
    val_main_v70 (F := Ideal) x0 x1 x2 x3 x4 (ix4 b o ⟨p.val / 16, by omega⟩ ⟨p.val % 16, by omega⟩)
      = both (fun o => conv (wts x1 o) (x2 (ix1 o)) (pix x0 b) p.val) (fun o => near (nbrs x3 o) (x4 (ix1 o)) (pix x0 b) p.val) o := by
  have h1 := fun o => convs x0 x1 x2 b o p
  have h2 := fun o => nears x0 x3 x4 b o p hs
  unfold both
  by_cases h : o.val < 16
  · rw [dif_pos h]
    refine Eq.trans ?_ (h1 ⟨o.val, h⟩)
    unfold val_main_v70
    generalize val_main_v36 (F := Ideal) x0 x1 x2 = y
    generalize val_main_v69 (F := Ideal) x0 x3 x4 = z
    pointwise
    exact dif_pos h
  · rw [dif_neg h]
    refine Eq.trans ?_ (h2 ⟨o.val - 16, by omega⟩)
    unfold val_main_v70
    generalize val_main_v36 (F := Ideal) x0 x1 x2 = y
    generalize val_main_v69 (F := Ideal) x0 x3 x4 = z
    pointwise
    exact dif_neg h

/-- The block's linear map of both layers. -/
theorem mixed (b : Fin 32) (y : Fin 64) (p : Fin 256) (hs : ∀ m, sim (pix x0 b) p.val m ≠ ⊥) :
    val_main_v72 (F := Ideal) x0 x1 x2 x3 x4 x5 (ix4 b ⟨p.val / 16, by omega⟩ ⟨p.val % 16, by omega⟩ y)
      = ∑ o : Fin (2 * 16), x5 (ix4 y o 0 0)
          * both (fun o => conv (wts x1 o) (x2 (ix1 o)) (pix x0 b) p.val) (fun o => near (nbrs x3 o) (x4 (ix1 o)) (pix x0 b) p.val) o := by
  rw [val_main_v72_apply]
  show ∑ o : Fin (2 * 16), _ = _
  refine Finset.sum_congr rfl fun o _ => ?_
  rw [← joined x0 x1 x2 x3 x4 b o p hs, mul_comm]
  refine congrArg₂ (· * ·) ?_ (congrArg (val_main_v70 (F := Ideal) x0 x1 x2 x3 x4) (funext fun a => ?_))
  · unfold val_main_v71
    pointwise
    rfl
  · match a with
    | ⟨0, _⟩ => rfl
    | ⟨1, _⟩ => rfl
    | ⟨2, _⟩ => rfl
    | ⟨3, _⟩ => rfl

/-- The reference's result: the block of every image, whose pixels are 256 columns. -/
theorem result_apply (b : Fin 32) (y : Fin 64) (p : Fin 256) (hs : ∀ m, sim (pix x0 b) p.val m ≠ ⊥) :
    val_main_v80 (F := Ideal) x0 x1 x2 x3 x4 x5 x6 (ix2 y ⟨256 * b.val + p.val, by omega⟩)
      = block (wts x1) (fun o => x2 (ix1 o)) (nbrs x3) (fun o => x4 (ix1 o)) (fun o : Fin (2 * 16) => x5 (ix4 y o 0 0)) (x6 (ix1 y)) (pix x0 b) p.val := by
  unfold block
  rw [← mixed x0 x1 x2 x3 x4 x5 b y p hs]
  unfold val_main_v80 val_main_v79 val_main_v78 val_main_v77 val_main_v76 val_main_v75 val_main_v74 val_main_v73 val_main_cst_6
  generalize val_main_v72 (F := Ideal) x0 x1 x2 x3 x4 x5 = z
  have h1 : (256 * b.val + p.val) / 16 % 16 = p.val / 16 := by omega
  have h2 : (256 * b.val + p.val) % 16 = p.val % 16 := by omega
  pointwise
  simp only [h1, h2]

end Cert.Reference1Ideal.Layer
-- ==== Proof.Branch1.lean ====
/- The first branching block's kernel against its reference: where the pixels are real numbers, both compute the block of every
   image. -/
module

public import proofs.«01_k».proof.Defs
public import proofs.«01_k».proof.Proof.Finite
public import proofs.«01_k».proof.Proof.Whole1
public import proofs.«01_k».proof.Proof.Ref1

@[expose] public section

noncomputable section

/-- The precondition's side condition: a number broadcasts to the images' array. -/
theorem Cert.Pre_finite1.Gen.facts : Cert.Pre_finite1.Facts := ⟨by decide⟩

instance Cert.Pre_finite1.Gen.inst : Cert.Pre_finite1.Facts := Cert.Pre_finite1.Gen.facts

namespace Cert.Branch1

open Idealize.ShloMosaic Idealize.ShloMosaic.TcCoe Idealize.SL.Sem Cert.Block Cert.Reference1Ideal.Read

/-- The precondition says that every pixel is a real number. -/
theorem pixel_real (m : (ℓ : Loc Cert.Kernel1Ideal.nD Cert.Kernel1Ideal.τ Cert.Kernel1Ideal.sig) → Buf (Elt Ideal) ℓ) (h : Cert.Pre_Kernel1Ideal_finite1 m)
    (c : Dev Cert.Kernel1Ideal.nD) (i : Cert.Kernel1Ideal.S32x3x32x32.Idx) : ∃ r : ℝ, Cert.Kernel1Ideal.Whole.arg0 m c i = r :=
  real_of_finite _ (congrFun (h c) i)

/-- Moving the pixels about leaves every one a real number. -/
theorem imgs_real (m : (ℓ : Loc Cert.Kernel1Ideal.nD Cert.Kernel1Ideal.τ Cert.Kernel1Ideal.sig) → Buf (Elt Ideal) ℓ) (h : Cert.Pre_Kernel1Ideal_finite1 m)
    (c : Dev Cert.Kernel1Ideal.nD) (i : Cert.Kernel1Ideal.S12x8192.Idx) : ∃ r : ℝ, Cert.Kernel1Ideal.Whole.imgs m c i = r := by
  unfold Cert.Kernel1Ideal.Whole.imgs shapeCast transpose
  exact pixel_real m h c _

/-- The reference's image is the kernel's: both make four channels of each two by two square and number the pixels row by row. -/
theorem pix_image (m : (ℓ : Loc Cert.Kernel1Ideal.nD Cert.Kernel1Ideal.τ Cert.Kernel1Ideal.sig) → Buf (Elt Ideal) ℓ) (c : Dev Cert.Kernel1Ideal.nD) (b : Fin 32) :
    Cert.Reference1Ideal.Layer.pix (Cert.Kernel1Ideal.Whole.arg0 m c) b = Cert.Kernel1Ideal.Whole.image (Cert.Kernel1Ideal.Whole.imgs m c) b := by
  unfold Cert.Reference1Ideal.Layer.pix Cert.Kernel1Ideal.Whole.image
  refine funext fun ch => congrArg col (funext fun p => ?_)
  unfold Cert.Kernel1Ideal.Whole.imgs
  have hv : val_main_v2 (F := Ideal) (Cert.Kernel1Ideal.Whole.arg0 m c) = shapeCast Cert.Kernel1Ideal.S32x12x16x16 (transpose Cert.Kernel1Ideal.S32x3x2x2x16x16 [0, 1, 3, 5, 2, 4]
    (shapeCast Cert.Kernel1Ideal.S32x3x16x2x16x2 (Cert.Kernel1Ideal.Whole.arg0 m c) Cert.Kernel1Ideal.Gen.shapeCasts_S32x3x32x32_S32x3x16x2x16x2) Cert.Kernel1Ideal.Gen.transposes_S32x3x16x2x16x2_S32x3x2x2x16x16_0_1_3_5_2_4)
    Cert.Kernel1Ideal.Gen.shapeCasts_S32x3x2x2x16x16_S32x12x16x16 := rfl
  rw [← hv]
  generalize val_main_v2 (F := Ideal) (Cert.Kernel1Ideal.Whole.arg0 m c) = y
  pointwise

/-- The reference's result on the kernel's arguments is what the kernel writes. -/
theorem results_eq (m : (ℓ : Loc Cert.Kernel1Ideal.nD Cert.Kernel1Ideal.τ Cert.Kernel1Ideal.sig) → Buf (Elt Ideal) ℓ) (hp : Cert.Pre_Kernel1Ideal_finite1 m)
    (c : Dev Cert.Kernel1Ideal.nD) :
    val_main_v80 (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) = Cert.Kernel1Ideal.Whole.G m c := by
  funext i
  rw [eq_ix2 i]
  obtain ⟨b, q, hbq⟩ : ∃ (b : Fin 32) (q : Fin 256), i 1 = (⟨256 * b.val + q.val, by omega⟩ : Fin 8192) := by
    have h1 : (i 1).val < 8192 := (i 1).isLt
    exact ⟨⟨(i 1).val / 256, by omega⟩, ⟨(i 1).val % 256, by omega⟩, Fin.ext (by show (i 1).val = 256 * ((i 1).val / 256) + (i 1).val % 256; omega)⟩
  rw [hbq]
  refine (Cert.Reference1Ideal.Layer.result_apply _ _ _ _ _ _ _ b (i 0) q fun k => sim_ne_bot _ (fun ch p => ?_) _ k).trans ?_
  · rw [pix_image]
    unfold Cert.Kernel1Ideal.Whole.image
    exact real_col _ (fun p => imgs_real m hp c _) _
  · rw [Cert.Kernel1Ideal.Whole.result_apply m c b q (i 0), pix_image]

end Cert.Branch1

open Idealize.ShloMosaic Idealize.ShloMosaic.TcCoe Idealize.SL.Sem Cert.Reference1Ideal.Read in
/-- The first block's kernel is its reference: where every pixel is a real number, both run, leave their arguments as they were,
    and give the same result. -/
theorem Cert.Proof.algebraic1 : Cert.algebraic_Kernel1Ideal_Reference1Ideal_pre_finite1 := by
  intro m ρ m' ρ' hp harg
  refine ⟨fun c => Cert.Kernel1Ideal.Whole.G m c, Cert.Kernel1Ideal.Value.run_blocks m ρ, ?_⟩
  refine (θ_run _ _ _).mono (fun r h c => ⟨(h c).1.trans ?_, (h c).2⟩) (Cert.Reference1Ideal.Value.run m' ρ')
  obtain ⟨h0, h1, h2, h3, h4, h5, h6⟩ := harg c
  refine (val_main_v80_eq m' c).trans ?_
  rw [h0, h1, h2, h3, h4, h5, h6]
  exact Cert.Branch1.results_eq m hp c

end
-- ==== Proof.Disproof.lean ====
/- The whole version does not compute the reference. Both are run with every argument zero but the last bias, which is minus one.
   The reference adds that bias to a product with a zero matrix, so its result is minus one everywhere. The version returns a
   corner of the first block's output, which ends in a maximum with zero, so its result is nowhere negative. -/
module

public import proofs.«01_k».proof.Defs
public import proofs.«01_k».proof.Proof.Gen.KernelAtZeroIdeal.Frame
public import proofs.«01_k».proof.Proof.Gen.ReferenceAtZeroIdeal.Run
public import Idealize.ShloMosaic.Lib.Pipeline.Value
public import Idealize.ShloMosaic.Lib.ValueIdx
public import Idealize.ShloMosaic.Lib.IdealHost

@[expose] public section

noncomputable section

namespace Cert.KernelAtZeroIdeal.Corner

open Cert.KernelAtZeroIdeal Cert.KernelAtZeroIdeal.Gen Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The version runs, and its result ends as the contents its operations leave there. -/
theorem run_result : θ_run defs (onTc (τ := τ) (main (F := Ideal))) ⟨m, fun _ => 0, ρ⟩ (fun r => ∀ c : Dev nD,
      r.2.mem ((c.tc : Thread nD τ).loc main_v50) = W5 m ρ c (Proc.devRef .tc main_v50)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c => h c _ (mem_uc main_v50 (by decide)))

/-- What one grid point of the first block writes is nowhere negative: it is a maximum with zero. -/
theorem out_nonneg (x0 : Vec Ideal S12x2048 .f32) (x1 : Vec Ideal S256x12 .f32) (x2 : Vec Ideal S12x256 .f32) (x3 : Vec Ideal S16x108 .f32) (x4 : Vec Ideal S16x1 .f32)
    (x5 : Vec Ideal S16x108 .f32) (x6 : Vec Ideal S16x1 .f32) (x7 : Vec Ideal S64x32 .f32) (x8 : Vec Ideal S64x1 .f32) (y : S64x2048.Idx) :
    (0 : EReal) ≤ out0_9 (F := Ideal) x0 x1 x2 x3 x4 x5 x6 x7 x8 y := by
  have hz : (![0, 0] : Fin 2 → Nat) = fun _ => 0 := by decide
  unfold out0_9
  rw [View.canon_unit_zero hz]
  unfold k0_pay1
  refine le_trans (le_of_eq ?_) (le_max_right _ _)
  exact Ideal.ofBits_zero_f32.symm

/-- The first block's output array. -/
abbrev features (c : Dev nD) : Vec Ideal S64x8192 .f32 := (dat0 (V1 m ρ) c).arrAt 9 cfg0.N

/-- Two grid points' blocks of it share no entry. -/
theorem disjoint_blocks : ∀ t t' : Fin cfg0.N, (cfg0.win 9).flush t = true → (cfg0.win 9).flush t' = true → t ≠ t' →
    Disjoint ((cfg0.win 9).blk t).view.set ((cfg0.win 9).blk t').view.set := by
  have hinj : ∀ t t' : Fin cfg0.N, win0_9.index t = win0_9.index t' → t = t' :=
    (by decide +kernel : ∀ t t' : Fin grid0.N, win0_9.index t = win0_9.index t' → t = t')
  exact fun t t' _ _ hne => (cfg0.win 9).disjoint_blk fun h => hne (hinj t t' h)

/-- What a grid point writes back is what its body computes from its blocks. -/
theorem written (c : Dev nD) (t : Fin cfg0.N) :
    (dat0 (V1 m ρ) c).flushed 9 t = (cfg0.win 9).cut (grid0.coords t) (out0_9 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t)) := by
  show (cfg0.win 9).cut (grid0.coords t) ((dat0 (V1 m ρ) c).after 9 t) = _
  rw [after0_9]

/-- An entry of the array in the block of a grid point is not negative. -/
theorem spot_nonneg (c : Dev nD) (t : Fin cfg0.N) (y : Fin 64) (j : Fin 2048) (h : 2048 * t.val + j.val < 8192) :
    (0 : EReal) ≤ features m ρ c (ix2 y ⟨2048 * t.val + j.val, h⟩) := by
  have hf : (cfg0.win 9).flush t = true := (by decide +kernel : ∀ t : Fin grid0.N, win0_9.flush t = true) t
  have hi : win0_9.index t 0 = 0 ∧ win0_9.index t 1 = t.val := (by decide +kernel : ∀ t : Fin grid0.N, win0_9.index t 0 = 0 ∧ win0_9.index t 1 = t.val) t
  have hb := ((dat0 (V1 m ρ) c).read_blk_arrAt_eq_flushed 9 disjoint_blocks cfg0.N t t.isLt hf).trans (written m ρ c t)
  have e := congrFun hb (ix2 y j)
  rw [View.read_apply] at e
  refine le_of_le_of_eq (out_nonneg _ _ _ _ _ _ _ _ _ (ix2 y j)) (Eq.trans e.symm (congrArg (features m ρ c) (funext fun a => Fin.ext ?_)))
  match a with
  | ⟨0, _⟩ => show win0_9.index t 0 * 64 + 1 * y.val = y.val; rw [hi.1]; omega
  | ⟨1, _⟩ => show win0_9.index t 1 * 2048 + 1 * j.val = 2048 * t.val + j.val; rw [hi.2]; omega

/-- The first entry's place in the array. -/
abbrev first : S64x8192.Idx := ix2 (⟨0, by decide⟩ : Fin 64) (⟨0, by decide⟩ : Fin 8192)

/-- The array's first entry is not negative. -/
theorem features_nonneg (c : Dev nD) : (0 : EReal) ≤ features m ρ c first := by
  have hN : cfg0.N = 4 := N_0
  have h := spot_nonneg m ρ c ⟨0, by omega⟩ ⟨0, by decide⟩ ⟨0, by decide⟩ (by show 2048 * 0 + 0 < 8192; omega)
  exact h

/-- The version's result is the corner of that array, transposed. -/
theorem result_eq (c : Dev nD) : W5 m ρ c (Proc.devRef .tc main_v50)
    = transpose S32x10 [1, 0] (extractStridedSlice S10x32 ![0, 0] (features m ρ c) slices_S64x8192_S10x32_0_0) transposes_S10x32_S32x10_1_0 := by
  have e : W4 m ρ c (Proc.devRef .tc main_v31) = features m ρ c :=
    (W4_of m ρ c main_v31 (by decide +kernel)).trans ((W3_of m ρ c main_v31 (by decide +kernel)).trans (W2_arr m ρ c 9))
  rw [← e]
  show StableHlo.after hostOps2 (W4 m ρ c) _ = _
  generalize W4 m ρ c = V
  unfold hostOps2
  after_results

/-- The first entry's place in the result. -/
abbrev firstOut : S32x10.Idx := ix2 (⟨0, by decide⟩ : Fin 32) (⟨0, by decide⟩ : Fin 10)

/-- The transposed corner of an array begins with the array's first entry. -/
theorem corner_apply (v : Vec Ideal S64x8192 .f32) :
    transpose S32x10 [1, 0] (extractStridedSlice S10x32 ![0, 0] v slices_S64x8192_S10x32_0_0) transposes_S10x32_S32x10_1_0 firstOut = v first := by
  refine (transpose_apply [1, 0] _ transposes_S10x32_S32x10_1_0 firstOut (ix2 (⟨0, by decide⟩ : Fin 10) (⟨0, by decide⟩ : Fin 32)) (fun b => match b with
    | ⟨0, _⟩ => rfl
    | ⟨1, _⟩ => rfl)).trans ?_
  exact extractStridedSlice_apply ![0, 0] v slices_S64x8192_S10x32_0_0 _ first (fun a => match a with
    | ⟨0, _⟩ => rfl
    | ⟨1, _⟩ => rfl)

/-- The result's first entry is not negative. -/
theorem result_nonneg (c : Dev nD) : (0 : EReal) ≤ (W5 m ρ c (Proc.devRef .tc main_v50) : Vec Ideal S32x10 .f32) firstOut :=
  le_of_le_of_eq (features_nonneg m ρ c) (((congrFun (result_eq m ρ c) firstOut).trans (corner_apply _)).symm)

end Cert.KernelAtZeroIdeal.Corner

namespace Cert.ReferenceAtZeroIdeal.Corner

open Cert.ReferenceAtZeroIdeal Cert.ReferenceAtZeroIdeal.Gen Idealize.ShloMosaic Idealize.ShloMosaic.TcCoe Idealize.SL.Sem

/-- The reference's last linear layer with a zero matrix: the features times the matrix, plus the bias. -/
abbrev last (h : FVec Ideal S32x1024 .f32) (x : FVec Ideal S10 .f32) : FVec Ideal S32x10 .f32 :=
  addf (Host.dotGeneral dot_S32x1024_S1024x10_S32x10_1_0_0_1_n_n none h
      (transpose S1024x10 [1, 0] (broadcastInDim S10x1024 ![] bcast_S_S10x1024 (constant S_ .f32 0x00000000#32)) transposes_S10x1024_S1024x10_1_0))
    (broadcastInDim S32x10 ![0, 1] bcast_S1x10_S32x10_0_1 (broadcastInDim S1x10 ![1] bcast_S10_S1x10_1 x))

/-- Whatever the features, a negative bias makes the layer's result negative: every product is zero. -/
theorem last_neg (h : FVec Ideal S32x1024 .f32) (x : FVec Ideal S10 .f32) (hx : ∀ i, (x i : EReal) < 0) (i : S32x10.Idx) : (last h x i : EReal) < 0 := by
  have e : (Host.dotGeneral dot_S32x1024_S1024x10_S32x10_1_0_0_1_n_n none h
      (transpose S1024x10 [1, 0] (broadcastInDim S10x1024 ![] bcast_S_S10x1024 (constant (F := Ideal) S_ .f32 0x00000000#32)) transposes_S10x1024_S1024x10_1_0) i : EReal) = 0 := by
    simp only [Host.dotGeneral]
    rw [Ideal.dotGeneral_apply]
    refine Finset.sum_eq_zero fun k _ => ?_
    refine Eq.trans (congrArg (fun s : EReal => (h (dot_S32x1024_S1024x10_S32x10_1_0_0_1_n_n.lhsIdx i k) : EReal) * s) ?_) (mul_zero _)
    exact Ideal.ofBits_zero_f32
  refine lt_of_eq_of_lt (Eq.trans (congrArg (fun s : EReal => s + (broadcastInDim S32x10 ![0, 1] bcast_S1x10_S32x10_0_1 (broadcastInDim S1x10 ![1] bcast_S10_S1x10_1 x) i : EReal)) e) (zero_add _)) ?_
  exact hx _

/-- The reference runs, and its result is that layer at some features and the bias. -/
theorem run_last (m : (ℓ : Loc nD τ sig) → Buf (Elt Ideal) ℓ) (ρ : Dev nD → PrngReg) : ∃ h : Dev nD → FVec Ideal S32x1024 .f32,
    θ_run defs (onTc (τ := τ) (main (F := Ideal))) ⟨m, fun _ => 0, ρ⟩ fun r => ∀ c : Dev nD,
      r.2.mem ((c.tc : Thread nD τ).loc main_v191) = last (h c) (m ((c.tc : Thread nD τ).loc main_arg0)) :=
  ⟨fun _ => _, (θ_run defs _ _).mono (fun _ h c => (h c).1) (Cert.ReferenceAtZeroIdeal.Value.run m ρ)⟩

/-- The bias of minus ones is negative. -/
theorem bias_neg (i : S10.Idx) : (Cert.Cx_KernelAtZeroIdeal.arg0 (F := Ideal) i : EReal) < 0 := by
  have w : ∀ k : Fin 10, Cert.Cx_KernelAtZeroIdeal.arg0_words k = 0xBF800000#32 := by decide
  have e : Ideal.ofBits .f32 0xBF800000#32 = ((-1 : ℝ) : EReal) := by
    simp [Ideal.ofBits, Ideal.ieee, -EReal.coe_mul, -EReal.coe_neg]
    norm_num
  have n : Ideal.ofBits .f32 0xBF800000#32 < 0 := by
    rw [e]
    exact EReal.coe_lt_coe_iff.mpr (by norm_num)
  exact lt_of_eq_of_lt (congrArg (Ideal.ofBits .f32) (w (i 0))) n

end Cert.ReferenceAtZeroIdeal.Corner

open Idealize.ShloMosaic Idealize.ShloMosaic.TcCoe Idealize.SL.Sem Idealize.ShloMosaic.ValueIdx in
/-- At a last bias of minus ones, the other arguments zero, the version's result is not the reference's. -/
theorem Cert.Proof.disproof : Cert.disproves_algebraic_KernelAtZeroIdeal_ReferenceAtZeroIdeal := by
  intro m ρ m' ρ' hm hm'
  obtain ⟨h', hr⟩ := Cert.ReferenceAtZeroIdeal.Corner.run_last m' ρ'
  refine ⟨trivial, fun c => Cert.ReferenceAtZeroIdeal.Corner.last (h' c) (m' ((c.tc : Thread Cert.ReferenceAtZeroIdeal.nD Cert.ReferenceAtZeroIdeal.τ).loc Cert.ReferenceAtZeroIdeal.main_arg0)), ?_, hr⟩
  refine (θ_run _ _ _).mono (fun r h hc => ?_) (Cert.KernelAtZeroIdeal.Corner.run_result m ρ)
  have e := congrFun ((h 0).symm.trans (hc 0)) Cert.KernelAtZeroIdeal.Corner.firstOut
  have p := Cert.KernelAtZeroIdeal.Corner.result_nonneg m ρ 0
  have n := Cert.ReferenceAtZeroIdeal.Corner.last_neg (h' 0) _ (fun i => lt_of_eq_of_lt (congrFun ((hm' 0).trans (hm 0)) i) (Cert.ReferenceAtZeroIdeal.Corner.bias_neg i)) Cert.KernelAtZeroIdeal.Corner.firstOut
  exact absurd (lt_of_le_of_lt (le_of_le_of_eq p e) n) (lt_irrefl _)

end
-- ==== Proof.lean ====
/- The claims, one by one: each kernel's frame, each reference's frame, and for each call that its result is the
   reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel1.Frame
public import proofs.«01_k».proof.Proof.Gen.Kernel1Ideal.Frame
public import proofs.«01_k».proof.Proof.Gen.Reference1Ideal.Run
public import proofs.«01_k».proof.Proof.Gen.KernelAtZero.Frame
public import proofs.«01_k».proof.Proof.Gen.KernelAtZeroIdeal.Frame
public import proofs.«01_k».proof.Proof.Gen.ReferenceAtZeroIdeal.Run
public import proofs.«01_k».proof.Proof.Head
public import proofs.«01_k».proof.Proof.Branch2
public import proofs.«01_k».proof.Proof.Branch1
public import proofs.«01_k».proof.Proof.Disproof

@[expose] public section

noncomputable section

namespace Cert.Proof

open Idealize.ShloMosaic Idealize.SL.Sem

/-- The reference leaves its arguments as they were. It has no semaphore, so every counter ends at zero. -/
theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The reference leaves its arguments as they were. It has no semaphore, so every counter ends at zero. -/
theorem frame_Reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The reference leaves its arguments as they were. It has no semaphore, so every counter ends at zero. -/
theorem frame_Reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The reference leaves its arguments as they were. It has no semaphore, so every counter ends at zero. -/
theorem frame_Reference1Ideal : Cert.quiescent_Reference1Ideal := fun m ρ _ =>
  (θ_run Cert.Reference1Ideal.defs _ _).mono (fun r h => ⟨fun c => (h c).2, sem_eq_zero_of_no_sems (by decide) r.2⟩) (Cert.Reference1Ideal.Value.run m ρ)

/-- The reference leaves its arguments as they were. It has no semaphore, so every counter ends at zero. -/
theorem frame_ReferenceAtZeroIdeal : Cert.quiescent_ReferenceAtZeroIdeal := fun m ρ _ =>
  (θ_run Cert.ReferenceAtZeroIdeal.defs _ _).mono (fun r h => ⟨fun c => (h c).2, sem_eq_zero_of_no_sems (by decide) r.2⟩) (Cert.ReferenceAtZeroIdeal.Value.run m ρ)

/-- Every claim of the certificate. -/
theorem claim : Cert.Claim := ⟨Cert.Kernel.Gen.facts,
  Cert.KernelIdeal.Gen.facts,
  Cert.ReferenceIdeal.Gen.facts,
  Cert.Kernel3.Gen.facts,
  Cert.Kernel3Ideal.Gen.facts,
  Cert.Reference3Ideal.Gen.facts,
  Cert.Kernel2.Gen.facts,
  Cert.Kernel2Ideal.Gen.facts,
  Cert.Reference2Ideal.Gen.facts,
  Cert.Kernel1.Gen.facts,
  Cert.Kernel1Ideal.Gen.facts,
  Cert.Reference1Ideal.Gen.facts,
  Cert.KernelAtZero.Gen.facts,
  Cert.KernelAtZeroIdeal.Gen.facts,
  Cert.ReferenceAtZeroIdeal.Gen.facts,
  Cert.Pre_finite2.Gen.facts,
  Cert.Pre_finite1.Gen.facts,
  fun m ρ _ => Cert.Kernel.Gen.frame m ρ,
  fun m ρ _ => Cert.KernelIdeal.Gen.frame m ρ,
  frame_ReferenceIdeal,
  fun m ρ _ => Cert.Kernel3.Gen.frame m ρ,
  fun m ρ _ => Cert.Kernel3Ideal.Gen.frame m ρ,
  frame_Reference3Ideal,
  fun m ρ _ => Cert.Kernel2.Gen.frame m ρ,
  fun m ρ _ => Cert.Kernel2Ideal.Gen.frame m ρ,
  fun m ρ _ => Cert.Kernel2Ideal.Gen.frame m ρ,
  frame_Reference2Ideal,
  fun m ρ _ => frame_Reference2Ideal m ρ trivial,
  fun m ρ _ => Cert.Kernel1.Gen.frame m ρ,
  fun m ρ _ => Cert.Kernel1Ideal.Gen.frame m ρ,
  fun m ρ _ => Cert.Kernel1Ideal.Gen.frame m ρ,
  frame_Reference1Ideal,
  fun m ρ _ => frame_Reference1Ideal m ρ trivial,
  fun m ρ _ => Cert.KernelAtZero.Gen.frame m ρ,
  fun m ρ _ => Cert.KernelAtZeroIdeal.Gen.frame m ρ,
  frame_ReferenceAtZeroIdeal,
  trivial,
  trivial,
  algebraic3,
  trivial,
  algebraic2,
  trivial,
  algebraic1,
  trivial,
  disproof⟩

end Cert.Proof

end
